-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S2048x2 : Shape := ⟨2, ![2048, 2]⟩
abbrev S2 : Shape := ⟨1, ![2]⟩
abbrev S_ : Shape := ⟨0, ![]⟩

class Facts : Prop where
  reducesTo_S2x2048_S_d0_1 : S2x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2x2048x2048 .f32) (main_arg1 : IVec S2x2048 1) (main_arg2 : FVec F S2048 .f32) (main_arg3 : FVec F S2048 .f32) (main_arg4 : FVec F S2048x2048 .f32) (main_arg5 : FVec F S2048x2048 .f32) (main_arg6 : FVec F S2048x2048 .f32) (main_arg7 : FVec F S2048x2048 .f32) (main_arg8 : FVec F S2048x5632 .f32) (main_arg9 : FVec F S2048x5632 .f32) (main_arg10 : FVec F S5632x2048 .f32) (main_arg11 : FVec F S2048x2 .f32) (main_arg12 : FVec F S2 .f32) (main_arg13 : FVec F S2048x2 .f32) (main_arg14 : FVec F S2 .f32) : IVec S_ 1 :=
  let main_c : IVec S_ 1 := constantI S_ 1 1#1
  let main_v0 : IVec S_ 1 := (fun x v => Host.reduce IntOp.andi x v reducesTo_S2x2048_S_d0_1 h_S_) main_arg1 main_c
  let main_v1 : FVec F S2048 .f32 := Host.absf main_arg2
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_c_0 : IVec S_ 1 := constantI S_ 1 1#1
  let main_v4 : IVec S_ 1 := (fun x v => Host.reduce IntOp.andi x v reducesTo_S2048_S_d0 h_S_) main_v3 main_c_0
  let main_v5 : IVec S_ 1 := andi main_v0 main_v4
  let main_v6 : FVec F S2048x2048 .f32 := Host.absf main_arg4
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_c_2 : IVec S_ 1 := constantI S_ 1 1#1
  let main_v9 : IVec S_ 1 := (fun x v => Host.reduce IntOp.andi x v reducesTo_S2048x2048_S_d0_1 h_S_) main_v8 main_c_2
  let main_v10 : IVec S_ 1 := andi main_v5 main_v9
  let main_v11 : FVec F S2048x2048 .f32 := Host.absf main_arg5
  let main_cst_3 : FVec F S_ .f32 := constant S_ .f32 0x7F800000#32
  let main_v12 : FVec F S2048x2048 .f32 := broadcastInDim S2048x2048 ![] bcast_S_S2048x2048 main_cst_3
  let main_v13 : IVec S2048x2048 1 := cmpf .olt main_v11 main_v12
  let main_c_4 : IVec S_ 1 := constantI S_ 1 1#1
  let main_v14 : IVec S_ 1 := (fun x v => Host.reduce IntOp.andi x v reducesTo_S2048x2048_S_d0_1 h_S_) main_v13 main_c_4
  let main_v15 : IVec S_ 1 := andi main_v10 main_v14
  main_v15
-- ==== Kernel.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S2048x2 : Shape := ⟨2, ![2048, 2]⟩
abbrev S2 : Shape := ⟨1, ![2]⟩
abbrev S4096x2048 : Shape := ⟨2, ![4096, 2048]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S1x2048 : Shape := ⟨2, ![1, 2048]⟩
abbrev S2048x4096 : Shape := ⟨2, ![2048, 4096]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x128 : Shape := ⟨4, ![1, 2048, 1, 128]⟩
abbrev S1x2048x4x128 : Shape := ⟨4, ![1, 2048, 4, 128]⟩
abbrev S2048x512 : Shape := ⟨2, ![2048, 512]⟩
abbrev S4096x1 : Shape := ⟨2, ![4096, 1]⟩
abbrev S256x2048 : Shape := ⟨2, ![256, 2048]⟩
abbrev S256x1 : Shape := ⟨2, ![256, 1]⟩
abbrev S256x128 : Shape := ⟨2, ![256, 128]⟩
abbrev S256 : Shape := ⟨1, ![256]⟩
abbrev S4096x4096 : Shape := ⟨2, ![4096, 4096]⟩
abbrev S256x512 : Shape := ⟨2, ![256, 512]⟩
abbrev S256x64 : Shape := ⟨2, ![256, 64]⟩
abbrev S512x128 : Shape := ⟨2, ![512, 128]⟩
abbrev S512x2048 : Shape := ⟨2, ![512, 2048]⟩

abbrev nBuf : Space → Nat
  | .hbm => 93
  | .vmem => 62
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i1⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048x2, .f32⟩
  | .hbm, ⟨12, _⟩ => ⟨S2, .f32⟩
  | .hbm, ⟨13, _⟩ => ⟨S2048x2, .f32⟩
  | .hbm, ⟨14, _⟩ => ⟨S2, .f32⟩
  | .hbm, ⟨15, _⟩ => ⟨S4096x2048, .f32⟩
  | .hbm, ⟨16, _⟩ => ⟨S_, .f32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S_, .i32⟩
  | .hbm, ⟨22, _⟩ => ⟨S1, .i32⟩
  | .hbm, ⟨23, _⟩ => ⟨S2048x128, .f32⟩
  | .hbm, ⟨24, _⟩ => ⟨S_, .f32⟩
  | .hbm, ⟨25, _⟩ => ⟨S1x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x4096, .f32⟩
  | .hbm, ⟨44, _⟩ => ⟨S2048x4096, .bf16⟩
  | .hbm, ⟨45, _⟩ => ⟨S2048x2048, .bf16⟩
  | .hbm, ⟨46, _⟩ => ⟨S2048x2048, .bf16⟩
  | .hbm, ⟨47, _⟩ => ⟨S2048x5632, .bf16⟩
  | .hbm, ⟨48, _⟩ => ⟨S2048x5632, .bf16⟩
  | .hbm, ⟨49, _⟩ => ⟨S5632x2048, .bf16⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S2048, .f32⟩
  | .hbm, ⟨67, _⟩ => ⟨S2048x1, .f32⟩
  | .hbm, ⟨68, _⟩ => ⟨S1x64, .f32⟩
  | .hbm, ⟨69, _⟩ => ⟨S2048x64, .f32⟩
  | .hbm, ⟨70, _⟩ => ⟨S2048x64, .f32⟩
  | .hbm, ⟨71, _⟩ => ⟨S2048x64, .f32⟩
  | .hbm, ⟨72, _⟩ => ⟨S2048x128, .f32⟩
  | .hbm, ⟨73, _⟩ => ⟨S2048x128, .f32⟩
  | .hbm, ⟨74, _⟩ => ⟨S1x2048x1x128, .f32⟩
  | .hbm, ⟨75, _⟩ => ⟨S1x2048x4x128, .f32⟩
  | .hbm, ⟨76, _⟩ => ⟨S2048x512, .f32⟩
  | .hbm, ⟨77, _⟩ => ⟨S2048x128, .f32⟩
  | .hbm, ⟨78, _⟩ => ⟨S1x2048x1x128, .f32⟩
  | .hbm, ⟨79, _⟩ => ⟨S1x2048x4x128, .f32⟩
  | .hbm, ⟨80, _⟩ => ⟨S2048x512, .f32⟩
  | .hbm, ⟨81, _⟩ => ⟨S4096x2048, .bf16⟩
  | .hbm, ⟨82, _⟩ => ⟨S4096x1, .f32⟩
  | .hbm, ⟨83, _⟩ => ⟨S4096x1, .f32⟩
  | .hbm, ⟨84, _⟩ => ⟨S4096x4096, .bf16⟩
  | .hbm, ⟨85, _⟩ => ⟨S4096x2048, .bf16⟩
  | .hbm, ⟨86, _⟩ => ⟨S4096x2048, .bf16⟩
  | .hbm, ⟨87, _⟩ => ⟨S4096x2048, .bf16⟩
  | .hbm, ⟨88, _⟩ => ⟨S4096x2048, .bf16⟩
  | .hbm, ⟨89, _⟩ => ⟨S4096x2048, .f32⟩
  | .hbm, ⟨90, _⟩ => ⟨S4096x2048, .bf16⟩
  | .hbm, ⟨91, _⟩ => ⟨S4096x2048, .f32⟩
  | .hbm, ⟨92, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x128, .f32⟩
  | .local _ .vmem, ⟨3, _⟩ => ⟨S1x128, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x2048, .bf16⟩
  | .local _ .vmem, ⟨12, _⟩ => ⟨S256x2048, .bf16⟩
  | .local _ .vmem, ⟨13, _⟩ => ⟨S2048x512, .bf16⟩
  | .local _ .vmem, ⟨14, _⟩ => ⟨S2048x512, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x2048, .bf16⟩
  | .local _ .vmem, ⟨22, _⟩ => ⟨S256x2048, .bf16⟩
  | .local _ .vmem, ⟨23, _⟩ => ⟨S2048x512, .bf16⟩
  | .local _ .vmem, ⟨24, _⟩ => ⟨S2048x512, .bf16⟩
  | .local _ .vmem, ⟨25, _⟩ => ⟨S256x512, .bf16⟩
  | .local _ .vmem, ⟨26, _⟩ => ⟨S256x512, .bf16⟩
  | .local _ .vmem, ⟨27, _⟩ => ⟨S256x128, .bf16⟩
  | .local _ .vmem, ⟨28, _⟩ => ⟨S256x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S256x128, .bf16⟩
  | .local _ .vmem, ⟨34, _⟩ => ⟨S256x128, .bf16⟩
  | .local _ .vmem, ⟨35, _⟩ => ⟨S256x2048, .bf16⟩
  | .local _ .vmem, ⟨36, _⟩ => ⟨S256x2048, .bf16⟩
  | .local _ .vmem, ⟨37, _⟩ => ⟨S2048x2048, .bf16⟩
  | .local _ .vmem, ⟨38, _⟩ => ⟨S256x2048, .f32⟩
  | .local _ .vmem, ⟨39, _⟩ => ⟨S256x2048, .f32⟩
  | .local _ .vmem, ⟨40, _⟩ => ⟨S256x1, .f32⟩
  | .local _ .vmem, ⟨41, _⟩ => ⟨S256x1, .f32⟩
  | .local _ .vmem, ⟨42, _⟩ => ⟨S1x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S2048x512, .bf16⟩
  | .local _ .vmem, ⟨50, _⟩ => ⟨S2048x512, .bf16⟩
  | .local _ .vmem, ⟨51, _⟩ => ⟨S2048x512, .bf16⟩
  | .local _ .vmem, ⟨52, _⟩ => ⟨S2048x512, .bf16⟩
  | .local _ .vmem, ⟨53, _⟩ => ⟨S512x2048, .bf16⟩
  | .local _ .vmem, ⟨54, _⟩ => ⟨S512x2048, .bf16⟩
  | .local _ .vmem, ⟨55, _⟩ => ⟨S256x2048, .f32⟩
  | .local _ .vmem, ⟨56, _⟩ => ⟨S256x2048, .f32⟩
  | .local _ .vmem, ⟨57, _⟩ => ⟨S256x1, .f32⟩
  | .local _ .vmem, ⟨58, _⟩ => ⟨S256x1, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_c_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_c_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_v32 : Ref sig .tc := ⟨.hbm, 59, rfl⟩
abbrev main_cst_10 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_v52_2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58_0 : Ref sig .tc := ⟨.hbm, 89, rfl⟩
abbrev main_v58_1 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc4_stg6_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg3_1 : Ref sig .tc := ⟨.vmem, 54, rfl⟩
abbrev cc5_stg4_0 : Ref sig .tc := ⟨.vmem, 55, rfl⟩
abbrev cc5_stg4_1 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc5_scratch0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem5_0 : DmaSem sig := 43
abbrev cc4_sem5_1 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev cc5_sem4_0 : DmaSem sig := 55
abbrev cc5_sem4_1 : DmaSem sig := 56
abbrev cc5_sem5_0 : DmaSem sig := 57
abbrev cc5_sem5_1 : DmaSem sig := 58
abbrev cc5_sem6_0 : DmaSem sig := 59
abbrev cc5_sem6_1 : DmaSem sig := 60

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![2, 16, 8], ![false, false, false]⟩

@[reducible] def k3_t1_loop (i : grid3.Coords) : Scf.Loop 32 :=
  let c0_i32_11 : BitVec 32 := 0#32
  let arg2 : BitVec 32 := BitVec.ofNat 32 (i 2).val
  let c256_i32_3 : BitVec 32 := 256#32
  let v9 : BitVec 32 := Scalar.muli arg2 c256_i32_3
  let c256_i32_4 : BitVec 32 := 256#32
  let v10 : BitVec 32 := Scalar.addi v9 c256_i32_4
  let c512_i32 : BitVec 32 := 512#32
  let v11 : BitVec 32 := Scalar.addi v10 c512_i32
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c512_i32_5 : BitVec 32 := 512#32
  let c0_i32_7 : BitVec 32 := 0#32
  let v19 : BitVec 1 := Scalar.cmpi .sgt c512_i32_5 c0_i32_7
  let v20 : BitVec 32 := Scalar.extui v19
  let c0_i32_8 : BitVec 32 := 0#32
  let v21 : BitVec 1 := Scalar.cmpi .slt c512_i32_5 c0_i32_8
  let v22 : BitVec 32 := Scalar.extui v21
  let v23 : BitVec 32 := Scalar.subi v20 v22
  let v24 : BitVec 1 := Scalar.cmpi .ne v18 v23
  let v25 : BitVec 32 := Scalar.remsi v12 c512_i32_5
  let c0_i32_9 : BitVec 32 := 0#32
  let v26 : BitVec 1 := Scalar.cmpi .ne v25 c0_i32_9
  let v27 : BitVec 1 := Scalar.andi v24 v26
  let v13 : BitVec 32 := Scalar.divsi v12 c512_i32_5
  let c1_i32_10 : BitVec 32 := 1#32
  let v28 : BitVec 32 := Scalar.subi v13 c1_i32_10
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_13 : BitVec 32 := 1#32
  ⟨c0_i32_11, v34, c1_i32_13⟩
def k3_off1 (i : grid3.Coords) (k3_t1 : Fin (k3_t1_loop i).trips) : Fin 2 → Nat :=
  let c0_i32_11 : BitVec 32 := 0#32
  let c1_i32_13 : BitVec 32 := 1#32
  let arg7 : BitVec 32 := Scf.iv c0_i32_11 c1_i32_13 k3_t1
  let c512_i32_17 : BitVec 32 := 512#32
  let v41 : BitVec 32 := Scalar.muli arg7 c512_i32_17
  let v42 : Index := Scalar.indexCast v41
  let c0_18 : Index := 0#32
  ![v42.toNat, 0]
@[reducible] def k3_t2_loop (i : grid3.Coords) : Scf.Loop 32 :=
  let c0_i32_11 : BitVec 32 := 0#32
  let arg2 : BitVec 32 := BitVec.ofNat 32 (i 2).val
  let c256_i32_3 : BitVec 32 := 256#32
  let v9 : BitVec 32 := Scalar.muli arg2 c256_i32_3
  let c256_i32_4 : BitVec 32 := 256#32
  let v10 : BitVec 32 := Scalar.addi v9 c256_i32_4
  let c512_i32 : BitVec 32 := 512#32
  let v11 : BitVec 32 := Scalar.addi v10 c512_i32
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c512_i32_5 : BitVec 32 := 512#32
  let c0_i32_7 : BitVec 32 := 0#32
  let v19 : BitVec 1 := Scalar.cmpi .sgt c512_i32_5 c0_i32_7
  let v20 : BitVec 32 := Scalar.extui v19
  let c0_i32_8 : BitVec 32 := 0#32
  let v21 : BitVec 1 := Scalar.cmpi .slt c512_i32_5 c0_i32_8
  let v22 : BitVec 32 := Scalar.extui v21
  let v23 : BitVec 32 := Scalar.subi v20 v22
  let v24 : BitVec 1 := Scalar.cmpi .ne v18 v23
  let v25 : BitVec 32 := Scalar.remsi v12 c512_i32_5
  let c0_i32_9 : BitVec 32 := 0#32
  let v26 : BitVec 1 := Scalar.cmpi .ne v25 c0_i32_9
  let v27 : BitVec 1 := Scalar.andi v24 v26
  let v13 : BitVec 32 := Scalar.divsi v12 c512_i32_5
  let c1_i32_10 : BitVec 32 := 1#32
  let v28 : BitVec 32 := Scalar.subi v13 c1_i32_10
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let v31 : BitVec 32 := Scalar.addi c0_i32_11 v30
  let c1_i32_14 : BitVec 32 := 1#32
  ⟨v34, v31, c1_i32_14⟩
def k3_off2 (i : grid3.Coords) (k3_t2 : Fin (k3_t2_loop i).trips) : Fin 2 → Nat :=
  let c0_i32_11 : BitVec 32 := 0#32
  let arg2 : BitVec 32 := BitVec.ofNat 32 (i 2).val
  let c256_i32_3 : BitVec 32 := 256#32
  let v9 : BitVec 32 := Scalar.muli arg2 c256_i32_3
  let c256_i32_4 : BitVec 32 := 256#32
  let v10 : BitVec 32 := Scalar.addi v9 c256_i32_4
  let c512_i32 : BitVec 32 := 512#32
  let v11 : BitVec 32 := Scalar.addi v10 c512_i32
  let c1_i32 : BitVec 32 := 1#32
  let v12 : BitVec 32 := Scalar.subi v11 c1_i32
  let c0_i32 : BitVec 32 := 0#32
  let v14 : BitVec 1 := Scalar.cmpi .sgt v12 c0_i32
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c512_i32_5 : BitVec 32 := 512#32
  let c0_i32_7 : BitVec 32 := 0#32
  let v19 : BitVec 1 := Scalar.cmpi .sgt c512_i32_5 c0_i32_7
  let v20 : BitVec 32 := Scalar.extui v19
  let c0_i32_8 : BitVec 32 := 0#32
  let v21 : BitVec 1 := Scalar.cmpi .slt c512_i32_5 c0_i32_8
  let v22 : BitVec 32 := Scalar.extui v21
  let v23 : BitVec 32 := Scalar.subi v20 v22
  let v24 : BitVec 1 := Scalar.cmpi .ne v18 v23
  let v25 : BitVec 32 := Scalar.remsi v12 c512_i32_5
  let c0_i32_9 : BitVec 32 := 0#32
  let v26 : BitVec 1 := Scalar.cmpi .ne v25 c0_i32_9
  let v27 : BitVec 1 := Scalar.andi v24 v26
  let v13 : BitVec 32 := Scalar.divsi v12 c512_i32_5
  let c1_i32_10 : BitVec 32 := 1#32
  let v28 : BitVec 32 := Scalar.subi v13 c1_i32_10
  let v29 : BitVec 32 := Scalar.select v27 v28 v13
  let v30 : BitVec 32 := Scalar.subi v29 c0_i32_11
  let c1_i32_12 : BitVec 32 := 1#32
  let v32 : BitVec 32 := Scalar.divsi v30 c1_i32_12
  let v33 : BitVec 32 := Scalar.muli v32 c1_i32_12
  let v34 : BitVec 32 := Scalar.addi c0_i32_11 v33
  let c1_i32_14 : BitVec 32 := 1#32
  let arg7 : BitVec 32 := Scf.iv v34 c1_i32_14 k3_t2
  let c512_i32_17 : BitVec 32 := 512#32
  let v41 : BitVec 32 := Scalar.muli arg7 c512_i32_17
  let v42 : Index := Scalar.indexCast v41
  let c0_18 : Index := 0#32
  ![v42.toNat, 0]
def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage3_0 : Fin 2 → Memref sig .tc .vmem S256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨2, ![16, 11], ![false, false]⟩

def k5_cond2 (i : grid5.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S256x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S256x2048 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]
-- ==== KernelIdeal.lean ====
variable {F : FTy → Type} [FloatOps F] [Named F]
def κ : String → Option EReal := fun
  | "mask" => some ⊥
  | _ => none
-- ==== ReferenceIdeal.lean ====
abbrev S2x2048x2048 : Shape := ⟨3, ![2, 2048, 2048]⟩
abbrev S2x2048 : Shape := ⟨2, ![2, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S2048x2 : Shape := ⟨2, ![2048, 2]⟩
abbrev S2 : Shape := ⟨1, ![2]⟩
abbrev S2x2048x2 : Shape := ⟨3, ![2, 2048, 2]⟩
abbrev S1x1x2 : Shape := ⟨3, ![1, 1, 2]⟩
abbrev S_ : Shape := ⟨0, ![]⟩
abbrev S2x2048x1 : Shape := ⟨3, ![2, 2048, 1]⟩
abbrev S1x1x2048 : Shape := ⟨3, ![1, 1, 2048]⟩
abbrev S2x2048x16x128 : Shape := ⟨4, ![2, 2048, 16, 128]⟩
abbrev S2x16x2048x128 : Shape := ⟨4, ![2, 16, 2048, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x1x2048x128 : Shape := ⟨4, ![1, 1, 2048, 128]⟩
abbrev S2x16x2048x64 : Shape := ⟨4, ![2, 16, 2048, 64]⟩
abbrev S2x16x2048x2048 : Shape := ⟨4, ![2, 16, 2048, 2048]⟩
abbrev S1x1x2048x2048 : Shape := ⟨4, ![1, 1, 2048, 2048]⟩
abbrev S2x1x1x2048 : Shape := ⟨4, ![2, 1, 1, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩
abbrev S2x2048x5632 : Shape := ⟨3, ![2, 2048, 5632]⟩

abbrev nBuf : Space → Nat
  | .hbm => 199
  | .vmem => 0
  | .smem => 0
  | _ => 0

abbrev hbmTy0_0 (i : Nat) : BufTy := match i % 128 with
  | 0 => ⟨S2x2048x2048, .f32⟩
  | 1 => ⟨S2x2048, .i1⟩
  | 2 => ⟨S2048, .f32⟩
  | 3 => ⟨S2048, .f32⟩
  | 4 => ⟨S2048x2048, .f32⟩
  | 5 => ⟨S2048x2048, .f32⟩
  | 6 => ⟨S2048x2048, .f32⟩
  | 7 => ⟨S2048x2048, .f32⟩
  | 8 => ⟨S2048x5632, .f32⟩
  | 9 => ⟨S2048x5632, .f32⟩
  | 10 => ⟨S5632x2048, .f32⟩
  | 11 => ⟨S2048x2, .f32⟩
  | 12 => ⟨S2, .f32⟩
  | 13 => ⟨S2048x2, .f32⟩
  | 14 => ⟨S2, .f32⟩
  | 15 => ⟨S2x2048x2, .f32⟩
  | 16 => ⟨S1x1x2, .f32⟩
  | 17 => ⟨S2x2048x2, .f32⟩
  | 18 => ⟨S2x2048x2, .f32⟩
  | 19 => ⟨S2x2048x2, .i32⟩
  | 20 => ⟨S_, .f32⟩
  | 21 => ⟨S_, .i32⟩
  | 22 => ⟨S2x2048, .f32⟩
  | 23 => ⟨S2x2048, .i32⟩
  | 24 => ⟨S_, .i32⟩
  | 25 => ⟨S2x2048, .i32⟩
  | 26 => ⟨S2x2048, .i1⟩
  | 27 => ⟨S2x2048, .i1⟩
  | 28 => ⟨S2x2048x2, .f32⟩
  | 29 => ⟨S1x1x2, .f32⟩
  | 30 => ⟨S2x2048x2, .f32⟩
  | 31 => ⟨S2x2048x2, .f32⟩
  | 32 => ⟨S2x2048x2, .i32⟩
  | 33 => ⟨S_, .f32⟩
  | 34 => ⟨S_, .i32⟩
  | 35 => ⟨S2x2048, .f32⟩
  | 36 => ⟨S2x2048, .i32⟩
  | 37 => ⟨S_, .i32⟩
  | 38 => ⟨S2x2048, .i32⟩
  | 39 => ⟨S2x2048, .i1⟩
  | 40 => ⟨S2x2048, .i1⟩
  | 41 => ⟨S2x2048x2048, .f32⟩
  | 42 => ⟨S_, .f32⟩
  | 43 => ⟨S2x2048, .f32⟩
  | 44 => ⟨S2x2048x1, .f32⟩
  | 45 => ⟨S_, .f32⟩
  | 46 => ⟨S2x2048x1, .f32⟩
  | 47 => ⟨S2x2048x1, .f32⟩
  | 48 => ⟨S_, .f32⟩
  | 49 => ⟨S2x2048x1, .f32⟩
  | 50 => ⟨S2x2048x1, .f32⟩
  | 51 => ⟨S2x2048x1, .f32⟩
  | 52 => ⟨S2x2048x2048, .f32⟩
  | 53 => ⟨S2x2048x2048, .f32⟩
  | 54 => ⟨S1x1x2048, .f32⟩
  | 55 => ⟨S2x2048x2048, .f32⟩
  | 56 => ⟨S2x2048x2048, .f32⟩
  | 57 => ⟨S2x2048x2048, .f32⟩
  | 58 => ⟨S2x2048x16x128, .f32⟩
  | 59 => ⟨S2x16x2048x128, .f32⟩
  | 60 => ⟨S2x2048x2048, .f32⟩
  | 61 => ⟨S2x2048x16x128, .f32⟩
  | 62 => ⟨S2x16x2048x128, .f32⟩
  | 63 => ⟨S2x2048x2048, .f32⟩
  | 64 => ⟨S2x2048x16x128, .f32⟩
  | 65 => ⟨S2x16x2048x128, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S2048, .f32⟩
  | 83 => ⟨S2048x1, .f32⟩
  | 84 => ⟨S1x64, .f32⟩
  | 85 => ⟨S2048x64, .f32⟩
  | 86 => ⟨S2048x64, .f32⟩
  | 87 => ⟨S2048x64, .f32⟩
  | 88 => ⟨S2048x128, .f32⟩
  | 89 => ⟨S2048x128, .f32⟩
  | 90 => ⟨S2048x128, .f32⟩
  | 91 => ⟨S1x1x2048x128, .f32⟩
  | 92 => ⟨S2x16x2048x128, .f32⟩
  | 93 => ⟨S2x16x2048x128, .f32⟩
  | 94 => ⟨S2x16x2048x64, .f32⟩
  | 95 => ⟨S2x16x2048x64, .f32⟩
  | 96 => ⟨S2x16x2048x64, .f32⟩
  | 97 => ⟨S2x16x2048x128, .f32⟩
  | 98 => ⟨S1x1x2048x128, .f32⟩
  | 99 => ⟨S2x16x2048x128, .f32⟩
  | 100 => ⟨S2x16x2048x128, .f32⟩
  | 101 => ⟨S2x16x2048x128, .f32⟩
  | 102 => ⟨S1x1x2048x128, .f32⟩
  | 103 => ⟨S2x16x2048x128, .f32⟩
  | 104 => ⟨S2x16x2048x128, .f32⟩
  | 105 => ⟨S2x16x2048x64, .f32⟩
  | 106 => ⟨S2x16x2048x64, .f32⟩
  | 107 => ⟨S2x16x2048x64, .f32⟩
  | 108 => ⟨S2x16x2048x128, .f32⟩
  | 109 => ⟨S1x1x2048x128, .f32⟩
  | 110 => ⟨S2x16x2048x128, .f32⟩
  | 111 => ⟨S2x16x2048x128, .f32⟩
  | 112 => ⟨S2x16x2048x128, .f32⟩
  | 113 => ⟨S2x16x2048x2048, .f32⟩
  | 114 => ⟨S_, .f32⟩
  | 115 => ⟨S2x16x2048x2048, .f32⟩
  | 116 => ⟨S2x16x2048x2048, .f32⟩
  | 117 => ⟨S_, .i1⟩
  | 118 => ⟨S2048x2048, .i1⟩
  | 119 => ⟨S2048x2048, .i32⟩
  | 120 => ⟨S_, .i32⟩
  | 121 => ⟨S2048x2048, .i32⟩
  | 122 => ⟨S2048x2048, .i32⟩
  | 123 => ⟨S2048x2048, .i32⟩
  | 124 => ⟨S2048x2048, .i1⟩
  | 125 => ⟨S_, .i1⟩
  | 126 => ⟨S2048x2048, .i1⟩
  | 127 => ⟨S2048x2048, .i1⟩
  | _ => ⟨S2x2048x2048, .f32⟩

abbrev hbmTy0_1 (i : Nat) : BufTy := match i % 128 with
  | 0 => ⟨S1x1x2048x2048, .i1⟩
  | 1 => ⟨S2x1x1x2048, .i1⟩
  | 2 => ⟨S2x1x2048x2048, .i1⟩
  | 3 => ⟨S2x1x2048x2048, .i1⟩
  | 4 => ⟨S2x1x2048x2048, .i1⟩
  | 5 => ⟨S_, .f32⟩
  | 6 => ⟨S_, .f32⟩
  | 7 => ⟨S2x16x2048x2048, .i1⟩
  | 8 => ⟨S2x16x2048x2048, .f32⟩
  | 9 => ⟨S2x16x2048x2048, .f32⟩
  | 10 => ⟨S_, .f32⟩
  | 11 => ⟨S2x16x2048, .f32⟩
  | 12 => ⟨S_, .f32⟩
  | 13 => ⟨S2x16x2048, .f32⟩
  | 14 => ⟨S2x16x2048, .f32⟩
  | 15 => ⟨S2x16x2048x1, .f32⟩
  | 16 => ⟨S2x16x2048x2048, .f32⟩
  | 17 => ⟨S2x16x2048x2048, .f32⟩
  | 18 => ⟨S2x16x2048x2048, .f32⟩
  | 19 => ⟨S_, .f32⟩
  | 20 => ⟨S2x16x2048, .f32⟩
  | 21 => ⟨S2x16x2048x1, .f32⟩
  | 22 => ⟨S2x16x2048x2048, .f32⟩
  | 23 => ⟨S2x16x2048x2048, .f32⟩
  | 24 => ⟨S2x16x2048x128, .f32⟩
  | 25 => ⟨S2x2048x16x128, .f32⟩
  | 26 => ⟨S2x2048x2048, .f32⟩
  | 27 => ⟨S2x2048x2048, .f32⟩
  | 28 => ⟨S2x2048x1, .i1⟩
  | 29 => ⟨S_, .f32⟩
  | 30 => ⟨S_, .f32⟩
  | 31 => ⟨S2x2048x2048, .i1⟩
  | 32 => ⟨S2x2048x2048, .f32⟩
  | 33 => ⟨S2x2048x2048, .f32⟩
  | 34 => ⟨S2x2048x2048, .f32⟩
  | 35 => ⟨S2x2048x2048, .f32⟩
  | 36 => ⟨S_, .f32⟩
  | 37 => ⟨S2x2048, .f32⟩
  | 38 => ⟨S2x2048x1, .f32⟩
  | 39 => ⟨S_, .f32⟩
  | 40 => ⟨S2x2048x1, .f32⟩
  | 41 => ⟨S2x2048x1, .f32⟩
  | 42 => ⟨S_, .f32⟩
  | 43 => ⟨S2x2048x1, .f32⟩
  | 44 => ⟨S2x2048x1, .f32⟩
  | 45 => ⟨S2x2048x1, .f32⟩
  | 46 => ⟨S2x2048x2048, .f32⟩
  | 47 => ⟨S2x2048x2048, .f32⟩
  | 48 => ⟨S1x1x2048, .f32⟩
  | 49 => ⟨S2x2048x2048, .f32⟩
  | 50 => ⟨S2x2048x2048, .f32⟩
  | 51 => ⟨S2x2048x5632, .f32⟩
  | 52 => ⟨S2x2048x5632, .f32⟩
  | 53 => ⟨S2x2048x5632, .f32⟩
  | 54 => ⟨S_, .f32⟩
  | 55 => ⟨S2x2048x5632, .f32⟩
  | 56 => ⟨S2x2048x5632, .f32⟩
  | 57 => ⟨S_, .f32⟩
  | 58 => ⟨S2x2048x5632, .f32⟩
  | 59 => ⟨S2x2048x5632, .f32⟩
  | 60 => ⟨S2x2048x5632, .f32⟩
  | 61 => ⟨S2x2048x5632, .f32⟩
  | 62 => ⟨S2x2048x5632, .f32⟩
  | 63 => ⟨S2x2048x2048, .f32⟩
  | 64 => ⟨S2x2048x1, .i1⟩
  | 65 => ⟨S_, .f32⟩
  | 66 => ⟨S_, .f32⟩
  | 67 => ⟨S2x2048x2048, .i1⟩
  | 68 => ⟨S2x2048x2048, .f32⟩
  | 69 => ⟨S2x2048x2048, .f32⟩
  | 70 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call1_v0 : Ref sig .tc := ⟨.hbm, 32, rfl⟩
abbrev main_call1_cst : Ref sig .tc := ⟨.hbm, 33, rfl⟩
abbrev main_call1_c : Ref sig .tc := ⟨.hbm, 34, rfl⟩
abbrev main_call1_v1_0 : Ref sig .tc := ⟨.hbm, 35, rfl⟩
abbrev main_v12 : Ref sig .tc := ⟨.hbm, 36, rfl⟩
abbrev main_c_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_cst_4 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_8 : Ref sig .tc := ⟨.hbm, 114, rfl⟩
abbrev main_v81 : Ref sig .tc := ⟨.hbm, 115, rfl⟩
abbrev main_v82 : Ref sig .tc := ⟨.hbm, 116, rfl⟩
abbrev main_c_9 : Ref sig .tc := ⟨.hbm, 117, rfl⟩
abbrev main_v83 : Ref sig .tc := ⟨.hbm, 118, rfl⟩
abbrev main_call2_v0 : Ref sig .tc := ⟨.hbm, 119, rfl⟩
abbrev main_call2_c : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_c_0 : Ref sig .tc := ⟨.hbm, 125, rfl⟩
abbrev main_call2_v5 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_10 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_v90 : Ref sig .tc := ⟨.hbm, 137, rfl⟩
abbrev main_cst_11 : Ref sig .tc := ⟨.hbm, 138, rfl⟩
abbrev main_v91 : Ref sig .tc := ⟨.hbm, 139, rfl⟩
abbrev main_cst_12 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_13 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_14 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_15 : Ref sig .tc := ⟨.hbm, 164, rfl⟩
abbrev main_v110 : Ref sig .tc := ⟨.hbm, 165, rfl⟩
abbrev main_v111 : Ref sig .tc := ⟨.hbm, 166, rfl⟩
abbrev main_cst_16 : Ref sig .tc := ⟨.hbm, 167, rfl⟩
abbrev main_v112 : Ref sig .tc := ⟨.hbm, 168, rfl⟩
abbrev main_v113 : Ref sig .tc := ⟨.hbm, 169, rfl⟩
abbrev main_cst_17 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_call5_v0 : Ref sig .tc := ⟨.hbm, 180, rfl⟩
abbrev main_call5_v1 : Ref sig .tc := ⟨.hbm, 181, rfl⟩
abbrev main_call5_cst : Ref sig .tc := ⟨.hbm, 182, rfl⟩
abbrev main_call5_v2 : Ref sig .tc := ⟨.hbm, 183, rfl⟩
abbrev main_call5_v3 : Ref sig .tc := ⟨.hbm, 184, rfl⟩
abbrev main_call5_cst_0 : Ref sig .tc := ⟨.hbm, 185, rfl⟩
abbrev main_call5_v4 : Ref sig .tc := ⟨.hbm, 186, rfl⟩
abbrev main_call5_v5 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_18 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_v128 : Ref sig .tc := ⟨.hbm, 197, rfl⟩
abbrev main_v129 : Ref sig .tc := ⟨.hbm, 198, rfl⟩

abbrev nD : Nat := 1
abbrev τ : Topo := Topo.v7x

variable {F : FTy → Type} [FloatOps F]
-- ==== Proof.Ideal.RegionsA.lean ====
/- Regions 0, 1, 2 of the program: the body of each at any grid point, over any entry contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # Region 0 -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data over these arrays. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data over these arrays. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, for any proof data over these arrays. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, for any proof data over these arrays. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x2048.size inb_S256x2048_S256x2048_0_0
abbrev r0_1 : Rect S2048x128 := Rect.unit (s := S2048x128) ![0, 0] S2048x128.size inb_S2048x128_S2048x128_0_0
abbrev r0_2 : Rect S1x128 := Rect.unit (s := S1x128) ![0, 0] S1x128.size inb_S1x128_S1x128_0_0
abbrev r0_3 : Rect S256x1 := Rect.unit (s := S256x1) ![0, 0] S256x1.size inb_S256x1_S256x1_0_0
abbrev r0_4 : Rect S1x2048 := Rect.unit (s := S1x2048) ![0, 0] S1x2048.size inb_S1x2048_S1x2048_0_0

/-! ## What the body leaves in each output window's buffer -/

/-- What the body leaves in output 4's staging buffer, from the blocks it reads. -/
def out0_4 (x0 : Vec F S256x2048 .f32) (x1 : Vec F S2048x128 .f32) (x2 : Vec F S1x128 .f32) (x3 : Vec F S1x2048 .f32) : Vec F S256x2048 .bf16 :=
  View.canon [⟨r0_0, k0_pay5 (View.ld x0 r0_0) (View.ld x3 r0_4)⟩]

/-- Its stores tile the buffer (checked by evaluation), so they cover it. -/
theorem cover0_4 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

/-- What the body leaves in output 5's staging buffer, from the blocks it reads. -/
def out0_5 (x0 : Vec F S256x2048 .f32) (x1 : Vec F S2048x128 .f32) (x2 : Vec F S1x128 .f32) (x3 : Vec F S1x2048 .f32) : Vec F S256x1 .f32 :=
  View.canon [⟨r0_3, k0_pay3 (View.ld x0 r0_0) (View.ld x1 r0_1) (View.ld x2 r0_2)⟩]

/-- Its stores tile the buffer (checked by evaluation), so they cover it. -/
theorem cover0_5 (p0 : Vec F S256x1 .f32) (y : S256x1.Idx) :
    ∃ pc ∈ ([⟨r0_3, p0⟩] : List (View.Piece (Elt F) S256x1 .f32)), y ∈ pc.1.set :=
  View.cover_of_tiled [⟨r0_3, p0⟩] S256x1.size (by rfl) y

/-- What the body leaves in output 6's staging buffer, from the blocks it reads. -/
def out0_6 (x0 : Vec F S256x2048 .f32) (x1 : Vec F S2048x128 .f32) (x2 : Vec F S1x128 .f32) (x3 : Vec F S1x2048 .f32) : Vec F S256x1 .f32 :=
  View.canon [⟨r0_3, k0_pay4 (View.ld x0 r0_0) (View.ld x1 r0_1) (View.ld x2 r0_2)⟩]

/-- Its stores tile the buffer (checked by evaluation), so they cover it. -/
theorem cover0_6 (p0 : Vec F S256x1 .f32) (y : S256x1.Idx) :
    ∃ pc ∈ ([⟨r0_3, p0⟩] : List (View.Piece (Elt F) S256x1 .f32)), y ∈ pc.1.set :=
  View.cover_of_tiled [⟨r0_3, p0⟩] S256x1.size (by rfl) y

/-! ## The body's triple -/

set_option maxHeartbeats 1000000 in
/-- The body's triple on any whole staging buffers. -/
theorem sound_kernel0 (c : Dev nD) (E : Set ℕ) (i : grid0.Coords) (arg1 : Memref sig .tc .vmem S256x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x1 .f32) (harg6 : arg6.IsWhole) (arg7 : Memref sig .tc .vmem S256x1 .f32) (harg7 : arg7.IsWhole)
    (x0 : Vec F S256x2048 .f32) (x1 : Vec F S2048x128 .f32) (x2 : Vec F S1x128 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # Region 1 -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data over these arrays. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data over these arrays. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data over these arrays. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data over these arrays. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x2048 := Rect.unit (s := S256x2048) ![0, 0] S256x2048.size inb_S256x2048_S256x2048_0_0
abbrev r1_1 : Rect S2048x512 := Rect.unit (s := S2048x512) ![0, 0] S2048x512.size inb_S2048x512_S2048x512_0_0
abbrev r1_2 : Rect S256x512 := Rect.unit (s := S256x512) ![0, 0] S256x512.size inb_S256x512_S256x512_0_0

/-! ## What the body leaves in each output window's buffer -/

/-- What the body leaves in output 4's staging buffer, from the blocks it reads. -/
def out1_4 (x0 : Vec F S256x2048 .bf16) (x1 : Vec F S2048x512 .bf16) (x2 : Vec F S256x512 .f32) (x3 : Vec F S256x512 .f32) : Vec F S256x512 .bf16 :=
  View.canon [⟨r1_2, k1_pay1 (View.ld x0 r1_0) (View.ld x1 r1_1) (View.ld x2 r1_2) (View.ld x3 r1_2)⟩]

/-- Its stores tile the buffer (checked by evaluation), so they cover it. -/
theorem cover1_4 (p0 : Vec F S256x512 .bf16) (y : S256x512.Idx) :
    ∃ pc ∈ ([⟨r1_2, p0⟩] : List (View.Piece (Elt F) S256x512 .bf16)), y ∈ pc.1.set :=
  View.cover_of_tiled [⟨r1_2, p0⟩] S256x512.size (by rfl) y

/-! ## The body's triple -/

set_option maxHeartbeats 1000000 in
/-- The body's triple on any whole staging buffers. -/
theorem sound_kernel1 (c : Dev nD) (E : Set ℕ) (i : grid1.Coords) (arg2 : Memref sig .tc .vmem S256x2048 .bf16) (harg2 : arg2.IsWhole) (arg3 : Memref sig .tc .vmem S2048x512 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .bf16) (harg6 : arg6.IsWhole)
    (x0 : Vec F S256x2048 .bf16) (x1 : Vec F S2048x512 .bf16) (x2 : Vec F S256x512 .f32) (x3 : Vec F S256x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__qk_kernel i arg2 harg2 arg3 harg3 arg4 harg4 arg5 harg5 arg6 harg6) K := by
  simp only [cc1__qk_kernel_eq_skeleton]; unfold cc1__qk_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # Region 2 -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data over these arrays. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, for any proof data over these arrays. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x2048 := Rect.unit (s := S256x2048) ![0, 0] S256x2048.size inb_S256x2048_S256x2048_0_0
abbrev r2_1 : Rect S2048x512 := Rect.unit (s := S2048x512) ![0, 0] S2048x512.size inb_S2048x512_S2048x512_0_0
abbrev r2_2 : Rect S256x512 := Rect.unit (s := S256x512) ![0, 0] S256x512.size inb_S256x512_S256x512_0_0

/-! ## What the body leaves in each output window's buffer -/

/-- What the body leaves in output 2's staging buffer, from the blocks it reads. -/
def out2_2 (x0 : Vec F S256x2048 .bf16) (x1 : Vec F S2048x512 .bf16) : Vec F S256x512 .bf16 :=
  View.canon [⟨r2_2, k2_pay1 (View.ld x0 r2_0) (View.ld x1 r2_1)⟩]

/-- Its stores tile the buffer (checked by evaluation), so they cover it. -/
theorem cover2_2 (p0 : Vec F S256x512 .bf16) (y : S256x512.Idx) :
    ∃ pc ∈ ([⟨r2_2, p0⟩] : List (View.Piece (Elt F) S256x512 .bf16)), y ∈ pc.1.set :=
  View.cover_of_tiled [⟨r2_2, p0⟩] S256x512.size (by rfl) y

/-! ## The body's triple -/

set_option maxHeartbeats 1000000 in
/-- The body's triple on any whole staging buffers. -/
theorem sound_kernel2 (c : Dev nD) (E : Set ℕ) (i : grid2.Coords) (arg2 : Memref sig .tc .vmem S256x2048 .bf16) (harg2 : arg2.IsWhole) (arg3 : Memref sig .tc .vmem S2048x512 .bf16) (harg3 : arg3.IsWhole) (arg4 : Memref sig .tc .vmem S256x512 .bf16) (harg4 : arg4.IsWhole)
    (x0 : Vec F S256x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__v_kernel i arg2 harg2 arg3 harg3 arg4 harg4) K := by
  simp only [cc2__v_kernel_eq_skeleton]; unfold cc2__v_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.Ideal.RegionO.lean ====
/- Region 4 of the program (output projection): its body at any grid point. -/
module

public import proofs.«01_k».proof.Proof.Ideal.RegionsA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # Region 4 -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, for any proof data over these arrays. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's staging buffer holds its block at every point, for any proof data over these arrays. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's staging buffer holds its block at every point, for any proof data over these arrays. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's staging buffer holds its block at every point, for any proof data over these arrays. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's staging buffer holds its block at every point, for any proof data over these arrays. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S256x2048 := Rect.unit (s := S256x2048) ![0, 0] S256x2048.size inb_S256x2048_S256x2048_0_0
abbrev r4_1 : Rect S2048x2048 := Rect.unit (s := S2048x2048) ![0, 0] S2048x2048.size inb_S2048x2048_S2048x2048_0_0
abbrev r4_2 : Rect S256x1 := Rect.unit (s := S256x1) ![0, 0] S256x1.size inb_S256x1_S256x1_0_0
abbrev r4_3 : Rect S1x2048 := Rect.unit (s := S1x2048) ![0, 0] S1x2048.size inb_S1x2048_S1x2048_0_0

/-! ## What the body leaves in each output window's buffer -/

/-- What the body leaves in output 5's staging buffer, from the blocks it reads. -/
def out4_5 (x0 : Vec F S256x2048 .bf16) (x1 : Vec F S2048x2048 .bf16) (x2 : Vec F S256x2048 .f32) (x3 : Vec F S256x1 .f32) (x4 : Vec F S1x2048 .f32) : Vec F S256x2048 .f32 :=
  View.canon [⟨r4_0, k4_pay1 (View.ld x0 r4_0) (View.ld x1 r4_1) (View.ld x3 r4_2) (View.ld x2 r4_0)⟩]

/-- Its stores tile the buffer (checked by evaluation), so they cover it. -/
theorem cover4_5 (p0 : Vec F S256x2048 .f32) (y : S256x2048.Idx) :
    ∃ pc ∈ ([⟨r4_0, p0⟩] : List (View.Piece (Elt F) S256x2048 .f32)), y ∈ pc.1.set :=
  View.cover_of_tiled [⟨r4_0, p0⟩] S256x2048.size (by rfl) y

/-- What the body leaves in output 6's staging buffer, from the blocks it reads. -/
def out4_6 (x0 : Vec F S256x2048 .bf16) (x1 : Vec F S2048x2048 .bf16) (x2 : Vec F S256x2048 .f32) (x3 : Vec F S256x1 .f32) (x4 : Vec F S1x2048 .f32) : Vec F S256x2048 .bf16 :=
  View.canon [⟨r4_0, k4_pay2 (View.ld x0 r4_0) (View.ld x1 r4_1) (View.ld x3 r4_2) (View.ld x2 r4_0) (View.ld x4 r4_3)⟩]

/-- Its stores tile the buffer (checked by evaluation), so they cover it. -/
theorem cover4_6 (p0 : Vec F S256x2048 .bf16) (y : S256x2048.Idx) :
    ∃ pc ∈ ([⟨r4_0, p0⟩] : List (View.Piece (Elt F) S256x2048 .bf16)), y ∈ pc.1.set :=
  View.cover_of_tiled [⟨r4_0, p0⟩] S256x2048.size (by rfl) y

/-! ## The body's triple -/

set_option maxHeartbeats 1000000 in
/-- The body's triple on any whole staging buffers. -/
theorem sound_kernel4 (c : Dev nD) (E : Set ℕ) (i : grid4.Coords) (arg1 : Memref sig .tc .vmem S256x2048 .bf16) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x1 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .bf16) (harg7 : arg7.IsWhole)
    (x0 : Vec F S256x2048 .bf16) (x1 : Vec F S2048x2048 .bf16) (x2 : Vec F S256x2048 .f32) (x3 : Vec F S256x1 .f32) (x4 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__oproj_kernel i arg1 harg1 arg2 harg2 arg3 harg3 arg4 harg4 arg5 harg5 arg6 harg6 arg7 harg7) K := by
  simp only [cc4__oproj_kernel_eq_skeleton]; unfold cc4__oproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _)

/-! ## The pipeline's proof data -/

/-- The proof data of this pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Gen

end
-- ==== Proof.Ideal.Flash.lean ====
/- Region 3 of the program (attention): its body at any grid point. -/
module

public import proofs.«01_k».proof.Proof.Ideal.RegionO

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # Region 3 -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, for any proof data over these arrays. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at every point, for any proof data over these arrays. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at every point, for any proof data over these arrays. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any staging memrefs: a subtype the run finds -/

/-- One staging buffer of output window 3, through which its contents are stated (`View.read_writes_of_cover`: the
    choice does not matter). -/
abbrev VO3_3 : View sig .tc .vmem S256x128 .bf16 := (Memref.whole cc3_stg3_0 : Memref sig .tc .vmem S256x128 .bf16).view
/-- Each window's current staging memref at point `t`, spelled as the pipeline passes it (`bodyAt3`), and its wholeness. -/
abbrev ms3_0 (t : Fin cfg3.N) : Memref sig .tc .vmem S256x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x128 .bf16 := win3_3.stage (cfg3.slots t 3)
abbrev hs3_3 (t : Fin cfg3.N) : (ms3_3 t).IsWhole := hstage3_3 ((cfg3.slots t 3).cast nbuf3_3)

-- (the run's proof term is large: the definition's epilogue — `abstractNestedProofs` — walks it past the default budget)
set_option maxHeartbeats 1000000 in
/-- The body's triple on any whole staging buffers, with the pieces its run stores. -/
noncomputable def kernelRun3_A (c : Dev nD) (i : grid3.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) :
    { L3 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc3__flash_kernel i arg3 harg3 arg4 harg4 arg5 harg5 arg6 harg6) K } := by
  refine ⟨?_, fun E K => ?run⟩
  case run =>
    simp only [cc3__flash_kernel_eq_skeleton]; unfold cc3__flash_kernel_skel
    simp only [k3_part1_eq_skeleton]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

/-- The stores into output 3 cover its block. -/
theorem cover3_A_3 (c : Dev nD) (i : grid3.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (y : S256x128.Idx) :
    ∃ pc ∈ (kernelRun3_A c i arg3 harg3 arg4 harg4 arg5 harg5 arg6 harg6 x0 x1 x2).1, y ∈ pc.1.set :=
  View.cover_of_tiledL (kernelRun3_A c i arg3 harg3 arg4 harg4 arg5 harg5 arg6 harg6 x0 x1 x2).1 S256x128.size (by sl_kernel_rfl) y

/-- What the run leaves in output 3's staging buffer: its pieces read back over junk. -/
def out3_A_3 (c : Dev nD) (i : grid3.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) : Vec F S256x128 .bf16 :=
  VO3_3.read (Elt F) (VO3_3.writes (Elt F) VO3_3.junk (kernelRun3_A c i arg3 harg3 arg4 harg4 arg5 harg5 arg6 harg6 x0 x1 x2).1)

/-! ## What the outputs hold after each point -/

/-- What the outputs' staging buffers hold after the body at point `t`: the run's contents at
    the point's memrefs and input blocks. -/
def outsAt3 (c : Dev nD) (t : Fin cfg3.N) : Vec F S256x128 .bf16 :=
  out3_A_3 c (grid3.coords t) (ms3_0 t) (hs3_0 t) (ms3_1 t) (hs3_1 t) (ms3_2 t) (hs3_2 t) (ms3_3 t) (hs3_3 t) (iblk3 V c 0 t) (iblk3 V c 1 t) (iblk3 V c 2 t)

/-! ## The pipeline's proof data -/

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  unfold outsAt3
  unfold out3_A_3
  iintro ⟨HΦ, Ho, ⟨%d0, H0⟩, ⟨%d1, H1⟩, ⟨%d2, H2⟩, ⟨%d3, H3⟩⟩
  iapply ((kernelRun3_A c (grid3.coords t) _ _ _ _ _ _ _ _ (iblk3 V c 0 t) (iblk3 V c 1 t) (iblk3 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Gen

end
-- ==== Proof.Ideal.Mlp.lean ====
/- Region 5 of the program (gated feed-forward): its body at any grid point, the accumulator carried between points. -/
module

public import proofs.«01_k».proof.Proof.Ideal.Flash

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! # Region 5 -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, for any proof data over these arrays. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, for any proof data over these arrays. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, for any proof data over these arrays. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, for any proof data over these arrays. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, for any proof data over these arrays. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's staging buffer holds its block at every point, for any proof data over these arrays. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The kernel body on any staging memrefs: a subtype the run finds -/

/-- One staging buffer of output window 6, through which its contents are stated (`View.read_writes_of_cover`: the
    choice does not matter). -/
abbrev VO5_6 : View sig .tc .vmem S256x2048 .f32 := (Memref.whole cc5_stg6_0 : Memref sig .tc .vmem S256x2048 .f32).view
/-- Each window's current staging memref at point `t`, spelled as the pipeline passes it (`bodyAt5`), and its wholeness. -/
abbrev ms5_0 (t : Fin cfg5.N) : Memref sig .tc .vmem S256x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x512 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x2048 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S256x2048 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S256x1 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S256x2048 .f32 := win5_6.stage (cfg5.slots t 6)
abbrev hs5_6 (t : Fin cfg5.N) : (ms5_6 t).IsWhole := hstage5_6 ((cfg5.slots t 6).cast nbuf5_6)
/-- The scratch operands: whole scoped buffers of the kernel's own, passed beside the windows. -/
abbrev scM5_0 : Memref sig .tc .vmem S256x2048 .f32 := Memref.whole cc5_scratch0

/-- The scratch split off the other scoped buffers. -/
theorem scopedRest5_flat (c : Dev nD) :
    (Pipeline.scopedRest spec5 c : sProp 𝕄)
      = iprop((∃ f : Buf (Elt F) ((c : Thread nD τ).loc cc5_scratch0), ((c : Thread nD τ).loc cc5_scratch0) ↦{fullShare} f) ∗ Pipeline.scopedRestBut spec5 c [cc5_scratch0]) := by
  rw [scopedRest5_split]

/-- The invariant with the scratch owned at some contents. -/
theorem PhiA5_eq (c : Dev nD) :
    (Pipeline.ΦA spec5 c : sProp 𝕄)
      = iprop(iprop((∃ d, owns (c : Thread nD τ) scM5_0 fullShare d) ∗ Pipeline.scopedRestBut spec5 c [cc5_scratch0]) ∗ (∃ r, prngReg c r)) := by
  unfold Pipeline.ΦA; rw [scopedRest5_flat]; simp only [scM5_0, owns_whole]; try rfl

/-! ## The body's two conditions, in closed form -/

/-- The first condition of the body: the reset of the accumulator. -/
abbrev cond5_0 (i : grid5.Coords) : Prop := (Scalar.cmpi .ne (Scalar.extui (Scalar.cmpi .eq (BitVec.ofNat 32 (i 1).val) 0#32)) 0#32) = 1#1
/-- It holds at the points ≡ 0 (mod 11). -/
theorem hcond5_0 : ∀ t : Fin cfg5.N, cond5_0 (grid5.coords t) ↔ t.val % 11 = 0 :=
  (fun t => by
    have ht : t.val < 176 := Nat.lt_of_lt_of_eq t.isLt N_5
    have e0 : (grid5.coords t 0).val = t.val / 11 % 16 := Pipeline.Grid.coords_val t 0 (by decide) rfl
    have e1 : (grid5.coords t 1).val = t.val / 1 % 11 := Pipeline.Grid.coords_val t 1 (by decide) rfl
    simp only [cond5_0, e0, e1]
    word_cmp
   : ∀ t : Fin grid5.N, cond5_0 (grid5.coords t) ↔ t.val % 11 = 0)

/-- The second condition of the body: the store of the output block. -/
abbrev cond5_1 (i : grid5.Coords) : Prop := k5_cond2 i = 1#1
/-- It holds at the points ≡ 10 (mod 11). -/
theorem hcond5_1 : ∀ t : Fin cfg5.N, cond5_1 (grid5.coords t) ↔ t.val % 11 = 10 :=
  (fun t => by
    have ht : t.val < 176 := Nat.lt_of_lt_of_eq t.isLt N_5
    have e0 : (grid5.coords t 0).val = t.val / 11 % 16 := Pipeline.Grid.coords_val t 0 (by decide) rfl
    have e1 : (grid5.coords t 1).val = t.val / 1 % 11 := Pipeline.Grid.coords_val t 1 (by decide) rfl
    simp only [cond5_1, k5_cond2, e0, e1]
    word_cmp
   : ∀ t : Fin grid5.N, cond5_1 (grid5.coords t) ↔ t.val % 11 = 10)

/-- Where the output is not stored its window is idle. -/
theorem idle5_6 : ∀ t : Fin cfg5.N, ¬cond5_1 (grid5.coords t) → cfg5.idle 6 (grid5.coords t) = true := by decide +kernel
/-- Where the output is not stored its block is not written back. -/
theorem noFlush5_6 : ∀ t : Fin cfg5.N, ¬cond5_1 (grid5.coords t) → (cfg5.win 6).flush t = false := by decide +kernel
/-- Where the output is stored its window is live. -/
theorem live5_6 : ∀ t : Fin cfg5.N, cond5_1 (grid5.coords t) → cfg5.idle 6 (grid5.coords t) = false := by decide +kernel

/-- The zero offsets of a load or store of a whole block. -/
theorem hz2 : (![0, 0] : Fin 2 → Nat) = fun _ => 0 := funext fun a => by fin_cases a <;> rfl

/-! ## The body's triple in each case, its stores' contents named -/

set_option maxHeartbeats 1000000 in
/-- At a first point of a row block the accumulator restarts from zero. -/
theorem step5_A (c : Dev nD) (i : grid5.Coords) (arg2 : Memref sig .tc .vmem S256x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S256x2048 .f32) (harg9 : arg9.IsWhole) (hc0 : cond5_0 i) (hc1 : ¬cond5_1 i)
    (x0 : Vec F S256x2048 .bf16) (x1 : Vec F S2048x512 .bf16) (x2 : Vec F S2048x512 .bf16) (x3 : Vec F S512x2048 .bf16) (x4 : Vec F S256x2048 .f32) (x5 : Vec F S256x1 .f32) (xi xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k5_pay2 x0 x1 x2 k5_pay1 x3)) -∗ K ⟨⟩))
      ⊢ wp frame (wpE (defs₀ (F := F)) Variants.none c none) E (cc5__mlp_kernel i arg2 harg2 arg3 harg3 arg4 harg4 arg5 harg5 arg6 harg6 arg7 harg7 arg8 harg8 arg9 harg9) K := by
  simp only [cc5__mlp_kernel_eq_skeleton]; unfold cc5__mlp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  rw [View.read_writes_eq_canon _ _ _ (fun y => View.cover_of_tiledL _ S256x2048.size (by sl_kernel_rfl) y)]
  sl_unfold_words
  simp only [View.canon_cons_unit_zero (S := S256x2048) hz2, View.canon_unit_zero (S := S256x2048) hz2, View.readCov_unit_zero (S := S256x2048) _ hz2, View.readAt_eq_ld, harg2.read_unread, harg3.read_unread, harg4.read_unread, harg5.read_unread, harg6.read_unread, harg7.read_unread, harg8.read_unread, harg9.read_unread, View.ld_unit_zero (S := S256x2048) hz2, View.ld_unit_zero (S := S2048x512) hz2, View.ld_unit_zero (S := S512x2048) hz2, View.ld_unit_zero (S := S256x1) hz2]

set_option maxHeartbeats 1000000 in
/-- At a middle point the accumulator takes one more term. -/
theorem step5_B (c : Dev nD) (i : grid5.Coords) (arg2 : Memref sig .tc .vmem S256x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S256x2048 .f32) (harg9 : arg9.IsWhole) (hc0 : ¬cond5_0 i) (hc1 : ¬cond5_1 i)
    (x0 : Vec F S256x2048 .bf16) (x1 : Vec F S2048x512 .bf16) (x2 : Vec F S2048x512 .bf16) (x3 : Vec F S512x2048 .bf16) (x4 : Vec F S256x2048 .f32) (x5 : Vec F S256x1 .f32) (xi xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare (k5_pay2 x0 x1 x2 xs x3)) -∗ K ⟨⟩))
      ⊢ wp frame (wpE (defs₀ (F := F)) Variants.none c none) E (cc5__mlp_kernel i arg2 harg2 arg3 harg3 arg4 harg4 arg5 harg5 arg6 harg6 arg7 harg7 arg8 harg8 arg9 harg9) K := by
  simp only [cc5__mlp_kernel_eq_skeleton]; unfold cc5__mlp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  rw [View.read_writes_eq_canon _ _ _ (fun y => View.cover_of_tiledL _ S256x2048.size (by sl_kernel_rfl) y)]
  sl_unfold_words
  simp only [View.canon_cons_unit_zero (S := S256x2048) hz2, View.canon_unit_zero (S := S256x2048) hz2, View.readCov_unit_zero (S := S256x2048) _ hz2, View.readAt_eq_ld, harg2.read_unread, harg3.read_unread, harg4.read_unread, harg5.read_unread, harg6.read_unread, harg7.read_unread, harg8.read_unread, harg9.read_unread, View.ld_unit_zero (S := S256x2048) hz2, View.ld_unit_zero (S := S2048x512) hz2, View.ld_unit_zero (S := S512x2048) hz2, View.ld_unit_zero (S := S256x1) hz2]

set_option maxHeartbeats 1000000 in
/-- At a last point the accumulator takes its last term and the output block is stored. -/
theorem step5_C (c : Dev nD) (i : grid5.Coords) (arg2 : Memref sig .tc .vmem S256x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S256x2048 .f32) (harg9 : arg9.IsWhole) (hc0 : ¬cond5_0 i) (hc1 : cond5_1 i)
    (x0 : Vec F S256x2048 .bf16) (x1 : Vec F S2048x512 .bf16) (x2 : Vec F S2048x512 .bf16) (x3 : Vec F S512x2048 .bf16) (x4 : Vec F S256x2048 .f32) (x5 : Vec F S256x1 .f32) (xi xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k5_pay3 x4 (k5_pay2 x0 x1 x2 xs x3) x5) ∗ owns (c : Thread nD τ) arg9 fullShare (k5_pay2 x0 x1 x2 xs x3)) -∗ K ⟨⟩))
      ⊢ wp frame (wpE (defs₀ (F := F)) Variants.none c none) E (cc5__mlp_kernel i arg2 harg2 arg3 harg3 arg4 harg4 arg5 harg5 arg6 harg6 arg7 harg7 arg8 harg8 arg9 harg9) K := by
  simp only [cc5__mlp_kernel_eq_skeleton]; unfold cc5__mlp_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    rw [View.read_writes_eq_canon _ _ _ (fun y => View.cover_of_tiledL _ S256x2048.size (by sl_kernel_rfl) y)]
    sl_unfold_words
    simp only [View.canon_cons_unit_zero (S := S256x2048) hz2, View.canon_unit_zero (S := S256x2048) hz2, View.readCov_unit_zero (S := S256x2048) _ hz2, View.readAt_eq_ld, harg2.read_unread, harg3.read_unread, harg4.read_unread, harg5.read_unread, harg6.read_unread, harg7.read_unread, harg8.read_unread, harg9.read_unread, View.ld_unit_zero (S := S256x2048) hz2, View.ld_unit_zero (S := S2048x512) hz2, View.ld_unit_zero (S := S512x2048) hz2, View.ld_unit_zero (S := S256x1) hz2]
  iexists _; isplitr; swap; · iexact H9
  ipureintro
  rw [View.read_writes_eq_canon _ _ _ (fun y => View.cover_of_tiledL _ S256x2048.size (by sl_kernel_rfl) y)]
  sl_unfold_words
  simp only [View.canon_cons_unit_zero (S := S256x2048) hz2, View.canon_unit_zero (S := S256x2048) hz2, View.readCov_unit_zero (S := S256x2048) _ hz2, View.readAt_eq_ld, harg2.read_unread, harg3.read_unread, harg4.read_unread, harg5.read_unread, harg6.read_unread, harg7.read_unread, harg8.read_unread, harg9.read_unread, View.ld_unit_zero (S := S256x2048) hz2, View.ld_unit_zero (S := S2048x512) hz2, View.ld_unit_zero (S := S512x2048) hz2, View.ld_unit_zero (S := S256x1) hz2]

/-! ## The accumulator after each point -/

/-- The accumulator after point `n`: restarted at the first point of a row block, else one term more than before. -/
def accAt5 (c : Dev nD) : (n : ℕ) → n < cfg5.N → Vec F S256x2048 .f32
  | 0, hn => k5_pay2 (iblk5 V c 0 ⟨0, hn⟩) (iblk5 V c 1 ⟨0, hn⟩) (iblk5 V c 2 ⟨0, hn⟩) k5_pay1 (iblk5 V c 3 ⟨0, hn⟩)
  | n + 1, hn => k5_pay2 (iblk5 V c 0 ⟨n + 1, hn⟩) (iblk5 V c 1 ⟨n + 1, hn⟩) (iblk5 V c 2 ⟨n + 1, hn⟩)
      (if (n + 1) % 11 = 0 then k5_pay1 else accAt5 c n (Nat.lt_of_succ_lt hn)) (iblk5 V c 3 ⟨n + 1, hn⟩)

/-- The accumulator at the first point of a row block. -/
theorem accAt5_reset (c : Dev nD) (t : Fin cfg5.N) (h : t.val % 11 = 0) :
    accAt5 V c t.val t.isLt = k5_pay2 (iblk5 V c 0 t) (iblk5 V c 1 t) (iblk5 V c 2 t) k5_pay1 (iblk5 V c 3 t) := by
  obtain ⟨n, hn⟩ := t
  cases n with
  | zero => rfl
  | succ n => unfold accAt5; rw [if_pos h]

/-- The accumulator at a later point of a row block. -/
theorem accAt5_step (c : Dev nD) (t : Fin cfg5.N) (h : ¬t.val % 11 = 0) :
    accAt5 V c t.val t.isLt = k5_pay2 (iblk5 V c 0 t) (iblk5 V c 1 t) (iblk5 V c 2 t)
      (accAt5 V c (t.val - 1) (Nat.lt_of_le_of_lt (Nat.sub_le _ _) t.isLt)) (iblk5 V c 3 t) := by
  obtain ⟨n, hn⟩ := t
  cases n with
  | zero => exact absurd (Nat.zero_mod _) h
  | succ n => rw [accAt5]; rw [if_neg h]; rfl

/-- What the output's staging buffer holds after a last point. -/
def outsAt5 (c : Dev nD) (t : Fin cfg5.N) : Vec F S256x2048 .f32 :=
  k5_pay3 (iblk5 V c 4 t) (accAt5 V c t.val t.isLt) (iblk5 V c 5 t)

/-- The invariant before position `n`: the scratch at anything before the first point, at the accumulator after. -/
def PhiS5 (c : Dev nD) : (n : ℕ) → n ≤ cfg5.N → sProp 𝕄
  | 0, _ => Pipeline.ΦA spec5 c
  | n + 1, hn => iprop(iprop(owns (c : Thread nD τ) scM5_0 fullShare (accAt5 V c n hn) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare (accAt5 V c n hn) ∗ Pipeline.scopedRestBut spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare (accAt5 V c (n - 1) (by omega)) ∗ Pipeline.scopedRestBut spec5 c [cc5_scratch0]) ∗ (∃ r, prngReg c r)) := by
  cases n with
  | zero => exact absurd rfl hz
  | succ n => rfl

/-- The invariant at any position gives the scratch at some contents back. -/
theorem PhiS5_any (c : Dev nD) (n : ℕ) (h : n ≤ cfg5.N) : PhiS5 V c n h ⊢ (Pipeline.ΦA spec5 c : sProp 𝕄) := by
  cases n with
  | zero => exact .rfl
  | succ n =>
    rw [PhiS5_succ, PhiA5_eq]
    iintro ⟨⟨HS0, HR1⟩, Hg⟩
    isplitl [HS0 HR1]
    · isplitl [HS0]
      · iexists _; iexact HS0
      iexact HR1
    iexact Hg

/-! ## The pipeline's proof data -/

/-- The proof data of this pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => outsAt5 V c t
  Φ t := PhiS5 V c t.val (Nat.le_of_lt_succ t.isLt)
  q _ := fullShare
  owed _ := 0

/-- The proof data's arrays are the entry contents. -/
theorem A_eq5 (c : Dev nD) (w : Fin cfg5.W) : (dat5 V c).A w = V c (Pipeline.arrRef spec5 w) := by
  dsimp only [dat5]

/-- The invariant at a point's start. -/
theorem Phi5_castSucc (c : Dev nD) (t : Fin cfg5.N) :
    (dat5 V c).Φ t.castSucc = PhiS5 V c t.val (Nat.le_of_lt t.isLt) := by
  dsimp only [dat5]; exact Pipeline.Dat.Φ_castSucc (PhiS5 V c) t

/-- The invariant after the last point gives the scratch back. -/
theorem Phi_out5 (c : Dev nD) : (dat5 V c).Φ (Fin.last _) ⊢ (Pipeline.ΦA spec5 c : sProp 𝕄) := by
  rw [show (dat5 V c).Φ (Fin.last _) = PhiS5 V c cfg5.N le_rfl from rfl]
  exact PhiS5_any V c _ _

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = outsAt5 V c t := by dsimp only [dat5]

/-- Each input's staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- What the body is called with at point `t`. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- What the body returns at point `t`. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ (dat5 V c).leavesExact 6 t)

set_option maxHeartbeats 9600000 in
/-- The body at any point: the accumulator in and out of the invariant, the output stored at the last points. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).owesAt () t.succ = (dat5 V c).owesAt () t.castSucc from rfl,
    show (dat5 V c).Φ t.succ = PhiS5 V c (t.val + 1) t.isLt from rfl, PhiS5_succ,
    after5_0, after5_1, after5_2, after5_3, after5_4, after5_5]
  by_cases h0 : t.val % 11 = 0
  · have hc0 := (hcond5_0 t).mpr h0
    have hc1 : ¬cond5_1 (grid5.coords t) := fun h => by have := (hcond5_1 t).mp h; omega
    rw [Dat.leavesExact_idle (dat5 V c) 6 t (idle5_6 t hc1) (noFlush5_6 t hc1), Phi5_castSucc]
    refine (sep_mono (PhiS5_any V c _ _) .rfl).trans ?_
    rw [PhiA5_eq, accAt5_reset V c t h0]
    iintro ⟨⟨⟨⟨%ds, HS0⟩, HR1⟩, Hg⟩, Ho, ⟨%d0, H0⟩, ⟨%d1, H1⟩, ⟨%d2, H2⟩, ⟨%d3, H3⟩, ⟨%d4, H4⟩, ⟨%d5, H5⟩, ⟨%d6, H6⟩⟩
    iapply (step5_A c (grid5.coords t) _ _ _ _ _ _ _ _ _ _ _ _ _ _ _ _ hc0 hc1 (iblk5 V c 0 t) (iblk5 V c 1 t) (iblk5 V c 2 t) (iblk5 V c 3 t) (iblk5 V c 4 t) (iblk5 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 HR1 Hg]
    · isplitl [HS0 HR1]
      · isplitl [HS0]; · iexact HS0
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun h => h0 (by rw [h])
    have hc0 : ¬cond5_0 (grid5.coords t) := fun h => h0 ((hcond5_0 t).mp h)
    rw [Phi5_castSucc, PhiS5_pos V c _ _ hz, accAt5_step V c t h0]
    by_cases h1 : t.val % 11 = 10
    · have hc1 := (hcond5_1 t).mpr h1
      rw [show (dat5 V c).leavesExact 6 t = owns (c : Thread nD τ) (ms5_6 t) fullShare ((dat5 V c).after 6 t) from by
        unfold Dat.leavesExact; rw [live5_6 t hc1], after5_6]
      unfold outsAt5
      rw [accAt5_step V c t h0]
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩⟩
      iapply (step5_C c (grid5.coords t) _ _ _ _ _ _ _ _ _ _ _ _ _ _ _ _ hc0 hc1 (iblk5 V c 0 t) (iblk5 V c 1 t) (iblk5 V c 2 t) (iblk5 V c 3 t) (iblk5 V c 4 t) (iblk5 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 HR1 Hg]
      · isplitl [HS0 HR1]
        · isplitl [HS0]; · iexact HS0
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond5_1 (grid5.coords t) := fun h => h1 ((hcond5_1 t).mp h)
      rw [Dat.leavesExact_idle (dat5 V c) 6 t (idle5_6 t hc1) (noFlush5_6 t hc1)]
      iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩⟩
      iapply (step5_B c (grid5.coords t) _ _ _ _ _ _ _ _ _ _ _ _ _ _ _ _ hc0 hc1 (iblk5 V c 0 t) (iblk5 V c 1 t) (iblk5 V c 2 t) (iblk5 V c 3 t) (iblk5 V c 4 t) (iblk5 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HS0 HR1 Hg]
      · isplitl [HS0 HR1]
        · isplitl [HS0]; · iexact HS0
          iexact HR1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t` is the body. -/
theorem defs₀_row5 (t : Fin cfg5.N) :
    defs₀ (F := F) .tc cfg5.body (cfg5.bodyArgs t (cfg5.slots t)) = bodyAt5 t := by
  unfold defs₀; rw [Defs.onTc_tc]

/-- The body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Gen

end
-- ==== Proof.Ideal.Run.lean ====
/- The whole program: the buffer contents at every boundary, and the run from the launch to the return. -/
module

public import proofs.«01_k».proof.Proof.Ideal.Mlp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_cst, main_v1, main_c, main_v2, main_v3, main_c_0, main_v4, main_v5, main_cst_1, main_v6, main_c_2, main_v7, main_c_3, main_v8, main_v9, main_v10, main_c_4, main_v11, main_c_5, main_v12, main_v13, main_v14, main_v15, main_v16, main_cst_6, main_v17, main_v18, main_v19, main_v20, main_v21, main_v22, main_v23, main_v24, main_v25, main_v26, main_cst_7, main_v27, main_v28, main_cst_8, main_v29, main_v30, main_cst_9, main_v31, main_v32, main_cst_10, main_v33, main_v34, main_cst_11, main_v35, main_v36, main_v37, main_v38, main_v39, main_v40, main_v41, main_v42, main_v43, main_v44, main_v45, main_v46, main_v47, main_v48, main_v49, main_v50, main_v51]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v54, main_v55]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v60]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- The buffers after this item. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What this item does not write keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- The region's arrays at its exit. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after this item. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What this item does not write keeps its contents. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- The region's arrays at its exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- The buffers after this item. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- What this item does not write keeps its contents. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- The region's arrays at its exit. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- The buffers after this item. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- What this item does not write keeps its contents. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- The region's arrays at its exit. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- The buffers after this item. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- What this item does not write keeps its contents. -/
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn4 a ha)).trans (W6_args m ρ c a ha)
/-- The same read at the TensorCore's references (region 4's exit contents). -/
abbrev V7 : (c : Dev nD) → (b : Ref sig .tc) → Buf (Elt F) ((c : Thread nD τ).loc b) := fun c b => W7 m ρ c b
/-- The region's arrays at its exit. -/
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- The buffers after this item. -/
def W8 (c : Dev nD) : Valuation τ sig (Elt F) :=
  Pipeline.withArrays spec5 c (W7 m ρ c) fun w => (dat5 (V7 m ρ) c).arrAt w cfg5.N
theorem W8_arr (c : Dev nD) (w : Fin cfg5.W) :
    W8 m ρ c (Proc.devRef .tc (Pipeline.arrRef spec5 w)) = (dat5 (V7 m ρ) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m ρ c (Proc.devRef .tc b) = W7 m ρ c (Proc.devRef .tc b) := by
  unfold W8; exact Pipeline.withArrays_of_ne spec5 c _ _ b hb
/-- What this item does not write keeps its contents. -/
theorem W8_of (c : Dev nD) (r : Ref sig .tc) (h : ∀ w : Fin cfg5.W, Pipeline.arrRef spec5 w = r → (cfg5.win w).isOut = false) :
    W8 m ρ c (Proc.devRef .tc r) = W7 m ρ c (Proc.devRef .tc r) := by
  by_cases hw : ∃ w : Fin cfg5.W, Pipeline.arrRef spec5 w = r
  · obtain ⟨w, rfl⟩ := hw
    exact (W8_arr m ρ c w).trans (((dat5 (V7 m ρ) c).arrAt_in w (h w rfl) _).trans (A_eq5 (V7 m ρ) c w))
  · exact W8_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn5 a ha)).trans (W7_args m ρ c a ha)
/-- The same read at the TensorCore's references (region 5's exit contents). -/
abbrev V8 : (c : Dev nD) → (b : Ref sig .tc) → Buf (Elt F) ((c : Thread nD τ).loc b) := fun c b => W8 m ρ c b
/-- The region's arrays at its exit. -/
theorem hF5 (c : Dev nD) (w : Fin cfg5.W) : (dat5 (V7 m ρ) c).arrAt w cfg5.N = V8 m ρ c (Pipeline.arrRef spec5 w) :=
  (W8_arr m ρ c w).symm
theorem hrest5 (c : Dev nD) : ∀ b, b ∉ Finset.univ.image (Pipeline.arrRef spec5) → V8 m ρ c b = V7 m ρ c b :=
  fun b hb => W8_of_ne m ρ c b fun w e => hb (Finset.mem_image.mpr ⟨w, Finset.mem_univ _, e⟩)

/-- After `hostOps6`. -/
abbrev W9 : Dev nD → Valuation τ sig (Elt F) := fun c => StableHlo.after hostOps6 (W8 m ρ c)
/-- A reference `hostOps6` does not write keeps its contents across it. -/
theorem W9_of (c : Dev nD) (r : Ref sig .tc) (h : r ∉ hostOps6_W) : W9 m ρ c (Proc.devRef .tc r) = W8 m ρ c (Proc.devRef .tc r) :=
  StableHlo.after_of_writes_sub hostOps6 _ hostOps6_writes h
theorem W9_args (c : Dev nD) : ∀ a ∈ argRefs, W9 m ρ c (Proc.devRef .tc a) = m ((c : Thread nD τ).loc a) :=
  fun a ha => (W9_of m ρ c a (hostOps6_args a ha)).trans (W8_args m ρ c a ha)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V6 m ρ) c
  | ⟨5, _⟩ => fun c => dat5 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W9 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 as a segment of the program. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 as a segment of the program. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 3 as a segment of the program. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 4 as a segment of the program. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) (A_eq4 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 5 as a segment of the program. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V7 m ρ) c).loose
  hwaits := Pipeline.hwaits_of_owed_zero _ _ _ _ L lv 5 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec5 c (V7 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V7 m ρ c) (A_eq5 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (Phi_out5 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V7 m ρ c) (V8 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ),
    .region (reg4 m ρ),
    .region (reg5 m ρ),
    .host (hseg hostOps6 hostOps6_sub hostOps6_fresh (W8 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal` at any `F`. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (no_unscoped g.2))⟩)

/-- Every run leaves the arguments as launched, the result at the last boundary's contents, every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨(h.1 c _ (mem_uc main_arg0 (by decide))).trans (W9_args m ρ c main_arg0 (by decide)),
    (h.1 c _ (mem_uc main_arg1 (by decide))).trans (W9_args m ρ c main_arg1 (by decide)),
    (h.1 c _ (mem_uc main_arg2 (by decide))).trans (W9_args m ρ c main_arg2 (by decide)),
    (h.1 c _ (mem_uc main_arg3 (by decide))).trans (W9_args m ρ c main_arg3 (by decide)),
    (h.1 c _ (mem_uc main_arg4 (by decide))).trans (W9_args m ρ c main_arg4 (by decide)),
    (h.1 c _ (mem_uc main_arg5 (by decide))).trans (W9_args m ρ c main_arg5 (by decide)),
    (h.1 c _ (mem_uc main_arg6 (by decide))).trans (W9_args m ρ c main_arg6 (by decide)),
    (h.1 c _ (mem_uc main_arg7 (by decide))).trans (W9_args m ρ c main_arg7 (by decide)),
    (h.1 c _ (mem_uc main_arg8 (by decide))).trans (W9_args m ρ c main_arg8 (by decide)),
    (h.1 c _ (mem_uc main_arg9 (by decide))).trans (W9_args m ρ c main_arg9 (by decide)),
    (h.1 c _ (mem_uc main_arg10 (by decide))).trans (W9_args m ρ c main_arg10 (by decide)),
    (h.1 c _ (mem_uc main_arg11 (by decide))).trans (W9_args m ρ c main_arg11 (by decide)),
    (h.1 c _ (mem_uc main_arg12 (by decide))).trans (W9_args m ρ c main_arg12 (by decide)),
    (h.1 c _ (mem_uc main_arg13 (by decide))).trans (W9_args m ρ c main_arg13 (by decide)),
    (h.1 c _ (mem_uc main_arg14 (by decide))).trans (W9_args m ρ c main_arg14 (by decide))⟩, h.2⟩) (run_all m ρ)

end Cert.KernelIdeal.Gen

end
-- ==== Proof.Value.RefRun.lean ====
/- The reference program as a line of host operations in stages, and its run. -/
module

public import proofs.«01_k».proof.Defs
public import proofs.«01_k».proof.Proof.Gen.ReferenceIdeal
public import proofs.«01_k».proof.Proof.Ideal.Run
public import Idealize.ShloMosaic.Lib.Claim
public import Idealize.ShloMosaic.Lib.Quiescent
public import Idealize.ShloMosaic.Lib.StableHlo.RunRead

@[expose] public section

set_option maxRecDepth 65536

noncomputable section

namespace Cert.ReferenceIdeal.Gen

open Idealize.ShloMosaic Idealize.SL.Sem
open Cert.ReferenceIdeal.Facts₀ Cert.ReferenceIdeal.Facts

variable {F : FTy → Type} [FloatOps F]

/-- The reference's stage `Route`: 26 host operations, ending with `main_v15`. -/
abbrev opsRoute : List (HloOp τ sig (Elt F)) :=
  [ StableHlo.binary main_arg0 main_arg11 main_v0 ((fun l r => Host.dotGeneral dot_S2x2048x2048_S2048x2_S2x2048x2_2_0_01_1_n_n none l r) : (⟨S2x2048x2048, .f32⟩ : BufTy).Contents (Elt F) → (⟨S2048x2, .f32⟩ : BufTy).Contents (Elt F) → (⟨S2x2048x2, .f32⟩ : BufTy).Contents (Elt F)),
    StableHlo.unary main_arg12 main_v1 (broadcastInDim S1x1x2 ![2] bcast_S2_S1x1x2_2 : (⟨S2, .f32⟩ : BufTy).Contents (Elt F) → (⟨S1x1x2, .f32⟩ : BufTy).Contents (Elt F)),
    StableHlo.unary main_v1 main_v2 (broadcastInDim S2x2048x2 ![0, 1, 2] bcast_S1x1x2_S2x2048x2_0_1_2 : (⟨S1x1x2, .f32⟩ : BufTy).Contents (Elt F) → (⟨S2x2048x2, .f32⟩ : BufTy).Contents (Elt F)),
    StableHlo.binary main_v0 main_v2 main_v3 (addf : (⟨S2x2048x2, .f32⟩ : BufTy).Contents (Elt F) → (⟨S2x2048x2, .f32⟩ : BufTy).Contents (Elt F) → (⟨S2x2048x2, .f32⟩ : BufTy).Contents (Elt F)),
    StableHlo.nullary main_call0_v0 (iotaInDim S2x2048x2 32 2),
    StableHlo.nullary main_call0_cst (constant S_ .f32 0xFF800000#32),
    StableHlo.nullary main_call0_c (constantI S_ 32 0#32),
    StableHlo.quaternary main_v3 main_call0_v0 main_call0_cst main_call0_c main_call0_v1_0 ((fun x y u v j => (Host.argReduce reducer_argmax_f32_i32 x y u v reducesTo_S2x2048x2_S2x2048_d2 h_S_ j).1) : (⟨S2x2048x2, .f32⟩ : BufTy).Contents (Elt F) → (⟨S2x2048x2, .i32⟩ : BufTy).Contents (Elt F) → (⟨S_, .f32⟩ : BufTy).Contents (Elt F) → (⟨S_, .i32⟩ : BufTy).Contents (Elt F) → (⟨S2x2048, .f32⟩ : BufTy).Contents (Elt F)),
    StableHlo.quaternary main_v3 main_call0_v0 main_call0_cst main_call0_c main_v4 ((fun x y u v j => (Host.argReduce reducer_argmax_f32_i32 x y u v reducesTo_S2x2048x2_S2x2048_d2 h_S_ j).2) : (⟨S2x2048x2, .f32⟩ : BufTy).Contents (Elt F) → (⟨S2x2048x2, .i32⟩ : BufTy).Contents (Elt F) → (⟨S_, .f32⟩ : BufTy).Contents (Elt F) → (⟨S_, .i32⟩ : BufTy).Contents (Elt F) → (⟨S2x2048, .i32⟩ : BufTy).Contents (Elt F)),
    StableHlo.nullary main_c (constantI S_ 32 0#32),
    StableHlo.unary main_c main_v5 (broadcastInDim S2x2048 ![] bcast_S_S2x2048 : (⟨S_, .i32⟩ : BufTy).Contents (Elt F) → (⟨S2x2048, .i32⟩ : BufTy).Contents (Elt F)),
    StableHlo.binary main_v4 main_v5 main_v6 (cmpi .ne : (⟨S2x2048, .i32⟩ : BufTy).Contents (Elt F) → (⟨S2x2048, .i32⟩ : BufTy).Contents (Elt F) → (⟨S2x2048, .i1⟩ : BufTy).Contents (Elt F)),
    StableHlo.unary main_v6 main_v7 (id : (⟨S2x2048, .i1⟩ : BufTy).Contents (Elt F) → (⟨S2x2048, .i1⟩ : BufTy).Contents (Elt F)),
    StableHlo.binary main_arg0 main_arg13 main_v8 ((fun l r => Host.dotGeneral dot_S2x2048x2048_S2048x2_S2x2048x2_2_0_01_1_n_n none l r) : (⟨S2x2048x2048, .f32⟩ : BufTy).Contents (Elt F) → (⟨S2048x2, .f32⟩ : BufTy).Contents (Elt F) → (⟨S2x2048x2, .f32⟩ : BufTy).Contents (Elt F)),
    StableHlo.unary main_arg14 main_v9 (broadcastInDim S1x1x2 ![2] bcast_S2_S1x1x2_2 : (⟨S2, .f32⟩ : BufTy).Contents (Elt F) → (⟨S1x1x2, .f32⟩ : BufTy).Contents (Elt F)),
    StableHlo.unary main_v9 main_v10 (broadcastInDim S2x2048x2 ![0, 1, 2] bcast_S1x1x2_S2x2048x2_0_1_2 : (⟨S1x1x2, .f32⟩ : BufTy).Contents (Elt F) → (⟨S2x2048x2, .f32⟩ : BufTy).Contents (Elt F)),
    StableHlo.binary main_v8 main_v10 main_v11 (addf : (⟨S2x2048x2, .f32⟩ : BufTy).Contents (Elt F) → (⟨S2x2048x2, .f32⟩ : BufTy).Contents (Elt F) → (⟨S2x2048x2, .f32⟩ : BufTy).Contents (Elt F)),
    StableHlo.nullary main_call1_v0 (iotaInDim S2x2048x2 32 2),
    StableHlo.nullary main_call1_cst (constant S_ .f32 0xFF800000#32),
    StableHlo.nullary main_call1_c (constantI S_ 32 0#32),
    StableHlo.quaternary main_v11 main_call1_v0 main_call1_cst main_call1_c main_call1_v1_0 ((fun x y u v j => (Host.argReduce reducer_argmax_f32_i32 x y u v reducesTo_S2x2048x2_S2x2048_d2 h_S_ j).1) : (⟨S2x2048x2, .f32⟩ : BufTy).Contents (Elt F) → (⟨S2x2048x2, .i32⟩ : BufTy).Contents (Elt F) → (⟨S_, .f32⟩ : BufTy).Contents (Elt F) → (⟨S_, .i32⟩ : BufTy).Contents (Elt F) → (⟨S2x2048, .f32⟩ : BufTy).Contents (Elt F)),
    StableHlo.quaternary main_v11 main_call1_v0 main_call1_cst main_call1_c main_v12 ((fun x y u v j => (Host.argReduce reducer_argmax_f32_i32 x y u v reducesTo_S2x2048x2_S2x2048_d2 h_S_ j).2) : (⟨S2x2048x2, .f32⟩ : BufTy).Contents (Elt F) → (⟨S2x2048x2, .i32⟩ : BufTy).Contents (Elt F) → (⟨S_, .f32⟩ : BufTy).Contents (Elt F) → (⟨S_, .i32⟩ : BufTy).Contents (Elt F) → (⟨S2x2048, .i32⟩ : BufTy).Contents (Elt F)),
    StableHlo.nullary main_c_0 (constantI S_ 32 0#32),
    StableHlo.unary main_c_0 main_v13 (broadcastInDim S2x2048 ![] bcast_S_S2x2048 : (⟨S_, .i32⟩ : BufTy).Contents (Elt F) → (⟨S2x2048, .i32⟩ : BufTy).Contents (Elt F)),
    StableHlo.binary main_v12 main_v13 main_v14 (cmpi .ne : (⟨S2x2048, .i32⟩ : BufTy).Contents (Elt F) → (⟨S2x2048, .i32⟩ : BufTy).Contents (Elt F) → (⟨S2x2048, .i1⟩ : BufTy).Contents (Elt F)),
    StableHlo.unary main_v14 main_v15 (id : (⟨S2x2048, .i1⟩ : BufTy).Contents (Elt F) → (⟨S2x2048, .i1⟩ : BufTy).Contents (Elt F)) ]
/-- The reference each operation of `opsRoute` writes, in order. -/
abbrev opsRoute_W : List (Ref sig .tc) := [main_v0, main_v1, main_v2, main_v3, main_call0_v0, main_call0_cst, main_call0_c, main_call0_v1_0, main_v4, main_c, main_v5, main_v6, main_v7, main_v8, main_v9, main_v10, main_v11, main_call1_v0, main_call1_cst, main_call1_c, main_call1_v1_0, main_v12, main_c_0, main_v13, main_v14, main_v15]
/-- A reference outside `opsRoute_W` keeps its contents across the stage. -/
theorem opsRoute_of (V : Valuation τ sig (Elt F)) (r : Ref sig .tc) (h : r ∉ opsRoute_W) : StableHlo.after opsRoute V (Proc.devRef .tc r) = V (Proc.devRef .tc r) :=
  StableHlo.after_unwritten opsRoute_W rfl h V

/-- The reference's stage `Norm1`: 16 host operations, ending with `main_v28`. -/
abbrev opsNorm1 : List (HloOp τ sig (Elt F)) :=
  [ StableHlo.binary main_arg0 main_arg0 main_v16 (mulf : (⟨S2x2048x2048, .f32⟩ : BufTy).Contents (Elt F) → (⟨S2x2048x2048, .f32⟩ : BufTy).Contents (Elt F) → (⟨S2x2048x2048, .f32⟩ : BufTy).Contents (Elt F)),
    StableHlo.nullary main_cst (constant S_ .f32 0x00000000#32),
    StableHlo.binary main_v16 main_cst main_v17 ((fun x v => Host.reduceAdd x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    StableHlo.unary main_v17 main_v18 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_cst_1 (constant S_ .f32 0x45000000#32),
    StableHlo.unary main_cst_1 main_v19 (broadcastInDim S2x2048x1 ![] bcast_S_S2x2048x1 : (⟨S_, .f32⟩ : BufTy).Contents (Elt F) → (⟨S2x2048x1, .f32⟩ : BufTy).Contents (Elt F)),
    StableHlo.binary main_v18 main_v19 main_v20 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_cst_2 (constant S_ .f32 0x3727C5AC#32),
    StableHlo.unary main_cst_2 main_v21 (broadcastInDim S2x2048x1 ![] bcast_S_S2x2048x1 : (⟨S_, .f32⟩ : BufTy).Contents (Elt F) → (⟨S2x2048x1, .f32⟩ : BufTy).Contents (Elt F)),
    StableHlo.binary main_v20 main_v21 main_v22 (addf : (⟨S2x2048x1, .f32⟩ : BufTy).Contents (Elt F) → (⟨S2x2048x1, .f32⟩ : BufTy).Contents (Elt F) → (⟨S2x2048x1, .f32⟩ : BufTy).Contents (Elt F)),
    StableHlo.unary main_v22 main_v23 (Host.rsqrt : (⟨S2x2048x1, .f32⟩ : BufTy).Contents (Elt F) → (⟨S2x2048x1, .f32⟩ : BufTy).Contents (Elt F)),
    StableHlo.unary main_v23 main_v24 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    StableHlo.binary main_arg0 main_v24 main_v25 (mulf : (⟨S2x2048x2048, .f32⟩ : BufTy).Contents (Elt F) → (⟨S2x2048x2048, .f32⟩ : BufTy).Contents (Elt F) → (⟨S2x2048x2048, .f32⟩ : BufTy).Contents (Elt F)),
    StableHlo.unary main_arg2 main_v26 (broadcastInDim S1x1x2048 ![2] bcast_S2048_S1x1x2048_2 : (⟨S2048, .f32⟩ : BufTy).Contents (Elt F) → (⟨S1x1x2048, .f32⟩ : BufTy).Contents (Elt F)),
    StableHlo.unary main_v26 main_v27 (broadcastInDim S2x2048x2048 ![0, 1, 2] bcast_S1x1x2048_S2x2048x2048_0_1_2 : (⟨S1x1x2048, .f32⟩ : BufTy).Contents (Elt F) → (⟨S2x2048x2048, .f32⟩ : BufTy).Contents (Elt F)),
    StableHlo.binary main_v25 main_v27 main_v28 (mulf : (⟨S2x2048x2048, .f32⟩ : BufTy).Contents (Elt F) → (⟨S2x2048x2048, .f32⟩ : BufTy).Contents (Elt F) → (⟨S2x2048x2048, .f32⟩ : BufTy).Contents (Elt F)) ]
/-- The reference each operation of `opsNorm1` writes, in order. -/
abbrev opsNorm1_W : List (Ref sig .tc) := [main_v16, main_cst, main_v17, main_v18, main_cst_1, main_v19, main_v20, main_cst_2, main_v21, main_v22, main_v23, main_v24, main_v25, main_v26, main_v27, main_v28]
/-- A reference outside `opsNorm1_W` keeps its contents across the stage. -/
theorem opsNorm1_of (V : Valuation τ sig (Elt F)) (r : Ref sig .tc) (h : r ∉ opsNorm1_W) : StableHlo.after opsNorm1 V (Proc.devRef .tc r) = V (Proc.devRef .tc r) :=
  StableHlo.after_unwritten opsNorm1_W rfl h V

/-- The reference's stage `Proj`: 9 host operations, ending with `main_v37`. -/
abbrev opsProj : List (HloOp τ sig (Elt F)) :=
  [ StableHlo.binary main_v28 main_arg4 main_v29 ((fun l r => Host.dotGeneral dot_S2x2048x2048_S2048x2048_S2x2048x2048_2_0_01_1_n_n none l r) : (⟨S2x2048x2048, .f32⟩ : BufTy).Contents (Elt F) → (⟨S2048x2048, .f32⟩ : BufTy).Contents (Elt F) → (⟨S2x2048x2048, .f32⟩ : BufTy).Contents (Elt F)),
    StableHlo.reshape main_v29 main_v30 (rfl : (.f32 : EltTy) = .f32) shapeCasts_S2x2048x2048_S2x2048x16x128,
    StableHlo.unary main_v30 main_v31 ((transpose S2x16x2048x128 [0, 2, 1, 3] · transposes_S2x2048x16x128_S2x16x2048x128_0_2_1_3) : (⟨S2x2048x16x128, .f32⟩ : BufTy).Contents (Elt F) → (⟨S2x16x2048x128, .f32⟩ : BufTy).Contents (Elt F)),
    StableHlo.binary main_v28 main_arg5 main_v32 ((fun l r => Host.dotGeneral dot_S2x2048x2048_S2048x2048_S2x2048x2048_2_0_01_1_n_n none l r) : (⟨S2x2048x2048, .f32⟩ : BufTy).Contents (Elt F) → (⟨S2048x2048, .f32⟩ : BufTy).Contents (Elt F) → (⟨S2x2048x2048, .f32⟩ : BufTy).Contents (Elt F)),
    StableHlo.reshape main_v32 main_v33 (rfl : (.f32 : EltTy) = .f32) shapeCasts_S2x2048x2048_S2x2048x16x128,
    StableHlo.unary main_v33 main_v34 ((transpose S2x16x2048x128 [0, 2, 1, 3] · transposes_S2x2048x16x128_S2x16x2048x128_0_2_1_3) : (⟨S2x2048x16x128, .f32⟩ : BufTy).Contents (Elt F) → (⟨S2x16x2048x128, .f32⟩ : BufTy).Contents (Elt F)),
    StableHlo.binary main_v28 main_arg6 main_v35 ((fun l r => Host.dotGeneral dot_S2x2048x2048_S2048x2048_S2x2048x2048_2_0_01_1_n_n none l r) : (⟨S2x2048x2048, .f32⟩ : BufTy).Contents (Elt F) → (⟨S2048x2048, .f32⟩ : BufTy).Contents (Elt F) → (⟨S2x2048x2048, .f32⟩ : BufTy).Contents (Elt F)),
    StableHlo.reshape main_v35 main_v36 (rfl : (.f32 : EltTy) = .f32) shapeCasts_S2x2048x2048_S2x2048x16x128,
    StableHlo.unary main_v36 main_v37 ((transpose S2x16x2048x128 [0, 2, 1, 3] · transposes_S2x2048x16x128_S2x16x2048x128_0_2_1_3) : (⟨S2x2048x16x128, .f32⟩ : BufTy).Contents (Elt F) → (⟨S2x16x2048x128, .f32⟩ : BufTy).Contents (Elt F)) ]
/-- The reference each operation of `opsProj` writes, in order. -/
abbrev opsProj_W : List (Ref sig .tc) := [main_v29, main_v30, main_v31, main_v32, main_v33, main_v34, main_v35, main_v36, main_v37]
/-- A reference outside `opsProj_W` keeps its contents across the stage. -/
theorem opsProj_of (V : Valuation τ sig (Elt F)) (r : Ref sig .tc) (h : r ∉ opsProj_W) : StableHlo.after opsProj V (Proc.devRef .tc r) = V (Proc.devRef .tc r) :=
  StableHlo.after_unwritten opsProj_W rfl h V

/-- The reference's stage `Angle`: 25 host operations, ending with `main_v57`. -/
abbrev opsAngle : List (HloOp τ sig (Elt F)) :=
  [ StableHlo.nullary main_v38 (sitofp .f32 (iotaInDim S64 32 0)),
    StableHlo.nullary main_cst_3 (constant S_ .f32 0x40000000#32),
    StableHlo.unary main_cst_3 main_v39 (broadcastInDim S64 ![] bcast_S_S64 : (⟨S_, .f32⟩ : BufTy).Contents (Elt F) → (⟨S64, .f32⟩ : BufTy).Contents (Elt F)),
    StableHlo.binary main_v39 main_v38 main_v40 (mulf : (⟨S64, .f32⟩ : BufTy).Contents (Elt F) → (⟨S64, .f32⟩ : BufTy).Contents (Elt F) → (⟨S64, .f32⟩ : BufTy).Contents (Elt F)),
    StableHlo.nullary main_cst_4 (constant S_ .f32 0x00000000#32),
    StableHlo.unary main_cst_4 main_v41 (broadcastInDim S64 ![] bcast_S_S64 : (⟨S_, .f32⟩ : BufTy).Contents (Elt F) → (⟨S64, .f32⟩ : BufTy).Contents (Elt F)),
    StableHlo.binary main_v41 main_v40 main_v42 (addf : (⟨S64, .f32⟩ : BufTy).Contents (Elt F) → (⟨S64, .f32⟩ : BufTy).Contents (Elt F) → (⟨S64, .f32⟩ : BufTy).Contents (Elt F)),
    StableHlo.nullary main_cst_5 (constant S_ .f32 0x43000000#32),
    StableHlo.unary main_cst_5 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)),
    StableHlo.nullary main_cst_6 (constant S_ .f32 0x461C4000#32),
    StableHlo.unary main_cst_6 main_v45 (broadcastInDim S64 ![] bcast_S_S64 : (⟨S_, .f32⟩ : BufTy).Contents (Elt F) → (⟨S64, .f32⟩ : BufTy).Contents (Elt F)),
    StableHlo.binary main_v45 main_v44 main_v46 (Host.powf : (⟨S64, .f32⟩ : BufTy).Contents (Elt F) → (⟨S64, .f32⟩ : BufTy).Contents (Elt F) → (⟨S64, .f32⟩ : BufTy).Contents (Elt F)),
    StableHlo.nullary main_cst_7 (constant S_ .f32 0x3F800000#32),
    StableHlo.unary main_cst_7 main_v47 (broadcastInDim S64 ![] bcast_S_S64 : (⟨S_, .f32⟩ : BufTy).Contents (Elt F) → (⟨S64, .f32⟩ : BufTy).Contents (Elt F)),
    StableHlo.binary main_v47 main_v46 main_v48 (Host.divf : (⟨S64, .f32⟩ : BufTy).Contents (Elt F) → (⟨S64, .f32⟩ : BufTy).Contents (Elt F) → (⟨S64, .f32⟩ : BufTy).Contents (Elt F)),
    StableHlo.nullary main_v49 (sitofp .f32 (iotaInDim S2048 32 0)),
    StableHlo.unary main_v49 main_v50 (broadcastInDim S2048x1 ![0] bcast_S2048_S2048x1_0 : (⟨S2048, .f32⟩ : BufTy).Contents (Elt F) → (⟨S2048x1, .f32⟩ : BufTy).Contents (Elt F)),
    StableHlo.unary main_v48 main_v51 (broadcastInDim S1x64 ![1] bcast_S64_S1x64_1 : (⟨S64, .f32⟩ : BufTy).Contents (Elt F) → (⟨S1x64, .f32⟩ : BufTy).Contents (Elt F)),
    StableHlo.unary main_v50 main_v52 (broadcastInDim S2048x64 ![0, 1] bcast_S2048x1_S2048x64_0_1 : (⟨S2048x1, .f32⟩ : BufTy).Contents (Elt F) → (⟨S2048x64, .f32⟩ : BufTy).Contents (Elt F)),
    StableHlo.unary main_v51 main_v53 (broadcastInDim S2048x64 ![0, 1] bcast_S1x64_S2048x64_0_1 : (⟨S1x64, .f32⟩ : BufTy).Contents (Elt F) → (⟨S2048x64, .f32⟩ : BufTy).Contents (Elt F)),
    StableHlo.binary main_v52 main_v53 main_v54 (mulf : (⟨S2048x64, .f32⟩ : BufTy).Contents (Elt F) → (⟨S2048x64, .f32⟩ : BufTy).Contents (Elt F) → (⟨S2048x64, .f32⟩ : BufTy).Contents (Elt F)),
    StableHlo.binary main_v54 main_v54 main_v55 ((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F)),
    StableHlo.unary main_v55 main_v56 (Host.cos : (⟨S2048x128, .f32⟩ : BufTy).Contents (Elt F) → (⟨S2048x128, .f32⟩ : BufTy).Contents (Elt F)),
    StableHlo.unary main_v55 main_v57 (Host.sin : (⟨S2048x128, .f32⟩ : BufTy).Contents (Elt F) → (⟨S2048x128, .f32⟩ : BufTy).Contents (Elt F)) ]
/-- The reference each operation of `opsAngle` writes, in order. -/
abbrev opsAngle_W : List (Ref sig .tc) := [main_v38, main_cst_3, main_v39, main_v40, main_cst_4, main_v41, main_v42, main_cst_5, main_v43, main_v44, main_cst_6, main_v45, main_v46, main_cst_7, main_v47, main_v48, main_v49, main_v50, main_v51, main_v52, main_v53, main_v54, main_v55, main_v56, main_v57]
/-- A reference outside `opsAngle_W` keeps its contents across the stage. -/
theorem opsAngle_of (V : Valuation τ sig (Elt F)) (r : Ref sig .tc) (h : r ∉ opsAngle_W) : StableHlo.after opsAngle V (Proc.devRef .tc r) = V (Proc.devRef .tc r) :=
  StableHlo.after_unwritten opsAngle_W rfl h V

/-- The reference's stage `RopeQ`: 11 host operations, ending with `main_v68`. -/
abbrev opsRopeQ : List (HloOp τ sig (Elt F)) :=
  [ StableHlo.unary main_v56 main_v58 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v58 main_v59 (broadcastInDim S2x16x2048x128 ![0, 1, 2, 3] bcast_S1x1x2048x128_S2x16x2048x128_0_1_2_3 : (⟨S1x1x2048x128, .f32⟩ : BufTy).Contents (Elt F) → (⟨S2x16x2048x128, .f32⟩ : BufTy).Contents (Elt F)),
    StableHlo.binary main_v31 main_v59 main_v60 (mulf : (⟨S2x16x2048x128, .f32⟩ : BufTy).Contents (Elt F) → (⟨S2x16x2048x128, .f32⟩ : BufTy).Contents (Elt F) → (⟨S2x16x2048x128, .f32⟩ : BufTy).Contents (Elt F)),
    StableHlo.unary main_v31 main_v61 ((extractStridedSlice S2x16x2048x64 ![0, 0, 0, 0] · slices_S2x16x2048x128_S2x16x2048x64_0_0_0_0) : (⟨S2x16x2048x128, .f32⟩ : BufTy).Contents (Elt F) → (⟨S2x16x2048x64, .f32⟩ : BufTy).Contents (Elt F)),
    StableHlo.unary main_v31 main_v62 ((extractStridedSlice S2x16x2048x64 ![0, 0, 0, 64] · slices_S2x16x2048x128_S2x16x2048x64_0_0_0_64) : (⟨S2x16x2048x128, .f32⟩ : BufTy).Contents (Elt F) → (⟨S2x16x2048x64, .f32⟩ : BufTy).Contents (Elt F)),
    StableHlo.unary main_v62 main_v63 (Host.negf : (⟨S2x16x2048x64, .f32⟩ : BufTy).Contents (Elt F) → (⟨S2x16x2048x64, .f32⟩ : BufTy).Contents (Elt F)),
    StableHlo.binary main_v63 main_v61 main_v64 ((fun a b => concatenate S2x16x2048x128 3 [⟨S2x16x2048x64, a⟩, ⟨S2x16x2048x64, b⟩] concatenates_S2x16x2048x64_S2x16x2048x64_S2x16x2048x128_d3) : (⟨S2x16x2048x64, .f32⟩ : BufTy).Contents (Elt F) → (⟨S2x16x2048x64, .f32⟩ : BufTy).Contents (Elt F) → (⟨S2x16x2048x128, .f32⟩ : BufTy).Contents (Elt F)),
    StableHlo.unary main_v57 main_v65 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v65 main_v66 (broadcastInDim S2x16x2048x128 ![0, 1, 2, 3] bcast_S1x1x2048x128_S2x16x2048x128_0_1_2_3 : (⟨S1x1x2048x128, .f32⟩ : BufTy).Contents (Elt F) → (⟨S2x16x2048x128, .f32⟩ : BufTy).Contents (Elt F)),
    StableHlo.binary main_v64 main_v66 main_v67 (mulf : (⟨S2x16x2048x128, .f32⟩ : BufTy).Contents (Elt F) → (⟨S2x16x2048x128, .f32⟩ : BufTy).Contents (Elt F) → (⟨S2x16x2048x128, .f32⟩ : BufTy).Contents (Elt F)),
    StableHlo.binary main_v60 main_v67 main_v68 (addf : (⟨S2x16x2048x128, .f32⟩ : BufTy).Contents (Elt F) → (⟨S2x16x2048x128, .f32⟩ : BufTy).Contents (Elt F) → (⟨S2x16x2048x128, .f32⟩ : BufTy).Contents (Elt F)) ]
/-- The reference each operation of `opsRopeQ` writes, in order. -/
abbrev opsRopeQ_W : List (Ref sig .tc) := [main_v58, main_v59, main_v60, main_v61, main_v62, main_v63, main_v64, main_v65, main_v66, main_v67, main_v68]
/-- A reference outside `opsRopeQ_W` keeps its contents across the stage. -/
theorem opsRopeQ_of (V : Valuation τ sig (Elt F)) (r : Ref sig .tc) (h : r ∉ opsRopeQ_W) : StableHlo.after opsRopeQ V (Proc.devRef .tc r) = V (Proc.devRef .tc r) :=
  StableHlo.after_unwritten opsRopeQ_W rfl h V

/-- The reference's stage `RopeK`: 11 host operations, ending with `main_v79`. -/
abbrev opsRopeK : List (HloOp τ sig (Elt F)) :=
  [ StableHlo.unary main_v56 main_v69 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v69 main_v70 (broadcastInDim S2x16x2048x128 ![0, 1, 2, 3] bcast_S1x1x2048x128_S2x16x2048x128_0_1_2_3 : (⟨S1x1x2048x128, .f32⟩ : BufTy).Contents (Elt F) → (⟨S2x16x2048x128, .f32⟩ : BufTy).Contents (Elt F)),
    StableHlo.binary main_v34 main_v70 main_v71 (mulf : (⟨S2x16x2048x128, .f32⟩ : BufTy).Contents (Elt F) → (⟨S2x16x2048x128, .f32⟩ : BufTy).Contents (Elt F) → (⟨S2x16x2048x128, .f32⟩ : BufTy).Contents (Elt F)),
    StableHlo.unary main_v34 main_v72 ((extractStridedSlice S2x16x2048x64 ![0, 0, 0, 0] · slices_S2x16x2048x128_S2x16x2048x64_0_0_0_0) : (⟨S2x16x2048x128, .f32⟩ : BufTy).Contents (Elt F) → (⟨S2x16x2048x64, .f32⟩ : BufTy).Contents (Elt F)),
    StableHlo.unary main_v34 main_v73 ((extractStridedSlice S2x16x2048x64 ![0, 0, 0, 64] · slices_S2x16x2048x128_S2x16x2048x64_0_0_0_64) : (⟨S2x16x2048x128, .f32⟩ : BufTy).Contents (Elt F) → (⟨S2x16x2048x64, .f32⟩ : BufTy).Contents (Elt F)),
    StableHlo.unary main_v73 main_v74 (Host.negf : (⟨S2x16x2048x64, .f32⟩ : BufTy).Contents (Elt F) → (⟨S2x16x2048x64, .f32⟩ : BufTy).Contents (Elt F)),
    StableHlo.binary main_v74 main_v72 main_v75 ((fun a b => concatenate S2x16x2048x128 3 [⟨S2x16x2048x64, a⟩, ⟨S2x16x2048x64, b⟩] concatenates_S2x16x2048x64_S2x16x2048x64_S2x16x2048x128_d3) : (⟨S2x16x2048x64, .f32⟩ : BufTy).Contents (Elt F) → (⟨S2x16x2048x64, .f32⟩ : BufTy).Contents (Elt F) → (⟨S2x16x2048x128, .f32⟩ : BufTy).Contents (Elt F)),
    StableHlo.unary main_v57 main_v76 (broadcastInDim S1x1x2048x128 ![2, 3] bcast_S2048x128_S1x1x2048x128_2_3 : (⟨S2048x128, .f32⟩ : BufTy).Contents (Elt F) → (⟨S1x1x2048x128, .f32⟩ : BufTy).Contents (Elt F)),
    StableHlo.unary main_v76 main_v77 (broadcastInDim S2x16x2048x128 ![0, 1, 2, 3] bcast_S1x1x2048x128_S2x16x2048x128_0_1_2_3 : (⟨S1x1x2048x128, .f32⟩ : BufTy).Contents (Elt F) → (⟨S2x16x2048x128, .f32⟩ : BufTy).Contents (Elt F)),
    StableHlo.binary main_v75 main_v77 main_v78 (mulf : (⟨S2x16x2048x128, .f32⟩ : BufTy).Contents (Elt F) → (⟨S2x16x2048x128, .f32⟩ : BufTy).Contents (Elt F) → (⟨S2x16x2048x128, .f32⟩ : BufTy).Contents (Elt F)),
    StableHlo.binary main_v71 main_v78 main_v79 (addf : (⟨S2x16x2048x128, .f32⟩ : BufTy).Contents (Elt F) → (⟨S2x16x2048x128, .f32⟩ : BufTy).Contents (Elt F) → (⟨S2x16x2048x128, .f32⟩ : BufTy).Contents (Elt F)) ]
/-- The reference each operation of `opsRopeK` writes, in order. -/
abbrev opsRopeK_W : List (Ref sig .tc) := [main_v69, main_v70, main_v71, main_v72, main_v73, main_v74, main_v75, main_v76, main_v77, main_v78, main_v79]
/-- A reference outside `opsRopeK_W` keeps its contents across the stage. -/
theorem opsRopeK_of (V : Valuation τ sig (Elt F)) (r : Ref sig .tc) (h : r ∉ opsRopeK_W) : StableHlo.after opsRopeK V (Proc.devRef .tc r) = V (Proc.devRef .tc r) :=
  StableHlo.after_unwritten opsRopeK_W rfl h V

/-- The reference's stage `Score`: 25 host operations, ending with `main_v90`. -/
abbrev opsScore : List (HloOp τ sig (Elt F)) :=
  [ StableHlo.binary main_v68 main_v79 main_v80 ((fun l r => Host.dotGeneral dot_S2x16x2048x128_S2x16x2048x128_S2x16x2048x2048_3_3_2_2_01_01 none l r) : (⟨S2x16x2048x128, .f32⟩ : BufTy).Contents (Elt F) → (⟨S2x16x2048x128, .f32⟩ : BufTy).Contents (Elt F) → (⟨S2x16x2048x2048, .f32⟩ : BufTy).Contents (Elt F)),
    StableHlo.nullary main_cst_8 (constant S_ .f32 0x413504F3#32),
    StableHlo.unary main_cst_8 main_v81 (broadcastInDim S2x16x2048x2048 ![] bcast_S_S2x16x2048x2048 : (⟨S_, .f32⟩ : BufTy).Contents (Elt F) → (⟨S2x16x2048x2048, .f32⟩ : BufTy).Contents (Elt F)),
    StableHlo.binary main_v80 main_v81 main_v82 (Host.divf : (⟨S2x16x2048x2048, .f32⟩ : BufTy).Contents (Elt F) → (⟨S2x16x2048x2048, .f32⟩ : BufTy).Contents (Elt F) → (⟨S2x16x2048x2048, .f32⟩ : BufTy).Contents (Elt F)),
    StableHlo.nullary main_c_9 (constantI S_ 1 1#1),
    StableHlo.unary main_c_9 main_v83 (broadcastInDim S2048x2048 ![] bcast_S_S2048x2048 : (⟨S_, .i1⟩ : BufTy).Contents (Elt F) → (⟨S2048x2048, .i1⟩ : BufTy).Contents (Elt F)),
    StableHlo.nullary main_call2_v0 (iotaInDim S2048x2048 32 0),
    StableHlo.nullary main_call2_c (constantI S_ 32 0#32),
    StableHlo.unary main_call2_c main_call2_v1 ((broadcastInDim S2048x2048 ![] bcast_S_S2048x2048) : (⟨S_, .i32⟩ : BufTy).Contents (Elt F) → (⟨S2048x2048, .i32⟩ : BufTy).Contents (Elt F)),
    StableHlo.binary main_call2_v0 main_call2_v1 main_call2_v2 (addi : (⟨S2048x2048, .i32⟩ : BufTy).Contents (Elt F) → (⟨S2048x2048, .i32⟩ : BufTy).Contents (Elt F) → (⟨S2048x2048, .i32⟩ : BufTy).Contents (Elt F)),
    StableHlo.nullary main_call2_v3 (iotaInDim S2048x2048 32 1),
    StableHlo.binary main_call2_v2 main_call2_v3 main_call2_v4 ((cmpi .sge) : (⟨S2048x2048, .i32⟩ : BufTy).Contents (Elt F) → (⟨S2048x2048, .i32⟩ : BufTy).Contents (Elt F) → (⟨S2048x2048, .i1⟩ : BufTy).Contents (Elt F)),
    StableHlo.nullary main_call2_c_0 (constantI S_ 1 0#1),
    StableHlo.unary main_call2_c_0 main_call2_v5 ((broadcastInDim S2048x2048 ![] bcast_S_S2048x2048) : (⟨S_, .i1⟩ : BufTy).Contents (Elt F) → (⟨S2048x2048, .i1⟩ : BufTy).Contents (Elt F)),
    StableHlo.ternary main_call2_v4 main_v83 main_call2_v5 main_v84 (select : (⟨S2048x2048, .i1⟩ : BufTy).Contents (Elt F) → (⟨S2048x2048, .i1⟩ : BufTy).Contents (Elt F) → (⟨S2048x2048, .i1⟩ : BufTy).Contents (Elt F) → (⟨S2048x2048, .i1⟩ : BufTy).Contents (Elt F)),
    StableHlo.unary main_v84 main_v85 (broadcastInDim S1x1x2048x2048 ![2, 3] bcast_S2048x2048_S1x1x2048x2048_2_3 : (⟨S2048x2048, .i1⟩ : BufTy).Contents (Elt F) → (⟨S1x1x2048x2048, .i1⟩ : BufTy).Contents (Elt F)),
    StableHlo.unary main_arg1 main_v86 (broadcastInDim S2x1x1x2048 ![0, 3] bcast_S2x2048_S2x1x1x2048_0_3 : (⟨S2x2048, .i1⟩ : BufTy).Contents (Elt F) → (⟨S2x1x1x2048, .i1⟩ : BufTy).Contents (Elt F)),
    StableHlo.unary main_v85 main_v87 (broadcastInDim S2x1x2048x2048 ![0, 1, 2, 3] bcast_S1x1x2048x2048_S2x1x2048x2048_0_1_2_3 : (⟨S1x1x2048x2048, .i1⟩ : BufTy).Contents (Elt F) → (⟨S2x1x2048x2048, .i1⟩ : BufTy).Contents (Elt F)),
    StableHlo.unary main_v86 main_v88 (broadcastInDim S2x1x2048x2048 ![0, 1, 2, 3] bcast_S2x1x1x2048_S2x1x2048x2048_0_1_2_3 : (⟨S2x1x1x2048, .i1⟩ : BufTy).Contents (Elt F) → (⟨S2x1x2048x2048, .i1⟩ : BufTy).Contents (Elt F)),
    StableHlo.binary main_v87 main_v88 main_v89 (andi : (⟨S2x1x2048x2048, .i1⟩ : BufTy).Contents (Elt F) → (⟨S2x1x2048x2048, .i1⟩ : BufTy).Contents (Elt F) → (⟨S2x1x2048x2048, .i1⟩ : BufTy).Contents (Elt F)),
    StableHlo.nullary main_cst_10 (constant S_ .f32 0xFF800000#32),
    StableHlo.unary main_cst_10 main_call3_v0 (id : (⟨S_, .f32⟩ : BufTy).Contents (Elt F) → (⟨S_, .f32⟩ : BufTy).Contents (Elt F)),
    StableHlo.unary main_v89 main_call3_v1 ((broadcastInDim S2x16x2048x2048 ![0, 1, 2, 3] bcast_S2x1x2048x2048_S2x16x2048x2048_0_1_2_3) : (⟨S2x1x2048x2048, .i1⟩ : BufTy).Contents (Elt F) → (⟨S2x16x2048x2048, .i1⟩ : BufTy).Contents (Elt F)),
    StableHlo.unary main_call3_v0 main_call3_v2 ((broadcastInDim S2x16x2048x2048 ![] bcast_S_S2x16x2048x2048) : (⟨S_, .f32⟩ : BufTy).Contents (Elt F) → (⟨S2x16x2048x2048, .f32⟩ : BufTy).Contents (Elt F)),
    StableHlo.ternary main_call3_v1 main_v82 main_call3_v2 main_v90 (select : (⟨S2x16x2048x2048, .i1⟩ : BufTy).Contents (Elt F) → (⟨S2x16x2048x2048, .f32⟩ : BufTy).Contents (Elt F) → (⟨S2x16x2048x2048, .f32⟩ : BufTy).Contents (Elt F) → (⟨S2x16x2048x2048, .f32⟩ : BufTy).Contents (Elt F)) ]
/-- The reference each operation of `opsScore` writes, in order. -/
abbrev opsScore_W : List (Ref sig .tc) := [main_v80, main_cst_8, main_v81, main_v82, main_c_9, main_v83, main_call2_v0, main_call2_c, main_call2_v1, main_call2_v2, main_call2_v3, main_call2_v4, main_call2_c_0, main_call2_v5, main_v84, main_v85, main_v86, main_v87, main_v88, main_v89, main_cst_10, main_call3_v0, main_call3_v1, main_call3_v2, main_v90]
/-- A reference outside `opsScore_W` keeps its contents across the stage. -/
theorem opsScore_of (V : Valuation τ sig (Elt F)) (r : Ref sig .tc) (h : r ∉ opsScore_W) : StableHlo.after opsScore V (Proc.devRef .tc r) = V (Proc.devRef .tc r) :=
  StableHlo.after_unwritten opsScore_W rfl h V

/-- The reference's stage `Soft`: 14 host operations, ending with `main_v101`. -/
abbrev opsSoft : List (HloOp τ sig (Elt F)) :=
  [ StableHlo.nullary main_cst_11 (constant S_ .f32 0xFF800000#32),
    StableHlo.binary main_v90 main_cst_11 main_v91 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    StableHlo.nullary main_cst_12 (constant S_ .f32 0xFF800000#32),
    StableHlo.unary main_cst_12 main_v92 (broadcastInDim S2x16x2048 ![] bcast_S_S2x16x2048 : (⟨S_, .f32⟩ : BufTy).Contents (Elt F) → (⟨S2x16x2048, .f32⟩ : BufTy).Contents (Elt F)),
    StableHlo.binary main_v92 main_v91 main_v93 (maximumf : (⟨S2x16x2048, .f32⟩ : BufTy).Contents (Elt F) → (⟨S2x16x2048, .f32⟩ : BufTy).Contents (Elt F) → (⟨S2x16x2048, .f32⟩ : BufTy).Contents (Elt F)),
    StableHlo.unary main_v93 main_v94 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    StableHlo.unary main_v94 main_v95 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    StableHlo.binary main_v90 main_v95 main_v96 (subf : (⟨S2x16x2048x2048, .f32⟩ : BufTy).Contents (Elt F) → (⟨S2x16x2048x2048, .f32⟩ : BufTy).Contents (Elt F) → (⟨S2x16x2048x2048, .f32⟩ : BufTy).Contents (Elt F)),
    StableHlo.unary main_v96 main_v97 (Host.exp : (⟨S2x16x2048x2048, .f32⟩ : BufTy).Contents (Elt F) → (⟨S2x16x2048x2048, .f32⟩ : BufTy).Contents (Elt F)),
    StableHlo.nullary main_cst_13 (constant S_ .f32 0x00000000#32),
    StableHlo.binary main_v97 main_cst_13 main_v98 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    StableHlo.unary main_v98 main_v99 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    StableHlo.unary main_v99 main_v100 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    StableHlo.binary main_v97 main_v100 main_v101 (Host.divf : (⟨S2x16x2048x2048, .f32⟩ : BufTy).Contents (Elt F) → (⟨S2x16x2048x2048, .f32⟩ : BufTy).Contents (Elt F) → (⟨S2x16x2048x2048, .f32⟩ : BufTy).Contents (Elt F)) ]
/-- The reference each operation of `opsSoft` writes, in order. -/
abbrev opsSoft_W : List (Ref sig .tc) := [main_cst_11, main_v91, main_cst_12, main_v92, main_v93, main_v94, main_v95, main_v96, main_v97, main_cst_13, main_v98, main_v99, main_v100, main_v101]
/-- A reference outside `opsSoft_W` keeps its contents across the stage. -/
theorem opsSoft_of (V : Valuation τ sig (Elt F)) (r : Ref sig .tc) (h : r ∉ opsSoft_W) : StableHlo.after opsSoft V (Proc.devRef .tc r) = V (Proc.devRef .tc r) :=
  StableHlo.after_unwritten opsSoft_W rfl h V

/-- The reference's stage `AttnOut`: 4 host operations, ending with `main_v105`. -/
abbrev opsAttnOut : List (HloOp τ sig (Elt F)) :=
  [ StableHlo.binary main_v101 main_v37 main_v102 ((fun l r => Host.dotGeneral dot_S2x16x2048x2048_S2x16x2048x128_S2x16x2048x128_3_2_2_3_01_01 none l r) : (⟨S2x16x2048x2048, .f32⟩ : BufTy).Contents (Elt F) → (⟨S2x16x2048x128, .f32⟩ : BufTy).Contents (Elt F) → (⟨S2x16x2048x128, .f32⟩ : BufTy).Contents (Elt F)),
    StableHlo.unary main_v102 main_v103 ((transpose S2x2048x16x128 [0, 2, 1, 3] · transposes_S2x16x2048x128_S2x2048x16x128_0_2_1_3) : (⟨S2x16x2048x128, .f32⟩ : BufTy).Contents (Elt F) → (⟨S2x2048x16x128, .f32⟩ : BufTy).Contents (Elt F)),
    StableHlo.reshape main_v103 main_v104 (rfl : (.f32 : EltTy) = .f32) shapeCasts_S2x2048x16x128_S2x2048x2048,
    StableHlo.binary main_v104 main_arg7 main_v105 ((fun l r => Host.dotGeneral dot_S2x2048x2048_S2048x2048_S2x2048x2048_2_0_01_1_n_n none l r) : (⟨S2x2048x2048, .f32⟩ : BufTy).Contents (Elt F) → (⟨S2048x2048, .f32⟩ : BufTy).Contents (Elt F) → (⟨S2x2048x2048, .f32⟩ : BufTy).Contents (Elt F)) ]
/-- The reference each operation of `opsAttnOut` writes, in order. -/
abbrev opsAttnOut_W : List (Ref sig .tc) := [main_v102, main_v103, main_v104, main_v105]
/-- A reference outside `opsAttnOut_W` keeps its contents across the stage. -/
theorem opsAttnOut_of (V : Valuation τ sig (Elt F)) (r : Ref sig .tc) (h : r ∉ opsAttnOut_W) : StableHlo.after opsAttnOut V (Proc.devRef .tc r) = V (Proc.devRef .tc r) :=
  StableHlo.after_unwritten opsAttnOut_W rfl h V

/-- The reference's stage `Resid`: 7 host operations, ending with `main_v108`. -/
abbrev opsResid : List (HloOp τ sig (Elt F)) :=
  [ StableHlo.unary main_v7 main_v106 (broadcastInDim S2x2048x1 ![0, 1] bcast_S2x2048_S2x2048x1_0_1 : (⟨S2x2048, .i1⟩ : BufTy).Contents (Elt F) → (⟨S2x2048x1, .i1⟩ : BufTy).Contents (Elt F)),
    StableHlo.nullary main_cst_14 (constant S_ .f32 0x00000000#32),
    StableHlo.unary main_cst_14 main_call4_v0 (id : (⟨S_, .f32⟩ : BufTy).Contents (Elt F) → (⟨S_, .f32⟩ : BufTy).Contents (Elt F)),
    StableHlo.unary main_v106 main_call4_v1 ((broadcastInDim S2x2048x2048 ![0, 1, 2] bcast_S2x2048x1_S2x2048x2048_0_1_2) : (⟨S2x2048x1, .i1⟩ : BufTy).Contents (Elt F) → (⟨S2x2048x2048, .i1⟩ : BufTy).Contents (Elt F)),
    StableHlo.unary main_call4_v0 main_call4_v2 ((broadcastInDim S2x2048x2048 ![] bcast_S_S2x2048x2048) : (⟨S_, .f32⟩ : BufTy).Contents (Elt F) → (⟨S2x2048x2048, .f32⟩ : BufTy).Contents (Elt F)),
    StableHlo.ternary main_call4_v1 main_call4_v2 main_v105 main_v107 (select : (⟨S2x2048x2048, .i1⟩ : BufTy).Contents (Elt F) → (⟨S2x2048x2048, .f32⟩ : BufTy).Contents (Elt F) → (⟨S2x2048x2048, .f32⟩ : BufTy).Contents (Elt F) → (⟨S2x2048x2048, .f32⟩ : BufTy).Contents (Elt F)),
    StableHlo.binary main_v107 main_arg0 main_v108 (addf : (⟨S2x2048x2048, .f32⟩ : BufTy).Contents (Elt F) → (⟨S2x2048x2048, .f32⟩ : BufTy).Contents (Elt F) → (⟨S2x2048x2048, .f32⟩ : BufTy).Contents (Elt F)) ]
/-- The reference each operation of `opsResid` writes, in order. -/
abbrev opsResid_W : List (Ref sig .tc) := [main_v106, main_cst_14, main_call4_v0, main_call4_v1, main_call4_v2, main_v107, main_v108]
/-- A reference outside `opsResid_W` keeps its contents across the stage. -/
theorem opsResid_of (V : Valuation τ sig (Elt F)) (r : Ref sig .tc) (h : r ∉ opsResid_W) : StableHlo.after opsResid V (Proc.devRef .tc r) = V (Proc.devRef .tc r) :=
  StableHlo.after_unwritten opsResid_W rfl h V

/-- The reference's stage `Norm2`: 16 host operations, ending with `main_v121`. -/
abbrev opsNorm2 : List (HloOp τ sig (Elt F)) :=
  [ StableHlo.binary main_v108 main_v108 main_v109 (mulf : (⟨S2x2048x2048, .f32⟩ : BufTy).Contents (Elt F) → (⟨S2x2048x2048, .f32⟩ : BufTy).Contents (Elt F) → (⟨S2x2048x2048, .f32⟩ : BufTy).Contents (Elt F)),
    StableHlo.nullary main_cst_15 (constant S_ .f32 0x00000000#32),
    StableHlo.binary main_v109 main_cst_15 main_v110 ((fun x v => Host.reduceAdd x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    StableHlo.unary main_v110 main_v111 (broadcastInDim S2x2048x1 ![0, 1] bcast_S2x2048_S2x2048x1_0_1 : (⟨S2x2048, .f32⟩ : BufTy).Contents (Elt F) → (⟨S2x2048x1, .f32⟩ : BufTy).Contents (Elt F)),
    StableHlo.nullary main_cst_16 (constant S_ .f32 0x45000000#32),
    StableHlo.unary main_cst_16 main_v112 (broadcastInDim S2x2048x1 ![] bcast_S_S2x2048x1 : (⟨S_, .f32⟩ : BufTy).Contents (Elt F) → (⟨S2x2048x1, .f32⟩ : BufTy).Contents (Elt F)),
    StableHlo.binary main_v111 main_v112 main_v113 (Host.divf : (⟨S2x2048x1, .f32⟩ : BufTy).Contents (Elt F) → (⟨S2x2048x1, .f32⟩ : BufTy).Contents (Elt F) → (⟨S2x2048x1, .f32⟩ : BufTy).Contents (Elt F)),
    StableHlo.nullary main_cst_17 (constant S_ .f32 0x3727C5AC#32),
    StableHlo.unary main_cst_17 main_v114 (broadcastInDim S2x2048x1 ![] bcast_S_S2x2048x1 : (⟨S_, .f32⟩ : BufTy).Contents (Elt F) → (⟨S2x2048x1, .f32⟩ : BufTy).Contents (Elt F)),
    StableHlo.binary main_v113 main_v114 main_v115 (addf : (⟨S2x2048x1, .f32⟩ : BufTy).Contents (Elt F) → (⟨S2x2048x1, .f32⟩ : BufTy).Contents (Elt F) → (⟨S2x2048x1, .f32⟩ : BufTy).Contents (Elt F)),
    StableHlo.unary main_v115 main_v116 (Host.rsqrt : (⟨S2x2048x1, .f32⟩ : BufTy).Contents (Elt F) → (⟨S2x2048x1, .f32⟩ : BufTy).Contents (Elt F)),
    StableHlo.unary main_v116 main_v117 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    StableHlo.binary main_v108 main_v117 main_v118 (mulf : (⟨S2x2048x2048, .f32⟩ : BufTy).Contents (Elt F) → (⟨S2x2048x2048, .f32⟩ : BufTy).Contents (Elt F) → (⟨S2x2048x2048, .f32⟩ : BufTy).Contents (Elt F)),
    StableHlo.unary main_arg3 main_v119 (broadcastInDim S1x1x2048 ![2] bcast_S2048_S1x1x2048_2 : (⟨S2048, .f32⟩ : BufTy).Contents (Elt F) → (⟨S1x1x2048, .f32⟩ : BufTy).Contents (Elt F)),
    StableHlo.unary main_v119 main_v120 (broadcastInDim S2x2048x2048 ![0, 1, 2] bcast_S1x1x2048_S2x2048x2048_0_1_2 : (⟨S1x1x2048, .f32⟩ : BufTy).Contents (Elt F) → (⟨S2x2048x2048, .f32⟩ : BufTy).Contents (Elt F)),
    StableHlo.binary main_v118 main_v120 main_v121 (mulf : (⟨S2x2048x2048, .f32⟩ : BufTy).Contents (Elt F) → (⟨S2x2048x2048, .f32⟩ : BufTy).Contents (Elt F) → (⟨S2x2048x2048, .f32⟩ : BufTy).Contents (Elt F)) ]
/-- The reference each operation of `opsNorm2` writes, in order. -/
abbrev opsNorm2_W : List (Ref sig .tc) := [main_v109, main_cst_15, main_v110, main_v111, main_cst_16, main_v112, main_v113, main_cst_17, main_v114, main_v115, main_v116, main_v117, main_v118, main_v119, main_v120, main_v121]
/-- A reference outside `opsNorm2_W` keeps its contents across the stage. -/
theorem opsNorm2_of (V : Valuation τ sig (Elt F)) (r : Ref sig .tc) (h : r ∉ opsNorm2_W) : StableHlo.after opsNorm2 V (Proc.devRef .tc r) = V (Proc.devRef .tc r) :=
  StableHlo.after_unwritten opsNorm2_W rfl h V

/-- The reference's stage `Mlp`: 13 host operations, ending with `main_v126`. -/
abbrev opsMlp : List (HloOp τ sig (Elt F)) :=
  [ StableHlo.binary main_v121 main_arg8 main_v122 ((fun l r => Host.dotGeneral dot_S2x2048x2048_S2048x5632_S2x2048x5632_2_0_01_1_n_n none l r) : (⟨S2x2048x2048, .f32⟩ : BufTy).Contents (Elt F) → (⟨S2048x5632, .f32⟩ : BufTy).Contents (Elt F) → (⟨S2x2048x5632, .f32⟩ : BufTy).Contents (Elt F)),
    StableHlo.unary main_v122 main_call5_v0 (Host.negf : (⟨S2x2048x5632, .f32⟩ : BufTy).Contents (Elt F) → (⟨S2x2048x5632, .f32⟩ : BufTy).Contents (Elt F)),
    StableHlo.unary main_call5_v0 main_call5_v1 (Host.exp : (⟨S2x2048x5632, .f32⟩ : BufTy).Contents (Elt F) → (⟨S2x2048x5632, .f32⟩ : BufTy).Contents (Elt F)),
    StableHlo.nullary main_call5_cst (constant S_ .f32 0x3F800000#32),
    StableHlo.unary main_call5_cst main_call5_v2 ((broadcastInDim S2x2048x5632 ![] bcast_S_S2x2048x5632) : (⟨S_, .f32⟩ : BufTy).Contents (Elt F) → (⟨S2x2048x5632, .f32⟩ : BufTy).Contents (Elt F)),
    StableHlo.binary main_call5_v2 main_call5_v1 main_call5_v3 (addf : (⟨S2x2048x5632, .f32⟩ : BufTy).Contents (Elt F) → (⟨S2x2048x5632, .f32⟩ : BufTy).Contents (Elt F) → (⟨S2x2048x5632, .f32⟩ : BufTy).Contents (Elt F)),
    StableHlo.nullary main_call5_cst_0 (constant S_ .f32 0x3F800000#32),
    StableHlo.unary main_call5_cst_0 main_call5_v4 ((broadcastInDim S2x2048x5632 ![] bcast_S_S2x2048x5632) : (⟨S_, .f32⟩ : BufTy).Contents (Elt F) → (⟨S2x2048x5632, .f32⟩ : BufTy).Contents (Elt F)),
    StableHlo.binary main_call5_v4 main_call5_v3 main_call5_v5 (Host.divf : (⟨S2x2048x5632, .f32⟩ : BufTy).Contents (Elt F) → (⟨S2x2048x5632, .f32⟩ : BufTy).Contents (Elt F) → (⟨S2x2048x5632, .f32⟩ : BufTy).Contents (Elt F)),
    StableHlo.binary main_v122 main_call5_v5 main_v123 (mulf : (⟨S2x2048x5632, .f32⟩ : BufTy).Contents (Elt F) → (⟨S2x2048x5632, .f32⟩ : BufTy).Contents (Elt F) → (⟨S2x2048x5632, .f32⟩ : BufTy).Contents (Elt F)),
    StableHlo.binary main_v121 main_arg9 main_v124 ((fun l r => Host.dotGeneral dot_S2x2048x2048_S2048x5632_S2x2048x5632_2_0_01_1_n_n none l r) : (⟨S2x2048x2048, .f32⟩ : BufTy).Contents (Elt F) → (⟨S2048x5632, .f32⟩ : BufTy).Contents (Elt F) → (⟨S2x2048x5632, .f32⟩ : BufTy).Contents (Elt F)),
    StableHlo.binary main_v123 main_v124 main_v125 (mulf : (⟨S2x2048x5632, .f32⟩ : BufTy).Contents (Elt F) → (⟨S2x2048x5632, .f32⟩ : BufTy).Contents (Elt F) → (⟨S2x2048x5632, .f32⟩ : BufTy).Contents (Elt F)),
    StableHlo.binary main_v125 main_arg10 main_v126 ((fun l r => Host.dotGeneral dot_S2x2048x5632_S5632x2048_S2x2048x2048_2_0_01_1_n_n none l r) : (⟨S2x2048x5632, .f32⟩ : BufTy).Contents (Elt F) → (⟨S5632x2048, .f32⟩ : BufTy).Contents (Elt F) → (⟨S2x2048x2048, .f32⟩ : BufTy).Contents (Elt F)) ]
/-- The reference each operation of `opsMlp` writes, in order. -/
abbrev opsMlp_W : List (Ref sig .tc) := [main_v122, main_call5_v0, main_call5_v1, main_call5_cst, main_call5_v2, main_call5_v3, main_call5_cst_0, main_call5_v4, main_call5_v5, main_v123, main_v124, main_v125, main_v126]
/-- A reference outside `opsMlp_W` keeps its contents across the stage. -/
theorem opsMlp_of (V : Valuation τ sig (Elt F)) (r : Ref sig .tc) (h : r ∉ opsMlp_W) : StableHlo.after opsMlp V (Proc.devRef .tc r) = V (Proc.devRef .tc r) :=
  StableHlo.after_unwritten opsMlp_W rfl h V

/-- The reference's stage `Out`: 7 host operations, ending with `main_v129`. -/
abbrev opsOut : List (HloOp τ sig (Elt F)) :=
  [ StableHlo.unary main_v15 main_v127 (broadcastInDim S2x2048x1 ![0, 1] bcast_S2x2048_S2x2048x1_0_1 : (⟨S2x2048, .i1⟩ : BufTy).Contents (Elt F) → (⟨S2x2048x1, .i1⟩ : BufTy).Contents (Elt F)),
    StableHlo.nullary main_cst_18 (constant S_ .f32 0x00000000#32),
    StableHlo.unary main_cst_18 main_call6_v0 (id : (⟨S_, .f32⟩ : BufTy).Contents (Elt F) → (⟨S_, .f32⟩ : BufTy).Contents (Elt F)),
    StableHlo.unary main_v127 main_call6_v1 ((broadcastInDim S2x2048x2048 ![0, 1, 2] bcast_S2x2048x1_S2x2048x2048_0_1_2) : (⟨S2x2048x1, .i1⟩ : BufTy).Contents (Elt F) → (⟨S2x2048x2048, .i1⟩ : BufTy).Contents (Elt F)),
    StableHlo.unary main_call6_v0 main_call6_v2 ((broadcastInDim S2x2048x2048 ![] bcast_S_S2x2048x2048) : (⟨S_, .f32⟩ : BufTy).Contents (Elt F) → (⟨S2x2048x2048, .f32⟩ : BufTy).Contents (Elt F)),
    StableHlo.ternary main_call6_v1 main_call6_v2 main_v126 main_v128 (select : (⟨S2x2048x2048, .i1⟩ : BufTy).Contents (Elt F) → (⟨S2x2048x2048, .f32⟩ : BufTy).Contents (Elt F) → (⟨S2x2048x2048, .f32⟩ : BufTy).Contents (Elt F) → (⟨S2x2048x2048, .f32⟩ : BufTy).Contents (Elt F)),
    StableHlo.binary main_v108 main_v128 main_v129 (addf : (⟨S2x2048x2048, .f32⟩ : BufTy).Contents (Elt F) → (⟨S2x2048x2048, .f32⟩ : BufTy).Contents (Elt F) → (⟨S2x2048x2048, .f32⟩ : BufTy).Contents (Elt F)) ]
/-- The reference each operation of `opsOut` writes, in order. -/
abbrev opsOut_W : List (Ref sig .tc) := [main_v127, main_cst_18, main_call6_v0, main_call6_v1, main_call6_v2, main_v128, main_v129]
/-- A reference outside `opsOut_W` keeps its contents across the stage. -/
theorem opsOut_of (V : Valuation τ sig (Elt F)) (r : Ref sig .tc) (h : r ∉ opsOut_W) : StableHlo.after opsOut V (Proc.devRef .tc r) = V (Proc.devRef .tc r) :=
  StableHlo.after_unwritten opsOut_W rfl h V

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14]
/-- Every stage, in order. -/
abbrev refOps : List (HloOp τ sig (Elt F)) := opsRoute ++ (opsNorm1 ++ (opsProj ++ (opsAngle ++ (opsRopeQ ++ (opsRopeK ++ (opsScore ++ (opsSoft ++ (opsAttnOut ++ (opsResid ++ (opsNorm2 ++ (opsMlp ++ (opsOut))))))))))))
set_option maxHeartbeats 4000000 in
/-- The printed program is the stages in order. -/
theorem main_isSeq (d : Dev nD) : StableHlo.IsSeq (main (F := F) d) refOps := by
  unfold StableHlo.IsSeq
  rfl

/-- The contents after the reference's stages, from launch contents `V`: one definition per stage. -/
def U1 (V : Valuation τ sig (Elt F)) : Valuation τ sig (Elt F) := StableHlo.after opsRoute V
def U2 (V : Valuation τ sig (Elt F)) : Valuation τ sig (Elt F) := StableHlo.after opsNorm1 (U1 V)
def U3 (V : Valuation τ sig (Elt F)) : Valuation τ sig (Elt F) := StableHlo.after opsProj (U2 V)
def U4 (V : Valuation τ sig (Elt F)) : Valuation τ sig (Elt F) := StableHlo.after opsAngle (U3 V)
def U5 (V : Valuation τ sig (Elt F)) : Valuation τ sig (Elt F) := StableHlo.after opsRopeQ (U4 V)
def U6 (V : Valuation τ sig (Elt F)) : Valuation τ sig (Elt F) := StableHlo.after opsRopeK (U5 V)
def U7 (V : Valuation τ sig (Elt F)) : Valuation τ sig (Elt F) := StableHlo.after opsScore (U6 V)
def U8 (V : Valuation τ sig (Elt F)) : Valuation τ sig (Elt F) := StableHlo.after opsSoft (U7 V)
def U9 (V : Valuation τ sig (Elt F)) : Valuation τ sig (Elt F) := StableHlo.after opsAttnOut (U8 V)
def U10 (V : Valuation τ sig (Elt F)) : Valuation τ sig (Elt F) := StableHlo.after opsResid (U9 V)
def U11 (V : Valuation τ sig (Elt F)) : Valuation τ sig (Elt F) := StableHlo.after opsNorm2 (U10 V)
def U12 (V : Valuation τ sig (Elt F)) : Valuation τ sig (Elt F) := StableHlo.after opsMlp (U11 V)
def U13 (V : Valuation τ sig (Elt F)) : Valuation τ sig (Elt F) := StableHlo.after opsOut (U12 V)
theorem after_refOps (V : Valuation τ sig (Elt F)) : StableHlo.after refOps V = U13 V := by
  simp only [refOps, StableHlo.after_append]
  rfl
theorem U1_args (V : Valuation τ sig (Elt F)) (a : Ref sig .tc) (h : a ∈ argRefs) : U1 V (Proc.devRef .tc a) = V (Proc.devRef .tc a) :=
  (opsRoute_of _ a ((ListAll.forall_mem_of_all_decide (by decide +kernel) : ∀ a ∈ argRefs, a ∉ opsRoute_W) a h)).trans rfl
theorem U2_args (V : Valuation τ sig (Elt F)) (a : Ref sig .tc) (h : a ∈ argRefs) : U2 V (Proc.devRef .tc a) = V (Proc.devRef .tc a) :=
  (opsNorm1_of _ a ((ListAll.forall_mem_of_all_decide (by decide +kernel) : ∀ a ∈ argRefs, a ∉ opsNorm1_W) a h)).trans (U1_args V a h)
theorem U3_args (V : Valuation τ sig (Elt F)) (a : Ref sig .tc) (h : a ∈ argRefs) : U3 V (Proc.devRef .tc a) = V (Proc.devRef .tc a) :=
  (opsProj_of _ a ((ListAll.forall_mem_of_all_decide (by decide +kernel) : ∀ a ∈ argRefs, a ∉ opsProj_W) a h)).trans (U2_args V a h)
theorem U4_args (V : Valuation τ sig (Elt F)) (a : Ref sig .tc) (h : a ∈ argRefs) : U4 V (Proc.devRef .tc a) = V (Proc.devRef .tc a) :=
  (opsAngle_of _ a ((ListAll.forall_mem_of_all_decide (by decide +kernel) : ∀ a ∈ argRefs, a ∉ opsAngle_W) a h)).trans (U3_args V a h)
theorem U5_args (V : Valuation τ sig (Elt F)) (a : Ref sig .tc) (h : a ∈ argRefs) : U5 V (Proc.devRef .tc a) = V (Proc.devRef .tc a) :=
  (opsRopeQ_of _ a ((ListAll.forall_mem_of_all_decide (by decide +kernel) : ∀ a ∈ argRefs, a ∉ opsRopeQ_W) a h)).trans (U4_args V a h)
theorem U6_args (V : Valuation τ sig (Elt F)) (a : Ref sig .tc) (h : a ∈ argRefs) : U6 V (Proc.devRef .tc a) = V (Proc.devRef .tc a) :=
  (opsRopeK_of _ a ((ListAll.forall_mem_of_all_decide (by decide +kernel) : ∀ a ∈ argRefs, a ∉ opsRopeK_W) a h)).trans (U5_args V a h)
theorem U7_args (V : Valuation τ sig (Elt F)) (a : Ref sig .tc) (h : a ∈ argRefs) : U7 V (Proc.devRef .tc a) = V (Proc.devRef .tc a) :=
  (opsScore_of _ a ((ListAll.forall_mem_of_all_decide (by decide +kernel) : ∀ a ∈ argRefs, a ∉ opsScore_W) a h)).trans (U6_args V a h)
theorem U8_args (V : Valuation τ sig (Elt F)) (a : Ref sig .tc) (h : a ∈ argRefs) : U8 V (Proc.devRef .tc a) = V (Proc.devRef .tc a) :=
  (opsSoft_of _ a ((ListAll.forall_mem_of_all_decide (by decide +kernel) : ∀ a ∈ argRefs, a ∉ opsSoft_W) a h)).trans (U7_args V a h)
theorem U9_args (V : Valuation τ sig (Elt F)) (a : Ref sig .tc) (h : a ∈ argRefs) : U9 V (Proc.devRef .tc a) = V (Proc.devRef .tc a) :=
  (opsAttnOut_of _ a ((ListAll.forall_mem_of_all_decide (by decide +kernel) : ∀ a ∈ argRefs, a ∉ opsAttnOut_W) a h)).trans (U8_args V a h)
theorem U10_args (V : Valuation τ sig (Elt F)) (a : Ref sig .tc) (h : a ∈ argRefs) : U10 V (Proc.devRef .tc a) = V (Proc.devRef .tc a) :=
  (opsResid_of _ a ((ListAll.forall_mem_of_all_decide (by decide +kernel) : ∀ a ∈ argRefs, a ∉ opsResid_W) a h)).trans (U9_args V a h)
theorem U11_args (V : Valuation τ sig (Elt F)) (a : Ref sig .tc) (h : a ∈ argRefs) : U11 V (Proc.devRef .tc a) = V (Proc.devRef .tc a) :=
  (opsNorm2_of _ a ((ListAll.forall_mem_of_all_decide (by decide +kernel) : ∀ a ∈ argRefs, a ∉ opsNorm2_W) a h)).trans (U10_args V a h)
theorem U12_args (V : Valuation τ sig (Elt F)) (a : Ref sig .tc) (h : a ∈ argRefs) : U12 V (Proc.devRef .tc a) = V (Proc.devRef .tc a) :=
  (opsMlp_of _ a ((ListAll.forall_mem_of_all_decide (by decide +kernel) : ∀ a ∈ argRefs, a ∉ opsMlp_W) a h)).trans (U11_args V a h)
theorem U13_args (V : Valuation τ sig (Elt F)) (a : Ref sig .tc) (h : a ∈ argRefs) : U13 V (Proc.devRef .tc a) = V (Proc.devRef .tc a) :=
  (opsOut_of _ a ((ListAll.forall_mem_of_all_decide (by decide +kernel) : ∀ a ∈ argRefs, a ∉ opsOut_W) a h)).trans (U12_args V a h)

set_option maxHeartbeats 4000000 in
/-- The run: every buffer ends with the last stage's contents. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = U13 (StableHlo.launchContents m d) (Proc.devRef .tc b)) := by
  refine θ_run_mono (StableHlo.run_hlo _ _ main_isSeq (by decide) (by decide) (by simp)
      (by intro _ h; (repeat (cases h with | head => rfl | tail _ h => ?_)); exact nomatch h) m ρ) fun r h d b => ?_
  exact (h d b).trans (congrFun (after_refOps _) _)

/-- The run of the reference leaves the arguments unchanged and every semaphore counter at zero. -/
theorem run_ref_args (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0 :=
  θ_run_mono (run_ref m ρ) fun r h => ⟨fun c => ⟨(h c main_arg0).trans (U13_args _ _ (by decide)), (h c main_arg1).trans (U13_args _ _ (by decide)), (h c main_arg2).trans (U13_args _ _ (by decide)), (h c main_arg3).trans (U13_args _ _ (by decide)), (h c main_arg4).trans (U13_args _ _ (by decide)), (h c main_arg5).trans (U13_args _ _ (by decide)), (h c main_arg6).trans (U13_args _ _ (by decide)), (h c main_arg7).trans (U13_args _ _ (by decide)), (h c main_arg8).trans (U13_args _ _ (by decide)), (h c main_arg9).trans (U13_args _ _ (by decide)), (h c main_arg10).trans (U13_args _ _ (by decide)), (h c main_arg11).trans (U13_args _ _ (by decide)), (h c main_arg12).trans (U13_args _ _ (by decide)), (h c main_arg13).trans (U13_args _ _ (by decide)), (h c main_arg14).trans (U13_args _ _ (by decide))⟩, sem_eq_zero_of_no_sems (by decide) _⟩

end Cert.ReferenceIdeal.Gen

end
-- ==== Proof.Value.Math.lean ====
module

public import proofs.«01_k».proof.Proof.Value.RefRun
public import Idealize.ShloMosaic.Lib.IdealHost

/-!
The mathematics both programs compute, over extended reals, with no program in it: the block's formulas as functions of
its arguments, and the facts that carry the kernel's arrangement of them to the reference's.
-/

@[expose] public section

noncomputable section

namespace Cert.Value

open Idealize.ShloMosaic

/-! ## The literals -/

/-- The f32 nearest to the square root of 128. -/
abbrev cScale : EReal := Ideal.ofBits .f32 0x413504F3#32
/-- 2048. -/
abbrev cWidth : EReal := Ideal.ofBits .f32 0x45000000#32
/-- The f32 nearest to 1e-5. -/
abbrev cEps : EReal := Ideal.ofBits .f32 0x3727C5AC#32
/-- Negative infinity. -/
abbrev cNeg : EReal := Ideal.ofBits .f32 0xFF800000#32

theorem cScale_real : ∃ r : ℝ, 0 < r ∧ cScale = (r : EReal) := by
  refine ⟨_, ?_, by simp [cScale, Ideal.ofBits, Ideal.ieee, -EReal.coe_mul]; rfl⟩
  norm_num

theorem cWidth_real : ∃ r : ℝ, 0 < r ∧ cWidth = (r : EReal) := by
  refine ⟨_, ?_, by simp [cWidth, Ideal.ofBits, Ideal.ieee, -EReal.coe_mul]; rfl⟩
  norm_num

theorem cEps_real : ∃ r : ℝ, 0 < r ∧ cEps = (r : EReal) := by
  refine ⟨_, ?_, by simp [cEps, Ideal.ofBits, Ideal.ieee, -EReal.coe_mul]; rfl⟩
  norm_num

theorem cNeg_eq : cNeg = ⊥ := by simp [cNeg, Ideal.ofBits, Ideal.ieee]

/-! ## Real values among the extended reals -/

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : 0 < b) : Ideal.div (a : EReal) (b : EReal) = ((a / b : ℝ) : EReal) := by
  have hb' : ((b : ℝ) : EReal) ≠ 0 := by
    intro h; rw [EReal.coe_eq_zero] at h; exact hb.ne' h
  rw [Ideal.div, if_neg hb', ← EReal.coe_inv, ← EReal.coe_mul, div_eq_mul_inv]

theorem div_pos_real (x : EReal) (b : ℝ) (hb : 0 < b) : Ideal.div x (b : EReal) = x * ((b⁻¹ : ℝ) : EReal) := by
  have hb' : ((b : ℝ) : EReal) ≠ 0 := by
    intro h; rw [EReal.coe_eq_zero] at h; exact hb.ne' h
  rw [Ideal.div, if_neg hb', ← EReal.coe_inv]

theorem exp_coe (r : ℝ) : Ideal.exp (r : EReal) = ((Real.exp r : ℝ) : EReal) := rfl
theorem exp_bot : Ideal.exp ⊥ = 0 := rfl

/-- An extended real strictly between the infinities is a real. -/
theorem real_of_ne {x : EReal} (h : x ≠ ⊥) (h' : x ≠ ⊤) : ∃ r : ℝ, x = r := ⟨x.toReal, (EReal.coe_toReal h' h).symm⟩

/-! ## The normalization -/

/-- One row normalized by its root mean square and weighted. -/
def rms (x l : Fin 2048 → EReal) (d : Fin 2048) : EReal :=
  x d * Ideal.rsqrt (Ideal.div (∑ k, x k * x k) cWidth + cEps) * l d

theorem mul_self_nonneg' (x : EReal) : 0 ≤ x * x := by
  induction x using EReal.rec with
  | bot => simp
  | coe r => rw [← EReal.coe_mul]; exact EReal.coe_nonneg.mpr (mul_self_nonneg r)
  | top => simp

/-- A normalized row is real wherever its weight is: a row with an infinite entry is normalized to zero. -/
theorem rms_real (x l : Fin 2048 → EReal) (hl : ∀ d, ∃ r : ℝ, l d = r) (d : Fin 2048) : ∃ r : ℝ, rms x l d = r := by
  obtain ⟨w, hw, hW⟩ := cWidth_real
  obtain ⟨e, he, hE⟩ := cEps_real
  obtain ⟨ld, hld⟩ := hl d
  by_cases hx : ∀ k, ∃ r : ℝ, x k = r
  · choose xr hxr using hx
    have hs : (∑ k, x k * x k) = ((∑ k, xr k * xr k : ℝ) : EReal) := by
      rw [coe_sum]; exact Finset.sum_congr rfl fun k _ => by rw [hxr k, EReal.coe_mul]
    have h0 : 0 ≤ ∑ k, xr k * xr k := Finset.sum_nonneg fun k _ => mul_self_nonneg _
    have hp : 0 < (∑ k, xr k * xr k) / w + e := by positivity
    unfold rms
    rw [hs, hW, hE, div_coe _ _ hw, ← EReal.coe_add, hxr d, hld]
    have : Ideal.rsqrt (((∑ k, xr k * xr k) / w + e : ℝ) : EReal)
        = (((Real.sqrt ((∑ k, xr k * xr k) / w + e))⁻¹ : ℝ) : EReal) := by
      show (if _ then _ else _) = _
      rw [if_neg (not_lt.mpr hp.le), if_neg hp.ne']
    rw [this, ← EReal.coe_mul, ← EReal.coe_mul]
    exact ⟨_, rfl⟩
  · obtain ⟨k, hk⟩ := not_forall.mp hx
    have hkk : x k * x k = ⊤ := by
      rcases eq_or_ne (x k) ⊥ with h | h
      · rw [h]; rfl
      · rcases eq_or_ne (x k) ⊤ with h' | h'
        · rw [h']; rfl
        · exact absurd (real_of_ne h h') hk
    have hs : (∑ k, x k * x k) = ⊤ := by
      refine top_le_iff.mp (hkk ▸ ?_)
      exact Finset.single_le_sum (f := fun k => x k * x k) (fun i _ => mul_self_nonneg' (x i)) (Finset.mem_univ k)
    unfold rms
    rw [hs, hW, hE, div_pos_real _ _ hw, EReal.top_mul_coe_of_pos (inv_pos.mpr hw), EReal.top_add_coe]
    refine ⟨0, ?_⟩
    rw [show Ideal.rsqrt ⊤ = 0 from rfl, mul_zero, zero_mul]; rfl

/-! ## The router -/

/-- A row's logit for the given choice. -/
def logit (x : Fin 2048 → EReal) (W : Fin 2048 → Fin 2 → EReal) (b : Fin 2 → EReal) (e : Fin 2) : EReal :=
  (∑ k, x k * W k e) + b e

/-- The row takes the second choice, that is skips the layer: its logit is the greater one. -/
def routed (x : Fin 2048 → EReal) (W : Fin 2048 → Fin 2 → EReal) (b : Fin 2 → EReal) : Prop :=
  logit x W b 0 < logit x W b 1

/-- The kernel's float mask, one where the row skips the layer. -/
theorem mask_one {p : Prop} [Decidable p] (h : p) :
    (FloatOps.sitofp (F := Ideal) .f32 (BitVec.setWidth 32 (BitVec.ofBool (decide p))) : EReal) = 1 := by
  rw [decide_eq_true h]
  show ((((BitVec.setWidth 32 (BitVec.ofBool true)).toInt : ℝ)) : EReal) = 1
  rw [show (BitVec.setWidth 32 (BitVec.ofBool true)).toInt = 1 from by decide]
  norm_num

theorem mask_zero {p : Prop} [Decidable p] (h : ¬p) :
    (FloatOps.sitofp (F := Ideal) .f32 (BitVec.setWidth 32 (BitVec.ofBool (decide p))) : EReal) = 0 := by
  rw [decide_eq_false h]
  show ((((BitVec.setWidth 32 (BitVec.ofBool false)).toInt : ℝ)) : EReal) = 0
  rw [show (BitVec.setWidth 32 (BitVec.ofBool false)).toInt = 0 from by decide]
  norm_num

theorem one_sub_one : (1 : EReal) - 1 = 0 := by
  rw [show (1 : EReal) = ((1 : ℝ) : EReal) from rfl, ← EReal.coe_sub, sub_self]; rfl

theorem mul_one_sub_mask (x : EReal) (p : Prop) [Decidable p] :
    x * (1 - (FloatOps.sitofp (F := Ideal) .f32 (BitVec.setWidth 32 (BitVec.ofBool (decide p))) : EReal))
      = if p then 0 else x := by
  by_cases h : p
  · rw [mask_one h, if_pos h, one_sub_one, mul_zero]
  · rw [mask_zero h, if_neg h, sub_zero, mul_one]

/-! ## The rotation -/

/-- The angle of position `s` at frequency `i`. -/
def freq (s i : ℕ) : EReal :=
  FloatOps.sitofp (F := Ideal) .f32 (BitVec.ofNat 32 s) *
    Ideal.div 1 (Ideal.pow (Ideal.ofBits .f32 0x461C4000#32)
      (Ideal.div (Ideal.ofBits .f32 0x40000000#32 * FloatOps.sitofp (F := Ideal) .f32 (BitVec.ofNat 32 i))
        (Ideal.ofBits .f32 0x43000000#32)))

/-- The angle of position `s` at coordinate `d` of a head: the two halves share the frequencies. -/
def angle (s d : ℕ) : EReal := if d < 64 then freq s d else freq s (d - 64)

theorem lit_real (b : BitVec 32) (h : (b.extractLsb' 23 8).toNat ≠ 255) : ∃ r : ℝ, (Ideal.ofBits .f32 b : EReal) = r := by
  show ∃ r : ℝ, Ideal.ieee 8 23 b = r
  unfold Ideal.ieee
  dsimp only
  rw [if_neg (by simpa using h)]
  split <;> exact ⟨_, rfl⟩

theorem ten_thousand_pos : ∃ r : ℝ, 0 < r ∧ (Ideal.ofBits .f32 0x461C4000#32 : EReal) = (r : EReal) := by
  refine ⟨_, ?_, by simp [Ideal.ofBits, Ideal.ieee, -EReal.coe_mul]; rfl⟩
  norm_num

theorem head_pos : ∃ r : ℝ, 0 < r ∧ (Ideal.ofBits .f32 0x43000000#32 : EReal) = (r : EReal) := by
  refine ⟨_, ?_, by simp [Ideal.ofBits, Ideal.ieee, -EReal.coe_mul]; rfl⟩
  norm_num

theorem freq_real (s i : ℕ) : ∃ r : ℝ, freq s i = r := by
  obtain ⟨t, ht, hT⟩ := ten_thousand_pos
  obtain ⟨h, hh, hH⟩ := head_pos
  obtain ⟨a, hA⟩ := lit_real 0x40000000#32 (by decide)
  unfold freq
  rw [hT, hH, hA]
  rw [show (FloatOps.sitofp (F := Ideal) .f32 (BitVec.ofNat 32 i) : EReal) = (((BitVec.ofNat 32 i).toInt : ℝ) : EReal) from rfl,
    show (FloatOps.sitofp (F := Ideal) .f32 (BitVec.ofNat 32 s) : EReal) = (((BitVec.ofNat 32 s).toInt : ℝ) : EReal) from rfl,
    ← EReal.coe_mul, div_coe _ _ hh]
  rw [show ∀ x y : ℝ, Ideal.pow (x : EReal) (y : EReal) = ((Real.rpow x y : ℝ) : EReal) from fun _ _ => rfl,
    show (1 : EReal) = ((1 : ℝ) : EReal) from rfl]
  refine ⟨((BitVec.ofNat 32 s).toInt : ℝ) * (1 / Real.rpow t (a * ((BitVec.ofNat 32 i).toInt : ℝ) / h)), ?_⟩
  rw [div_coe 1 (Real.rpow t (a * ((BitVec.ofNat 32 i).toInt : ℝ) / h)) (Real.rpow_pos_of_pos ht _), ← EReal.coe_mul]

theorem angle_real (s d : ℕ) : ∃ r : ℝ, angle s d = r := by
  unfold angle; split <;> exact freq_real _ _

theorem cos_real (s d : ℕ) : ∃ r : ℝ, Ideal.cos (angle s d) = r := by
  obtain ⟨r, h⟩ := angle_real s d; rw [h]; exact ⟨_, rfl⟩
theorem sin_real (s d : ℕ) : ∃ r : ℝ, Ideal.sin (angle s d) = r := by
  obtain ⟨r, h⟩ := angle_real s d; rw [h]; exact ⟨_, rfl⟩

/-- The half-turned vector of a head: its upper half negated, then its lower half. -/
def turn (t : Fin 128 → EReal) (d : Fin 128) : EReal :=
  if h : d.val < 64 then -t ⟨64 + d.val, by omega⟩ else t ⟨d.val - 64, by omega⟩

/-- A head's vector rotated to position `s`. -/
def rope (t : Fin 128 → EReal) (s : ℕ) (d : Fin 128) : EReal :=
  t d * Ideal.cos (angle s d.val) + turn t d * Ideal.sin (angle s d.val)

/-- Rotation of a real vector is real, and scaling by a real goes through it. -/
theorem rope_real (t : Fin 128 → ℝ) (s : ℕ) :
    ∃ r : Fin 128 → ℝ, (∀ d, rope (fun d => (t d : EReal)) s d = r d)
      ∧ ∀ (c : ℝ) (d), rope (fun d => ((t d * c : ℝ) : EReal)) s d = ((r d * c : ℝ) : EReal) := by
  choose co hco using cos_real s
  choose si hsi using sin_real s
  refine ⟨fun d => t d * co d + (if h : d.val < 64 then -t ⟨64 + d.val, by omega⟩ else t ⟨d.val - 64, by omega⟩) * si d,
    fun d => ?_, fun c d => ?_⟩
  · unfold rope turn
    rw [hco, hsi]
    dsimp only
    split
    · rw [← EReal.coe_neg, ← EReal.coe_mul, ← EReal.coe_mul, ← EReal.coe_add]
    · rw [← EReal.coe_mul, ← EReal.coe_mul, ← EReal.coe_add]
  · unfold rope turn
    rw [hco, hsi]
    dsimp only
    split
    · rw [← EReal.coe_neg, ← EReal.coe_mul, ← EReal.coe_mul, ← EReal.coe_add]
      congr 1; ring
    · rw [← EReal.coe_mul, ← EReal.coe_mul, ← EReal.coe_add]
      congr 1; ring

/-! ## Attention's rows: the running softmax -/

/-- The kernel's running state of one row after some key blocks: the running maximum, the running sum of
    exponentials, and the running weighted sum of one value column. -/
structure Run where
  (m l acc : EReal)

/-- One key block of 512, its scores and values being those at `512 k` on. -/
def Run.step (s v : ℕ → EReal) (k : ℕ) (q : Run) : Run :=
  let m' := max q.m ((Finset.univ : Finset (Fin 512)).fold max cNeg fun c => s (512 * k + c.val))
  ⟨m', q.l * Ideal.exp (q.m - m') + ∑ c : Fin 512, Ideal.exp (s (512 * k + c.val) - m'),
   q.acc * Ideal.exp (q.m - m') + ∑ c : Fin 512, Ideal.exp (s (512 * k + c.val) - m') * v (512 * k + c.val)⟩

/-- The state after `n` key blocks. -/
def Run.after (s v : ℕ → EReal) : ℕ → Run
  | 0 => ⟨⊥, 0, 0⟩
  | n + 1 => Run.step s v n (Run.after s v n)

theorem fold_max_bot (s : ℕ → EReal) (b n : ℕ) :
    ((Finset.univ : Finset (Fin n)).fold max cNeg fun c => s (b + c.val)) = (Finset.range n).sup fun c => s (b + c) := by
  rw [cNeg_eq]
  show (Finset.univ : Finset (Fin n)).sup (fun c => s (b + c.val)) = _
  apply le_antisymm
  · exact Finset.sup_le fun c _ => Finset.le_sup (f := fun c => s (b + c)) (Finset.mem_range.mpr c.isLt)
  · exact Finset.sup_le fun c hc => Finset.le_sup (f := fun c : Fin n => s (b + c.val)) (Finset.mem_univ ⟨c, Finset.mem_range.mp hc⟩)

/-- The maximum over the first `n` scores. -/
def top (s : ℕ → EReal) (n : ℕ) : EReal := (Finset.range n).sup s

theorem top_add (s : ℕ → EReal) (a b : ℕ) : top s (a + b) = max (top s a) ((Finset.range b).sup fun c => s (a + c)) := by
  unfold top
  apply le_antisymm
  · refine Finset.sup_le fun j hj => ?_
    rcases lt_or_ge j a with h | h
    · exact le_max_of_le_left (Finset.le_sup (Finset.mem_range.mpr h))
    · refine le_max_of_le_right ?_
      have := Finset.le_sup (f := fun c => s (a + c)) (Finset.mem_range.mpr (show j - a < b by have := Finset.mem_range.mp hj; omega))
      simpa [Nat.add_sub_cancel' h] using this
  · refine max_le (Finset.sup_le fun j hj => Finset.le_sup (Finset.mem_range.mpr ?_))
      (Finset.sup_le fun j hj => Finset.le_sup (f := s) (Finset.mem_range.mpr ?_))
    · have := Finset.mem_range.mp hj; omega
    · have := Finset.mem_range.mp hj; omega

/-- The maximum of scores none of which is positive infinity, the first a real, is a real. -/
theorem top_real (s : ℕ → EReal) (h0 : s 0 ≠ ⊥) (hT : ∀ j, s j ≠ ⊤) (n : ℕ) (hn : 0 < n) : ∃ r : ℝ, top s n = r := by
  refine real_of_ne (fun h => h0 ?_) (fun h => ?_)
  · have := Finset.le_sup (f := s) (Finset.mem_range.mpr hn)
    rw [show (Finset.range n).sup s = top s n from rfl, h] at this
    exact le_bot_iff.mp this
  · have : top s n < ⊤ := (Finset.sup_lt_iff (by exact bot_lt_top)).mpr fun j _ => lt_top_iff_ne_top.mpr (hT j)
    exact absurd h this.ne

theorem exp_shift (x : EReal) (hx : x ≠ ⊤) (a b : ℝ) :
    Ideal.exp (x - a) * Ideal.exp ((a : EReal) - b) = Ideal.exp (x - b) := by
  rcases eq_or_ne x ⊥ with h | h
  · rw [h, EReal.bot_sub, EReal.bot_sub, exp_bot, zero_mul]
  · obtain ⟨r, rfl⟩ := real_of_ne h hx
    rw [← EReal.coe_sub, ← EReal.coe_sub, ← EReal.coe_sub, exp_coe, exp_coe, exp_coe, ← EReal.coe_mul, ← Real.exp_add]
    congr 2; ring

theorem exp_real (x : EReal) (hx : x ≠ ⊤) (b : ℝ) : ∃ r : ℝ, 0 ≤ r ∧ Ideal.exp (x - b) = r := by
  rcases eq_or_ne x ⊥ with h | h
  · exact ⟨0, le_rfl, by rw [h, EReal.bot_sub, exp_bot]; rfl⟩
  · obtain ⟨r, rfl⟩ := real_of_ne h hx
    exact ⟨Real.exp (r - b), (Real.exp_pos _).le, by rw [← EReal.coe_sub, exp_coe]⟩

/-- A nonnegative real goes through a sum of extended reals, the infinite ones included. -/
theorem sum_mul_real {ι : Type*} (S : Finset ι) (f : ι → EReal) (a : ℝ) (ha : 0 ≤ a) :
    (∑ j ∈ S, f j) * (a : EReal) = ∑ j ∈ S, f j * (a : EReal) := by
  classical
  induction S using Finset.induction_on with
  | empty => simp
  | insert j S hj ih =>
    rw [Finset.sum_insert hj, Finset.sum_insert hj, ← ih]
    exact EReal.right_distrib_of_nonneg_of_ne_top (EReal.coe_nonneg.mpr ha) (EReal.coe_ne_top a) _ _

/-- The running state after `n` blocks: maximum and sums over the first `512 n` scores. -/
theorem Run.after_eq (s v : ℕ → EReal) (h0 : s 0 ≠ ⊥) (hT : ∀ j, s j ≠ ⊤) (n : ℕ) :
    Run.after s v n = ⟨top s (512 * n), ∑ j ∈ Finset.range (512 * n), Ideal.exp (s j - top s (512 * n)),
      ∑ j ∈ Finset.range (512 * n), Ideal.exp (s j - top s (512 * n)) * v j⟩ := by
  induction n with
  | zero => simp [Run.after, top]
  | succ n ih =>
    obtain ⟨b, hb⟩ := top_real s h0 hT (512 * (n + 1)) (by omega)
    have hm : max (top s (512 * n)) ((Finset.univ : Finset (Fin 512)).fold max cNeg fun c => s (512 * n + c.val)) = b := by
      rw [fold_max_bot, ← top_add, ← hb]; rfl
    have key : ∀ w : ℕ → EReal, (∑ j ∈ Finset.range (512 * n), Ideal.exp (s j - top s (512 * n)) * w j)
        * Ideal.exp (top s (512 * n) - b) = ∑ j ∈ Finset.range (512 * n), Ideal.exp (s j - b) * w j := by
      intro w
      rcases Nat.eq_zero_or_pos n with hn | hn
      · subst hn; simp
      · obtain ⟨a, ha⟩ := top_real s h0 hT (512 * n) (by omega)
        obtain ⟨r, hr, hr'⟩ := exp_real (a : EReal) (EReal.coe_ne_top a) b
        rw [ha, hr', sum_mul_real _ _ r hr]
        refine Finset.sum_congr rfl fun j _ => ?_
        rw [mul_right_comm, ← hr', exp_shift _ (hT j)]
    have split : ∀ f : ℕ → EReal, ∑ j ∈ Finset.range (512 * (n + 1)), f j
        = ∑ j ∈ Finset.range (512 * n), f j + ∑ c : Fin 512, f (512 * n + c.val) := by
      intro f
      rw [show 512 * (n + 1) = 512 * n + 512 from by ring, Finset.sum_range_add,
        Fin.sum_univ_eq_sum_range (fun c => f (512 * n + c))]
    rw [Run.after, ih]
    unfold Run.step
    dsimp only
    rw [hm, hb, split, split, ← key v]
    have k1 := key (fun _ => 1)
    simp only [mul_one] at k1
    rw [k1]

/-- The kernel's row: after the blocks that hold every visible key, the quotient of the running sums is the softmax
    average. -/
theorem flash_row (s v : ℕ → EReal) (h0 : s 0 ≠ ⊥) (hT : ∀ j, s j ≠ ⊤) (n : ℕ) (hn : 0 < n) (hn4 : n ≤ 4)
    (hout : ∀ j, 512 * n ≤ j → s j = ⊥) :
    Ideal.div (Run.after s v n).acc (Run.after s v n).l
      = ∑ j : Fin 2048, Ideal.div
          (Ideal.exp (s j.val - max cNeg ((Finset.univ : Finset (Fin 2048)).fold max cNeg fun k => s k.val)))
          (∑ k : Fin 2048, Ideal.exp (s k.val - max cNeg ((Finset.univ : Finset (Fin 2048)).fold max cNeg fun k => s k.val)))
          * v j.val := by
  have hM : max cNeg ((Finset.univ : Finset (Fin 2048)).fold max cNeg fun k => s k.val) = top s (512 * n) := by
    have := fold_max_bot s 0 2048
    simp only [Nat.zero_add] at this
    rw [this, cNeg_eq, max_eq_right bot_le]
    show top s 2048 = _
    obtain ⟨d, hd⟩ : ∃ d, 2048 = 512 * n + d := ⟨2048 - 512 * n, by omega⟩
    rw [hd, top_add]
    refine max_eq_left ?_
    refine Finset.sup_le fun c _ => ?_
    rw [hout _ (Nat.le_add_right _ _)]; exact bot_le
  rw [hM, Run.after_eq s v h0 hT n]
  obtain ⟨a, ha⟩ := top_real s h0 hT (512 * n) (by omega)
  dsimp only
  rw [ha]
  have cut : ∀ w : ℕ → EReal, ∑ j : Fin 2048, Ideal.exp (s j.val - a) * w j.val
      = ∑ j ∈ Finset.range (512 * n), Ideal.exp (s j - a) * w j := by
    intro w
    rw [Fin.sum_univ_eq_sum_range (fun j => Ideal.exp (s j - a) * w j) 2048]
    symm
    refine Finset.sum_subset (Finset.range_subset_range.mpr (by omega)) fun j _ hj => ?_
    rw [hout j (by simpa using hj), EReal.bot_sub, exp_bot, zero_mul]
  have cut1 := cut fun _ => 1
  simp only [mul_one] at cut1
  rw [cut1]
  choose e he0 he using fun j => exp_real (s j) (hT j) a
  have hl : ∑ j ∈ Finset.range (512 * n), Ideal.exp (s j - a) = ((∑ j ∈ Finset.range (512 * n), e j : ℝ) : EReal) := by
    rw [coe_sum]; exact Finset.sum_congr rfl fun j _ => he j
  have hpos : 0 < ∑ j ∈ Finset.range (512 * n), e j := by
    refine Finset.sum_pos' (fun j _ => he0 j) ⟨0, Finset.mem_range.mpr (by omega), ?_⟩
    obtain ⟨r, hr⟩ := real_of_ne h0 (hT 0)
    have := he 0
    rw [hr, ← EReal.coe_sub, exp_coe, EReal.coe_eq_coe_iff] at this
    rw [← this]; exact Real.exp_pos _
  rw [hl, div_pos_real _ _ hpos, ← cut, sum_mul_real _ _ _ (inv_pos.mpr hpos).le]
  refine Finset.sum_congr rfl fun j _ => ?_
  rw [div_pos_real _ _ hpos, mul_right_comm]

end Cert.Value
end
-- ==== Proof.Value.Spec.lean ====
module

public import proofs.«01_k».proof.Proof.Value.Math

/-!
The transformer block as a function of its arguments, over extended reals, and the two places where the kernel computes
one of its quantities by another formula: the scaled query weights and the running softmax.
-/

@[expose] public section

noncomputable section

namespace Cert.Value

open Idealize.ShloMosaic

/-- The arguments, by their coordinates. -/
structure Ins where
  X : Fin 2 → Fin 2048 → Fin 2048 → EReal
  L1 : Fin 2048 → EReal
  L2 : Fin 2048 → EReal
  Wq : Fin 2048 → Fin 2048 → EReal
  Wk : Fin 2048 → Fin 2048 → EReal
  Wv : Fin 2048 → Fin 2048 → EReal
  Wo : Fin 2048 → Fin 2048 → EReal
  Wg : Fin 2048 → Fin 5632 → EReal
  Wu : Fin 2048 → Fin 5632 → EReal
  Wd : Fin 5632 → Fin 2048 → EReal
  Wa : Fin 2048 → Fin 2 → EReal
  ba : Fin 2 → EReal
  Wm : Fin 2048 → Fin 2 → EReal
  bm : Fin 2 → EReal

instance (x : Fin 2048 → EReal) (W : Fin 2048 → Fin 2 → EReal) (b : Fin 2 → EReal) : Decidable (routed x W b) :=
  inferInstanceAs (Decidable (_ < _))

/-- Coordinate `d` of head `h` among the 2048 columns. -/
def col (h : Fin 16) (d : Fin 128) : Fin 2048 := ⟨h.val * 128 + d.val, by omega⟩

namespace Ins
variable (A : Ins)

/-- The normalized input. -/
def xn (b : Fin 2) (s d : Fin 2048) : EReal := rms (A.X b s) A.L1 d
/-- A head's projection by the weights `W`. -/
def proj (W : Fin 2048 → Fin 2048 → EReal) (b : Fin 2) (h : Fin 16) (s : Fin 2048) (d : Fin 128) : EReal :=
  ∑ k, A.xn b s k * W k (col h d)
/-- The rotated projection. -/
def rot (W : Fin 2048 → Fin 2048 → EReal) (b : Fin 2) (h : Fin 16) (s : Fin 2048) (d : Fin 128) : EReal :=
  rope (A.proj W b h s) s.val d
/-- The masked, scaled score of query `s` and key `j`. -/
def score (b : Fin 2) (h : Fin 16) (s j : Fin 2048) : EReal :=
  if j.val ≤ s.val then Ideal.div (∑ d, A.rot A.Wq b h s d * A.rot A.Wk b h j d) cScale else cNeg
/-- The greatest score of a query. -/
def peak (b : Fin 2) (h : Fin 16) (s : Fin 2048) : EReal :=
  max cNeg ((Finset.univ : Finset (Fin 2048)).fold max cNeg fun k => A.score b h s k)
/-- The attention weight. -/
def prob (b : Fin 2) (h : Fin 16) (s j : Fin 2048) : EReal :=
  Ideal.div (Ideal.exp (A.score b h s j - A.peak b h s)) (∑ k, Ideal.exp (A.score b h s k - A.peak b h s))
/-- A head's attention output. -/
def head (b : Fin 2) (h : Fin 16) (s : Fin 2048) (d : Fin 128) : EReal := ∑ j, A.prob b h s j * A.proj A.Wv b h j d
/-- The heads' outputs side by side. -/
def heads (b : Fin 2) (s c : Fin 2048) : EReal := A.head b ⟨c.val / 128, by omega⟩ s ⟨c.val % 128, by omega⟩
/-- The input plus attention, where the row does not skip it. -/
def mid (b : Fin 2) (s d : Fin 2048) : EReal :=
  (if routed (A.X b s) A.Wa A.ba then 0 else ∑ c, A.heads b s c * A.Wo c d) + A.X b s d
/-- That normalized. -/
def y (b : Fin 2) (s d : Fin 2048) : EReal := rms (A.mid b s) A.L2 d
/-- The gate. -/
def gate (b : Fin 2) (s : Fin 2048) (f : Fin 5632) : EReal := ∑ k, A.y b s k * A.Wg k f
/-- The gated hidden unit. -/
def hidden (b : Fin 2) (s : Fin 2048) (f : Fin 5632) : EReal :=
  A.gate b s f * Ideal.logistic (A.gate b s f) * ∑ k, A.y b s k * A.Wu k f
/-- The block's result. -/
def out (b : Fin 2) (s d : Fin 2048) : EReal :=
  A.mid b s d + if routed (A.X b s) A.Wm A.bm then 0 else ∑ f, A.hidden b s f * A.Wd f d

/-- The arguments the proof needs finite. -/
structure Finite : Prop where
  L1 : ∀ d, ∃ r : ℝ, A.L1 d = r
  Wq : ∀ k c, ∃ r : ℝ, A.Wq k c = r
  Wk : ∀ k c, ∃ r : ℝ, A.Wk k c = r

/-- The query weights as the kernel takes them, divided by the scale. -/
def Wqs (k c : Fin 2048) : EReal := Ideal.div (A.Wq k c) cScale

variable {A}

theorem proj_real (hA : A.Finite) (W : Fin 2048 → Fin 2048 → EReal) (hW : ∀ k c, ∃ r : ℝ, W k c = r)
    (b : Fin 2) (h : Fin 16) (s : Fin 2048) :
    ∃ t : Fin 128 → ℝ, A.proj W b h s = (fun d => (t d : EReal))
      ∧ ∀ c : ℝ, 0 < c → A.proj (fun k e => Ideal.div (W k e) c) b h s = fun d => ((t d * c⁻¹ : ℝ) : EReal) := by
  choose x hx using fun d => rms_real (A.X b s) A.L1 hA.L1 d
  choose w hw using hW
  refine ⟨fun d => ∑ k, x k * w k (col h d), ?_, fun c hc => ?_⟩
  · funext d
    unfold proj xn
    rw [coe_sum]
    exact Finset.sum_congr rfl fun k _ => by rw [hx, hw, EReal.coe_mul]
  · funext d
    unfold proj xn
    rw [Finset.sum_mul, coe_sum]
    refine Finset.sum_congr rfl fun k _ => ?_
    dsimp only
    rw [hx, hw, div_coe _ _ hc, ← EReal.coe_mul]
    congr 1; rw [div_eq_mul_inv, mul_assoc]

/-- The score by scaled query weights is the scaled score, and it is a real. -/
theorem dot_scaled (hA : A.Finite) (b : Fin 2) (h : Fin 16) (s j : Fin 2048) :
    ∃ r : ℝ, Ideal.div (∑ d, A.rot A.Wq b h s d * A.rot A.Wk b h j d) cScale = r
      ∧ ∑ d, A.rot A.Wqs b h s d * A.rot A.Wk b h j d = r := by
  obtain ⟨c, hc, hC⟩ := cScale_real
  obtain ⟨t, ht, ht'⟩ := proj_real hA A.Wq hA.Wq b h s
  obtain ⟨u, hu, -⟩ := proj_real hA A.Wk hA.Wk b h j
  obtain ⟨q, hq, hq'⟩ := rope_real t s.val
  obtain ⟨k, hk, -⟩ := rope_real u j.val
  have e1 : ∀ d, A.rot A.Wq b h s d = q d := fun d => by unfold rot; rw [ht]; exact hq d
  have e2 : ∀ d, A.rot A.Wk b h j d = k d := fun d => by unfold rot; rw [hu]; exact hk d
  have e3 : ∀ d, A.rot A.Wqs b h s d = ((q d * c⁻¹ : ℝ) : EReal) := fun d => by
    unfold rot
    rw [show A.Wqs = fun k e => Ideal.div (A.Wq k e) c from by funext k e; unfold Wqs; rw [hC], ht' c hc]
    exact hq' c⁻¹ d
  refine ⟨(∑ d, q d * k d) / c, ?_, ?_⟩
  · rw [← div_coe _ _ hc, hC, coe_sum]
    congr 1
    exact Finset.sum_congr rfl fun d _ => by rw [e1, e2, EReal.coe_mul]
  · rw [div_eq_mul_inv, Finset.sum_mul, coe_sum]
    refine Finset.sum_congr rfl fun d _ => ?_
    rw [e2, e3, ← EReal.coe_mul]
    congr 1; ring

variable (A)

/-- A query's scores as a function of natural numbers, nothing visible past the end. -/
def scoreN (b : Fin 2) (h : Fin 16) (s : Fin 2048) (j : ℕ) : EReal :=
  if hj : j < 2048 then A.score b h s ⟨j, hj⟩ else ⊥
/-- A value column as a function of natural numbers. -/
def valN (b : Fin 2) (h : Fin 16) (d : Fin 128) (j : ℕ) : EReal :=
  if hj : j < 2048 then A.proj A.Wv b h ⟨j, hj⟩ d else 0

variable {A}

/-- The running softmax over the key blocks up to the query's own gives the head's output. -/
theorem flash_head (hA : A.Finite) (b : Fin 2) (h : Fin 16) (s : Fin 2048) (d : Fin 128) (n : ℕ) (hn : s.val < 512 * n)
    (hn4 : n ≤ 4) :
    Ideal.div (Run.after (A.scoreN b h s) (A.valN b h d) n).acc (Run.after (A.scoreN b h s) (A.valN b h d) n).l
      = A.head b h s d := by
  have eS : ∀ j : Fin 2048, A.scoreN b h s j.val = A.score b h s j := fun j => dif_pos j.isLt
  have eV : ∀ j : Fin 2048, A.valN b h d j.val = A.proj A.Wv b h j d := fun j => dif_pos j.isLt
  have h0 : A.scoreN b h s 0 ≠ ⊥ := by
    rw [show A.scoreN b h s 0 = A.score b h s ⟨0, by omega⟩ from dif_pos (by omega)]
    obtain ⟨r, hr, -⟩ := dot_scaled hA b h s ⟨0, by omega⟩
    unfold score
    rw [if_pos (Nat.zero_le _), hr]; exact EReal.coe_ne_bot r
  have hT : ∀ j, A.scoreN b h s j ≠ ⊤ := by
    intro j
    unfold scoreN
    split
    · unfold score
      split
      · obtain ⟨r, hr, -⟩ := dot_scaled hA b h s ⟨j, by assumption⟩
        rw [hr]; exact EReal.coe_ne_top r
      · rw [cNeg_eq]; exact bot_ne_top
    · exact bot_ne_top
  rw [flash_row _ _ h0 hT n (by omega) hn4 ?_]
  · simp only [eS, eV]; rfl
  · intro j hj
    unfold scoreN
    split
    · unfold score
      rw [if_neg (by simp only; omega), cNeg_eq]
    · rfl

/-- A sum over the 5632 hidden units in eleven blocks of 512. -/
theorem sum_blocks (f : ℕ → EReal) (n : ℕ) :
    ∑ j ∈ Finset.range (512 * (n + 1)), f j = ∑ j ∈ Finset.range (512 * n), f j + ∑ c : Fin 512, f (512 * n + c.val) := by
  rw [show 512 * (n + 1) = 512 * n + 512 from by ring, Finset.sum_range_add,
    Fin.sum_univ_eq_sum_range (fun c => f (512 * n + c))]

end Ins
end Cert.Value
end
-- ==== Proof.Value.RefVal.lean ====
module

public import proofs.«01_k».proof.Proof.Value.Spec
public import Idealize.ShloMosaic.Lib.Pointwise
public import Idealize.ShloMosaic.Lib.StableHlo.ReadAt

/-!
What each stage of the reference leaves in its result, at an index, as a formula over what the stage reads.
-/

@[expose] public section

set_option maxRecDepth 16384

noncomputable section

namespace Cert.ReferenceIdeal.Gen

open Cert.ReferenceIdeal Idealize.ShloMosaic Idealize.ShloMosaic.TcCoe Idealize.SL.Sem
open Idealize.ShloMosaic.StableHlo (after)
open Cert.Value

/-! ## The greater of two logits -/

/-- Folding the arg-max step over a list that holds the pair `w` and only pairs of `P` ends at `w`, when `w` wins
    against every pair of `P`. -/
theorem foldl_wins {α : Type} (f : α → α → α) (P : α → Prop) (w : α) (hfP : ∀ r p, P r → P p → P (f r p))
    (hw : ∀ r, P r → f r w = w) (hw' : ∀ p, P p → f w p = w) (L : List α) (hL : ∀ p ∈ L, P p) :
    ∀ r, P r → (r = w ∨ w ∈ L) → L.foldl f r = w := by
  induction L with
  | nil => intro r _ h; simpa using h
  | cons p L ih =>
    intro r hr h
    have hp := hL p (List.mem_cons_self ..)
    refine ih (fun p hp => hL p (List.mem_cons_of_mem _ hp)) _ (hfP r p hr hp) ?_
    rcases h with h | h
    · exact Or.inl (by rw [h]; exact hw' p hp)
    · rcases List.mem_cons.mp h with h | h
      · exact Or.inl (by rw [← h]; exact hw r hr)
      · exact Or.inr h

/-- The arg-max step on values and their indices, in ordinary terms. -/
theorem argmax_step (a b : Ideal .f32 × BitVec 32) :
    reducer_argmax_f32_i32 (F := Ideal) a b
      = if (b.1 : EReal) < a.1 then a
        else if (a.1 : EReal) = b.1 ∧ a.2.slt b.2 then (b.1, a.2) else b := by
  obtain ⟨x, i⟩ := a
  obtain ⟨y, j⟩ := b
  unfold reducer_argmax_f32_i32
  simp only [Ideal.cmpf_def, Ideal.cmp, IntOp.cmpi]
  by_cases h1 : y < x
  · by_cases h2 : x = y <;> cases h3 : i.slt j <;> simp [h1, h2, Scalar.select, IntOp.ori, IntOp.andi]
  · by_cases h2 : x = y <;> cases h3 : i.slt j <;> simp [h1, h2, h3, Scalar.select, IntOp.ori, IntOp.andi]

theorem drop_pair (h : S2x2048x2.ReducesTo [2] S2x2048) (i : S2x2048x2.Idx) : h.drop i = ix2 (i 0) (i 1) := by
  funext a
  match a with
  | ⟨0, _⟩ => rfl
  | ⟨1, _⟩ => rfl

/-- The arg-max over two logits is the second choice exactly where its logit is the greater one. -/
theorem argmax_ne (x : FVec Ideal S2x2048x2 .f32) (b : Fin 2) (s : Fin 2048) :
    IntOp.cmpi .ne ((Host.argReduce (F := Ideal) reducer_argmax_f32_i32 x (iotaInDim S2x2048x2 32 2)
        (constant S_ .f32 0xFF800000#32) (constantI S_ 32 0#32) reducesTo_S2x2048x2_S2x2048_d2 h_S_ (ix2 b s)).2) 0#32
      = BitVec.ofBool (decide ((x (ix3 b s 0) : EReal) < x (ix3 b s 1))) := by
  rw [Ideal.argReduce_eq_reduce2, Host.reduce2_eq_foldl_fiber]
  have hmem : ∀ p, p ∈ Host.argReduceFiber (α := Ideal .f32) (β := BitVec 32) x (iotaInDim S2x2048x2 32 2) reducesTo_S2x2048x2_S2x2048_d2 (ix2 b s)
      ↔ ∃ e : Fin 2, p = (x (ix3 b s e), BitVec.ofNat 32 e.val) := by
    intro p
    unfold Host.argReduceFiber
    simp only [List.mem_map, List.mem_filter, List.mem_finRange, true_and, decide_eq_true_eq]
    constructor
    · rintro ⟨n, hn, rfl⟩
      generalize S2x2048x2.rowMajor.symm n = i at hn
      rw [drop_pair] at hn
      obtain ⟨i0, i1, i2, rfl⟩ : ∃ (a : Fin 2) (b : Fin 2048) (c : Fin 2), i = ix3 a b c := ⟨i 0, i 1, i 2, by
        funext a; match a with | ⟨0, _⟩ => rfl | ⟨1, _⟩ => rfl | ⟨2, _⟩ => rfl⟩
      have e0 : i0 = b := congrFun hn 0
      have e1 : i1 = s := congrFun hn 1
      subst e0 e1
      exact ⟨i2, rfl⟩
    · rintro ⟨e, rfl⟩
      refine ⟨S2x2048x2.rowMajor (ix3 b s e), ?_, ?_⟩
      · rw [Equiv.symm_apply_apply, drop_pair]; rfl
      · rw [Equiv.symm_apply_apply]; rfl
  generalize hl : Host.argReduceFiber (α := Ideal .f32) (β := BitVec 32) x (iotaInDim S2x2048x2 32 2) reducesTo_S2x2048x2_S2x2048_d2 (ix2 b s) = L
  rw [hl] at hmem
  generalize hx0 : x (ix3 b s 0) = x0 at hmem ⊢
  generalize hx1 : x (ix3 b s 1) = x1 at hmem ⊢
  have hL : ∀ p ∈ L, p = (x0, 0#32) ∨ p = (x1, 1#32) := by
    intro p hp
    obtain ⟨e, rfl⟩ := (hmem p).mp hp
    match e with
    | ⟨0, _⟩ => exact Or.inl (by rw [← hx0]; rfl)
    | ⟨1, _⟩ => exact Or.inr (by rw [← hx1]; rfl)
  have m0 : (x0, 0#32) ∈ L := (hmem _).mpr ⟨0, by rw [← hx0]; rfl⟩
  have m1 : (x1, 1#32) ∈ L := (hmem _).mpr ⟨1, by rw [← hx1]; rfl⟩
  have hinit : ((constant S_ .f32 0xFF800000#32 (Shape.Idx.first h_S_) : Ideal .f32), (constantI S_ 32 0#32 (Shape.Idx.first h_S_) : BitVec 32))
      = ((⊥ : EReal), 0#32) := by
    show ((cNeg : EReal), 0#32) = _
    rw [cNeg_eq]
  rw [show (constant S_ .f32 0xFF800000#32 (Shape.Idx.first h_S_) : Ideal .f32) = (⊥ : EReal) from cNeg_eq]
  rw [show (constantI S_ 32 0#32 (Shape.Idx.first h_S_) : BitVec 32) = 0#32 from rfl]
  have slt01 : (0#32).slt 1#32 = true := by decide
  have slt10 : (1#32).slt 0#32 = false := by decide
  have slt00 : (0#32).slt 0#32 = false := by decide
  have slt11 : (1#32).slt 1#32 = false := by decide
  let P : Ideal .f32 × BitVec 32 → Prop := fun p => p = ((⊥ : EReal), 0#32) ∨ p = (x0, 0#32) ∨ p = (x1, 1#32)
  have hfP : ∀ r p, P r → P p → P (reducer_argmax_f32_i32 (F := Ideal) r p) := by
    intro r p hr hp
    rw [argmax_step]
    split
    · exact hr
    · split
      · rename_i h1 h2
        rw [show ((p.1, r.2) : Ideal .f32 × BitVec 32) = r from Prod.ext h2.1.symm rfl]
        exact hr
      · exact hp
  by_cases hlt : (x0 : EReal) < x1
  · rw [foldl_wins (reducer_argmax_f32_i32 (F := Ideal)) P (x1, 1#32) hfP ?_ ?_ L (fun p hp => Or.inr (hL p hp)) _
      (Or.inl rfl) (Or.inr m1), decide_eq_true hlt]
    · rfl
    · intro r hr
      rw [argmax_step]
      have hb : ¬ (x1 : EReal) < ⊥ := not_lt_bot
      have hn : (⊥ : EReal) ≠ x1 := fun h => by rw [← h] at hlt; exact not_lt_bot hlt
      rcases hr with rfl | rfl | rfl
      · simp [hb, hn, slt01]
      · simp [not_lt.mpr hlt.le, hlt.ne]
      · simp [slt11]
    · intro p hp
      rw [argmax_step]
      have hb : (⊥ : EReal) < x1 := lt_of_le_of_lt bot_le hlt
      rcases hp with rfl | rfl | rfl
      · simp [hb]
      · simp [hlt]
      · simp [slt11]
  · rw [foldl_wins (reducer_argmax_f32_i32 (F := Ideal)) P (x0, 0#32) hfP ?_ ?_ L (fun p hp => Or.inr (hL p hp)) _
      (Or.inl rfl) (Or.inr m0), decide_eq_false hlt]
    · rfl
    · intro r hr
      rw [argmax_step]
      rcases hr with rfl | rfl | rfl
      · simp [slt00]
      · simp [slt00]
      · simp [slt10, hlt]
    · intro p hp
      rw [argmax_step]
      rcases hp with rfl | rfl | rfl
      · rcases eq_or_ne x0 (⊥ : EReal) with h | h
        · simp [h, slt00]
        · simp [h, bot_lt_iff_ne_bot.mpr h]
      · simp [slt00]
      · rcases lt_or_eq_of_le (not_lt.mp hlt) with h | h
        · simp [h]
        · simp [h, slt01]

variable (V : Valuation τ sig (Elt Ideal))

/-! ## The stages -/

/-- A sum's terms replaced one by one. -/
theorem sum_eq {n : ℕ} {f g : Fin n → EReal} (h : ∀ k, f k = g k) : ∑ k, f k = ∑ k, g k := Finset.sum_congr rfl fun k _ => h k

/-- The rows that skip attention. -/
theorem route_attn_at
    (x : Fin 2 → Fin 2048 → Fin 2048 → EReal) (hx : ∀ b s d, V (Proc.devRef .tc main_arg0) (ix3 b s d) = x b s d)
    (W : Fin 2048 → Fin 2 → EReal) (hW : ∀ k e, V (Proc.devRef .tc main_arg11) (ix2 k e) = W k e)
    (c : Fin 2 → EReal) (hc : ∀ e, V (Proc.devRef .tc main_arg12) (ix1 e) = c e) (b : Fin 2) (s : Fin 2048) :
    after opsRoute V (Proc.devRef .tc main_v7) (ix2 b s) = BitVec.ofBool (decide (routed (x b s) W c)) := by
  after_reads_simp
  refine (argmax_ne _ b s).trans ?_
  pointwise
  simp only [hx, hW, hc]
  rfl

/-- The rows that skip the feed-forward half. -/
theorem route_mlp_at
    (x : Fin 2 → Fin 2048 → Fin 2048 → EReal) (hx : ∀ b s d, V (Proc.devRef .tc main_arg0) (ix3 b s d) = x b s d)
    (W : Fin 2048 → Fin 2 → EReal) (hW : ∀ k e, V (Proc.devRef .tc main_arg13) (ix2 k e) = W k e)
    (c : Fin 2 → EReal) (hc : ∀ e, V (Proc.devRef .tc main_arg14) (ix1 e) = c e) (b : Fin 2) (s : Fin 2048) :
    after opsRoute V (Proc.devRef .tc main_v15) (ix2 b s) = BitVec.ofBool (decide (routed (x b s) W c)) := by
  after_reads_simp
  refine (argmax_ne _ b s).trans ?_
  pointwise
  simp only [hx, hW, hc]
  rfl

/-- The first normalization. -/
theorem norm1_at
    (x : Fin 2 → Fin 2048 → Fin 2048 → EReal) (hx : ∀ b s d, V (Proc.devRef .tc main_arg0) (ix3 b s d) = x b s d)
    (l : Fin 2048 → EReal) (hl : ∀ k, V (Proc.devRef .tc main_arg2) (ix1 k) = l k)
    (b : Fin 2) (s d : Fin 2048) :
    after opsNorm1 V (Proc.devRef .tc main_v28) (ix3 b s d) = rms (x b s) l d := by
  after_reads_at
  simp only [hx, hl]
  rfl

/-- The second normalization. -/
theorem norm2_at
    (x : Fin 2 → Fin 2048 → Fin 2048 → EReal) (hx : ∀ b s d, V (Proc.devRef .tc main_v108) (ix3 b s d) = x b s d)
    (l : Fin 2048 → EReal) (hl : ∀ k, V (Proc.devRef .tc main_arg3) (ix1 k) = l k)
    (b : Fin 2) (s d : Fin 2048) :
    after opsNorm2 V (Proc.devRef .tc main_v121) (ix3 b s d) = rms (x b s) l d := by
  after_reads_at
  simp only [hx, hl]
  rfl

/-- The query projection. -/
theorem projq_at
    (x : Fin 2 → Fin 2048 → Fin 2048 → EReal) (hx : ∀ b s d, V (Proc.devRef .tc main_v28) (ix3 b s d) = x b s d)
    (W : Fin 2048 → Fin 2048 → EReal) (hW : ∀ k c, V (Proc.devRef .tc main_arg4) (ix2 k c) = W k c)
    (b : Fin 2) (h : Fin 16) (s : Fin 2048) (d : Fin 128) :
    after opsProj V (Proc.devRef .tc main_v31) (ix4 b h s d) = ∑ k, x b s k * W k (col h d) := by
  after_reads_at
  simp only [hx, hW]
  rfl

/-- The key projection. -/
theorem projk_at
    (x : Fin 2 → Fin 2048 → Fin 2048 → EReal) (hx : ∀ b s d, V (Proc.devRef .tc main_v28) (ix3 b s d) = x b s d)
    (W : Fin 2048 → Fin 2048 → EReal) (hW : ∀ k c, V (Proc.devRef .tc main_arg5) (ix2 k c) = W k c)
    (b : Fin 2) (h : Fin 16) (s : Fin 2048) (d : Fin 128) :
    after opsProj V (Proc.devRef .tc main_v34) (ix4 b h s d) = ∑ k, x b s k * W k (col h d) := by
  after_reads_at
  simp only [hx, hW]
  rfl

/-- The value projection. -/
theorem projv_at
    (x : Fin 2 → Fin 2048 → Fin 2048 → EReal) (hx : ∀ b s d, V (Proc.devRef .tc main_v28) (ix3 b s d) = x b s d)
    (W : Fin 2048 → Fin 2048 → EReal) (hW : ∀ k c, V (Proc.devRef .tc main_arg6) (ix2 k c) = W k c)
    (b : Fin 2) (h : Fin 16) (s : Fin 2048) (d : Fin 128) :
    after opsProj V (Proc.devRef .tc main_v37) (ix4 b h s d) = ∑ k, x b s k * W k (col h d) := by
  after_reads_at
  simp only [hx, hW]
  rfl

/-- The table of cosines. -/
theorem cos_at (s : Fin 2048) (d : Fin 128) :
    after opsAngle V (Proc.devRef .tc main_v56) (ix2 s d) = Ideal.cos (angle s.val d.val) := by
  after_reads_at
  simp only [StableHlo.upto, List.take]
  after_reads_at
  unfold angle freq
  congr 1

/-- The table of sinines. -/
theorem sin_at (s : Fin 2048) (d : Fin 128) :
    after opsAngle V (Proc.devRef .tc main_v57) (ix2 s d) = Ideal.sin (angle s.val d.val) := by
  after_reads_at
  simp only [StableHlo.upto, List.take]
  after_reads_at
  unfold angle freq
  congr 1

/-- The rotated queries. -/
theorem ropeq_at
    (x : Fin 2 → Fin 16 → Fin 2048 → Fin 128 → EReal) (hx : ∀ b h s d, V (Proc.devRef .tc main_v31) (ix4 b h s d) = x b h s d)
    (hco : ∀ (s : Fin 2048) (d : Fin 128), V (Proc.devRef .tc main_v56) (ix2 s d) = Ideal.cos (angle s.val d.val))
    (hsi : ∀ (s : Fin 2048) (d : Fin 128), V (Proc.devRef .tc main_v57) (ix2 s d) = Ideal.sin (angle s.val d.val))
    (b : Fin 2) (h : Fin 16) (s : Fin 2048) (d : Fin 128) :
    after opsRopeQ V (Proc.devRef .tc main_v68) (ix4 b h s d) = rope (x b h s) s.val d := by
  after_reads_at
  simp only [StableHlo.upto, List.take]
  after_reads_at
  simp only [hx, hco, hsi]
  rfl

/-- The rotated keys. -/
theorem ropek_at
    (x : Fin 2 → Fin 16 → Fin 2048 → Fin 128 → EReal) (hx : ∀ b h s d, V (Proc.devRef .tc main_v34) (ix4 b h s d) = x b h s d)
    (hco : ∀ (s : Fin 2048) (d : Fin 128), V (Proc.devRef .tc main_v56) (ix2 s d) = Ideal.cos (angle s.val d.val))
    (hsi : ∀ (s : Fin 2048) (d : Fin 128), V (Proc.devRef .tc main_v57) (ix2 s d) = Ideal.sin (angle s.val d.val))
    (b : Fin 2) (h : Fin 16) (s : Fin 2048) (d : Fin 128) :
    after opsRopeK V (Proc.devRef .tc main_v79) (ix4 b h s d) = rope (x b h s) s.val d := by
  after_reads_at
  simp only [StableHlo.upto, List.take]
  after_reads_at
  simp only [hx, hco, hsi]
  rfl

theorem toInt_small (n : ℕ) (h : n < 2 ^ 31) : (BitVec.ofNat 32 n).toInt = n := by
  rw [BitVec.toInt_ofNat', Int.bmod_eq_of_le] <;> omega

/-- The causal comparison of two positions. -/
theorem causal_word (s j : Fin 2048) :
    Scalar.select (IntOp.cmpi CmpIPredicate.sge (IntOp.addi (BitVec.ofNat 32 s.val) 0#32) (BitVec.ofNat 32 j.val)) 1#1 0#1
      = BitVec.ofBool (decide (j.val ≤ s.val)) := by
  have e : IntOp.addi (BitVec.ofNat 32 s.val) 0#32 = BitVec.ofNat 32 s.val := by simp [IntOp.addi]
  rw [e]
  have e2 : (BitVec.ofNat 32 j.val).sle (BitVec.ofNat 32 s.val) = decide (j.val ≤ s.val) := by
    rw [BitVec.sle, toInt_small _ (by omega), toInt_small _ (by omega)]
    simp
  simp only [IntOp.cmpi, e2]
  by_cases h : j.val ≤ s.val <;> simp [h, Scalar.select]

/-- The masked scores, every position of the batch being attended. -/
theorem score_at (hmask : ∀ (b : Fin 2) (s : Fin 2048), V (Proc.devRef .tc main_arg1) (ix2 b s) = 1#1)
    (q : Fin 2 → Fin 16 → Fin 2048 → Fin 128 → EReal) (hq : ∀ b h s d, V (Proc.devRef .tc main_v68) (ix4 b h s d) = q b h s d)
    (k : Fin 2 → Fin 16 → Fin 2048 → Fin 128 → EReal) (hk : ∀ b h s d, V (Proc.devRef .tc main_v79) (ix4 b h s d) = k b h s d)
    (b : Fin 2) (h : Fin 16) (s j : Fin 2048) :
    after opsScore V (Proc.devRef .tc main_v90) (ix4 b h s j)
      = if j.val ≤ s.val then Ideal.div (∑ d, q b h s d * k b h j d) cScale else cNeg := by
  after_reads_at
  rw [causal_word, hmask]
  simp only [hq, hk]
  by_cases hj : j.val ≤ s.val
  · rw [if_pos hj, decide_eq_true hj]; rfl
  · rw [if_neg hj, decide_eq_false hj]; rfl

/-- The greatest score of each query. -/
theorem rowmax_at (x : FVec Ideal S2x16x2048x2048 .f32) (b : Fin 2) (h : Fin 16) (s : Fin 2048) :
    Host.reduce (α := Ideal .f32) FloatOps.maximumf x (constant S_ .f32 0xFF800000#32)
        reducesTo_S2x16x2048x2048_S2x16x2048_d3 h_S_ (ix3 b h s)
      = (Finset.univ : Finset (Fin 2048)).fold max cNeg (fun k => (x (ix4 b h s k) : EReal)) := by
  pointwise

theorem softmax_at (x : FVec Ideal S2x16x2048x2048 .f32) (m : FVec Ideal S2x16x2048 .f32)
    (hm : m = Host.reduce (α := Ideal .f32) FloatOps.maximumf x (constant S_ .f32 0xFF800000#32)
      reducesTo_S2x16x2048x2048_S2x16x2048_d3 h_S_) (b : Fin 2) (h : Fin 16) (s j : Fin 2048) :
    Host.divf (F := Ideal)
      (Host.exp (subf x (broadcastInDim S2x16x2048x2048 ![0, 1, 2, 3] bcast_S2x16x2048x1_S2x16x2048x2048_0_1_2_3
        (broadcastInDim S2x16x2048x1 ![0, 1, 2] bcast_S2x16x2048_S2x16x2048x1_0_1_2
          (maximumf (broadcastInDim S2x16x2048 ![] bcast_S_S2x16x2048 (constant S_ .f32 0xFF800000#32)) m)))))
      (broadcastInDim S2x16x2048x2048 ![0, 1, 2, 3] bcast_S2x16x2048x1_S2x16x2048x2048_0_1_2_3
        (broadcastInDim S2x16x2048x1 ![0, 1, 2] bcast_S2x16x2048_S2x16x2048x1_0_1_2
          (Host.reduceAdd
            (Host.exp (subf x (broadcastInDim S2x16x2048x2048 ![0, 1, 2, 3] bcast_S2x16x2048x1_S2x16x2048x2048_0_1_2_3
              (broadcastInDim S2x16x2048x1 ![0, 1, 2] bcast_S2x16x2048_S2x16x2048x1_0_1_2
                (maximumf (broadcastInDim S2x16x2048 ![] bcast_S_S2x16x2048 (constant S_ .f32 0xFF800000#32)) m)))))
            (constant S_ .f32 0x00000000#32) reducesTo_S2x16x2048x2048_S2x16x2048_d3 h_S_))) (ix4 b h s j)
      = Ideal.div
          (Ideal.exp ((x (ix4 b h s j) : EReal) - max cNeg ((Finset.univ : Finset (Fin 2048)).fold max cNeg fun k => (x (ix4 b h s k) : EReal))))
          (∑ k : Fin 2048, Ideal.exp ((x (ix4 b h s k) : EReal)
            - max cNeg ((Finset.univ : Finset (Fin 2048)).fold max cNeg fun k => (x (ix4 b h s k) : EReal)))) := by
  pointwise
  simp only [hm, rowmax_at]

/-- The attention weights. -/
theorem soft_at
    (z : Fin 2 → Fin 16 → Fin 2048 → Fin 2048 → EReal) (hz : ∀ b h s j, V (Proc.devRef .tc main_v90) (ix4 b h s j) = z b h s j)
    (b : Fin 2) (h : Fin 16) (s j : Fin 2048) :
    after opsSoft V (Proc.devRef .tc main_v101) (ix4 b h s j)
      = Ideal.div (Ideal.exp (z b h s j - max cNeg ((Finset.univ : Finset (Fin 2048)).fold max cNeg fun k => z b h s k)))
          (∑ k, Ideal.exp (z b h s k - max cNeg ((Finset.univ : Finset (Fin 2048)).fold max cNeg fun k => z b h s k))) := by
  after_reads_simp
  refine (softmax_at (V (Proc.devRef .tc main_v90)) _ rfl b h s j).trans ?_
  simp only [hz]

/-- Attention's output projection. -/
theorem attnout_at
    (p : Fin 2 → Fin 16 → Fin 2048 → Fin 2048 → EReal) (hp : ∀ b h s j, V (Proc.devRef .tc main_v101) (ix4 b h s j) = p b h s j)
    (v : Fin 2 → Fin 16 → Fin 2048 → Fin 128 → EReal) (hv : ∀ b h s d, V (Proc.devRef .tc main_v37) (ix4 b h s d) = v b h s d)
    (W : Fin 2048 → Fin 2048 → EReal) (hW : ∀ k c, V (Proc.devRef .tc main_arg7) (ix2 k c) = W k c)
    (b : Fin 2) (s d : Fin 2048) :
    after opsAttnOut V (Proc.devRef .tc main_v105) (ix3 b s d)
      = ∑ c : Fin 2048, (∑ j, p b ⟨c.val / 128, by omega⟩ s j * v b ⟨c.val / 128, by omega⟩ j ⟨c.val % 128, by omega⟩) * W c d := by
  after_reads_at
  simp only [hp, hv, hW]

theorem select_zero (p : Prop) [Decidable p] (x : EReal) :
    Scalar.select (BitVec.ofBool (decide p)) (0 : EReal) x = if p then 0 else x := by
  by_cases h : p
  · rw [decide_eq_true h, if_pos h]; rfl
  · rw [decide_eq_false h, if_neg h]; rfl

theorem zero_const : (id (constant (F := Ideal) S_ FTy.f32 0#32) ix0 : EReal) = 0 := Ideal.ofBits_zero_f32

/-- The input plus attention. -/
theorem resid_at
    (a : Fin 2 → Fin 2048 → Fin 2048 → EReal) (ha : ∀ b s d, V (Proc.devRef .tc main_v105) (ix3 b s d) = a b s d)
    (x : Fin 2 → Fin 2048 → Fin 2048 → EReal) (hx : ∀ b s d, V (Proc.devRef .tc main_arg0) (ix3 b s d) = x b s d)
    (p : Fin 2 → Fin 2048 → Prop) [∀ b s, Decidable (p b s)]
    (hp : ∀ b s, V (Proc.devRef .tc main_v7) (ix2 b s) = BitVec.ofBool (decide (p b s))) (b : Fin 2) (s d : Fin 2048) :
    after opsResid V (Proc.devRef .tc main_v108) (ix3 b s d) = (if p b s then 0 else a b s d) + x b s d := by
  after_reads_at
  rw [hp, zero_const, select_zero, ha, hx]

/-- The gated feed-forward. -/
theorem mlp_at
    (y : Fin 2 → Fin 2048 → Fin 2048 → EReal) (hy : ∀ b s d, V (Proc.devRef .tc main_v121) (ix3 b s d) = y b s d)
    (Wg Wu : Fin 2048 → Fin 5632 → EReal) (Wd : Fin 5632 → Fin 2048 → EReal)
    (hWg : ∀ k f, V (Proc.devRef .tc main_arg8) (ix2 k f) = Wg k f) (hWu : ∀ k f, V (Proc.devRef .tc main_arg9) (ix2 k f) = Wu k f)
    (hWd : ∀ f d, V (Proc.devRef .tc main_arg10) (ix2 f d) = Wd f d) (b : Fin 2) (s d : Fin 2048) :
    after opsMlp V (Proc.devRef .tc main_v126) (ix3 b s d)
      = ∑ f, ((∑ k, y b s k * Wg k f) * Ideal.logistic (∑ k, y b s k * Wg k f) * ∑ k, y b s k * Wu k f) * Wd f d := by
  after_reads_at
  simp only [hy, hWg, hWu, hWd]
  rfl

/-- The block's result. -/
theorem out_at
    (m : Fin 2 → Fin 2048 → Fin 2048 → EReal) (hm : ∀ b s d, V (Proc.devRef .tc main_v108) (ix3 b s d) = m b s d)
    (a : Fin 2 → Fin 2048 → Fin 2048 → EReal) (ha : ∀ b s d, V (Proc.devRef .tc main_v126) (ix3 b s d) = a b s d)
    (p : Fin 2 → Fin 2048 → Prop) [∀ b s, Decidable (p b s)]
    (hp : ∀ b s, V (Proc.devRef .tc main_v15) (ix2 b s) = BitVec.ofBool (decide (p b s))) (b : Fin 2) (s d : Fin 2048) :
    after opsOut V (Proc.devRef .tc main_v129) (ix3 b s d) = m b s d + if p b s then 0 else a b s d := by
  after_reads_at
  rw [hp, zero_const, select_zero, ha, hm]

end Cert.ReferenceIdeal.Gen
end
-- ==== Proof.Value.RefOut.lean ====
module

public import proofs.«01_k».proof.Proof.Value.RefVal

/-!
The reference's result is the block's formula of its arguments.
-/

@[expose] public section

set_option maxRecDepth 16384

noncomputable section

namespace Cert.ReferenceIdeal.Gen

open Cert.ReferenceIdeal Idealize.ShloMosaic Idealize.ShloMosaic.TcCoe Idealize.SL.Sem
open Idealize.ShloMosaic.StableHlo (after)
open Cert.Value

variable (V : Valuation τ sig (Elt Ideal)) (A : Ins)

/-- The argument arrays hold `A`, every position attended. -/
structure Holds : Prop where
  X : ∀ b s d, V (Proc.devRef .tc main_arg0) (ix3 b s d) = A.X b s d
  mask : ∀ (b : Fin 2) (s : Fin 2048), V (Proc.devRef .tc main_arg1) (ix2 b s) = 1#1
  L1 : ∀ d, V (Proc.devRef .tc main_arg2) (ix1 d) = A.L1 d
  L2 : ∀ d, V (Proc.devRef .tc main_arg3) (ix1 d) = A.L2 d
  Wq : ∀ k c, V (Proc.devRef .tc main_arg4) (ix2 k c) = A.Wq k c
  Wk : ∀ k c, V (Proc.devRef .tc main_arg5) (ix2 k c) = A.Wk k c
  Wv : ∀ k c, V (Proc.devRef .tc main_arg6) (ix2 k c) = A.Wv k c
  Wo : ∀ k c, V (Proc.devRef .tc main_arg7) (ix2 k c) = A.Wo k c
  Wg : ∀ k c, V (Proc.devRef .tc main_arg8) (ix2 k c) = A.Wg k c
  Wu : ∀ k c, V (Proc.devRef .tc main_arg9) (ix2 k c) = A.Wu k c
  Wd : ∀ k c, V (Proc.devRef .tc main_arg10) (ix2 k c) = A.Wd k c
  Wa : ∀ k c, V (Proc.devRef .tc main_arg11) (ix2 k c) = A.Wa k c
  ba : ∀ e, V (Proc.devRef .tc main_arg12) (ix1 e) = A.ba e
  Wm : ∀ k c, V (Proc.devRef .tc main_arg13) (ix2 k c) = A.Wm k c
  bm : ∀ e, V (Proc.devRef .tc main_arg14) (ix1 e) = A.bm e

variable {V A}

/-- A value an array is known to hold everywhere is found there in any valuation that agrees on the array. -/
theorem at_of {α β : Type} {f g : α → β} (h : f = g) {i : α} {x : β} (e : g i = x) : f i = x := by rw [h]; exact e

variable (H : Holds V A)
include H

/-- The rows that skip attention. -/
theorem v7_1 (b : Fin 2) (s : Fin 2048) :
    U1 V (Proc.devRef .tc main_v7) (ix2 b s) = BitVec.ofBool (decide (routed (A.X b s) A.Wa A.ba)) :=
  route_attn_at V A.X H.X A.Wa H.Wa A.ba H.ba b s
/-- The rows that skip the feed-forward half. -/
theorem v15_1 (b : Fin 2) (s : Fin 2048) :
    U1 V (Proc.devRef .tc main_v15) (ix2 b s) = BitVec.ofBool (decide (routed (A.X b s) A.Wm A.bm)) :=
  route_mlp_at V A.X H.X A.Wm H.Wm A.bm H.bm b s
/-- The normalized input. -/
theorem v28_2 (b : Fin 2) (s d : Fin 2048) : U2 V (Proc.devRef .tc main_v28) (ix3 b s d) = A.xn b s d :=
  norm1_at (U1 V) A.X (fun b s d => at_of (U1_args V _ (by decide)) (H.X b s d)) A.L1
    (fun d => at_of (U1_args V _ (by decide)) (H.L1 d)) b s d
/-- Queries, keys and values before the rotation. -/
theorem v31_3 (b : Fin 2) (h : Fin 16) (s : Fin 2048) (d : Fin 128) :
    U3 V (Proc.devRef .tc main_v31) (ix4 b h s d) = A.proj A.Wq b h s d :=
  projq_at (U2 V) A.xn (v28_2 H) A.Wq (fun k c => at_of (U2_args V _ (by decide)) (H.Wq k c)) b h s d
theorem v34_3 (b : Fin 2) (h : Fin 16) (s : Fin 2048) (d : Fin 128) :
    U3 V (Proc.devRef .tc main_v34) (ix4 b h s d) = A.proj A.Wk b h s d :=
  projk_at (U2 V) A.xn (v28_2 H) A.Wk (fun k c => at_of (U2_args V _ (by decide)) (H.Wk k c)) b h s d
theorem v37_3 (b : Fin 2) (h : Fin 16) (s : Fin 2048) (d : Fin 128) :
    U3 V (Proc.devRef .tc main_v37) (ix4 b h s d) = A.proj A.Wv b h s d :=
  projv_at (U2 V) A.xn (v28_2 H) A.Wv (fun k c => at_of (U2_args V _ (by decide)) (H.Wv k c)) b h s d

theorem v68_5 (b : Fin 2) (h : Fin 16) (s : Fin 2048) (d : Fin 128) :
    U5 V (Proc.devRef .tc main_v68) (ix4 b h s d) = A.rot A.Wq b h s d :=
  ropeq_at (U4 V) (A.proj A.Wq) (fun b h s d => at_of (opsAngle_of _ main_v31 (by decide)) (v31_3 H b h s d))
    (cos_at (U3 V)) (sin_at (U3 V)) b h s d
theorem v79_6 (b : Fin 2) (h : Fin 16) (s : Fin 2048) (d : Fin 128) :
    U6 V (Proc.devRef .tc main_v79) (ix4 b h s d) = A.rot A.Wk b h s d :=
  ropek_at (U5 V) (A.proj A.Wk)
    (fun b h s d => at_of ((opsRopeQ_of _ main_v34 (by decide)).trans (opsAngle_of _ main_v34 (by decide))) (v34_3 H b h s d))
    (fun s d => at_of (opsRopeQ_of _ main_v56 (by decide)) (cos_at (U3 V) s d))
    (fun s d => at_of (opsRopeQ_of _ main_v57 (by decide)) (sin_at (U3 V) s d)) b h s d
/-- The scores, their softmax, and attention's output. -/
theorem v90_7 (b : Fin 2) (h : Fin 16) (s j : Fin 2048) :
    U7 V (Proc.devRef .tc main_v90) (ix4 b h s j) = A.score b h s j :=
  score_at (U6 V) (fun b s => at_of (U6_args V _ (by decide)) (H.mask b s)) (A.rot A.Wq)
    (fun b h s d => at_of (opsRopeK_of _ main_v68 (by decide)) (v68_5 H b h s d)) (A.rot A.Wk) (v79_6 H) b h s j
theorem v101_8 (b : Fin 2) (h : Fin 16) (s j : Fin 2048) :
    U8 V (Proc.devRef .tc main_v101) (ix4 b h s j) = A.prob b h s j :=
  soft_at (U7 V) A.score (v90_7 H) b h s j
theorem v105_9 (b : Fin 2) (s d : Fin 2048) :
    U9 V (Proc.devRef .tc main_v105) (ix3 b s d) = ∑ c, A.heads b s c * A.Wo c d :=
  attnout_at (U8 V) A.prob (v101_8 H) (A.proj A.Wv)
    (fun b h s d => at_of ((opsSoft_of _ main_v37 (by decide)).trans ((opsScore_of _ main_v37 (by decide)).trans
      ((opsRopeK_of _ main_v37 (by decide)).trans ((opsRopeQ_of _ main_v37 (by decide)).trans
        (opsAngle_of _ main_v37 (by decide)))))) (v37_3 H b h s d))
    A.Wo (fun k c => at_of (U8_args V _ (by decide)) (H.Wo k c)) b s d
theorem v7_9 (b : Fin 2) (s : Fin 2048) :
    U9 V (Proc.devRef .tc main_v7) (ix2 b s) = BitVec.ofBool (decide (routed (A.X b s) A.Wa A.ba)) :=
  at_of ((opsAttnOut_of _ main_v7 (by decide)).trans
      ((opsSoft_of _ main_v7 (by decide)).trans
      ((opsScore_of _ main_v7 (by decide)).trans
      ((opsRopeK_of _ main_v7 (by decide)).trans
      ((opsRopeQ_of _ main_v7 (by decide)).trans
      ((opsAngle_of _ main_v7 (by decide)).trans
      ((opsProj_of _ main_v7 (by decide)).trans
      (opsNorm1_of _ main_v7 (by decide))))))))) (v7_1 H b s)
theorem v15_12 (b : Fin 2) (s : Fin 2048) :
    U12 V (Proc.devRef .tc main_v15) (ix2 b s) = BitVec.ofBool (decide (routed (A.X b s) A.Wm A.bm)) :=
  at_of ((opsMlp_of _ main_v15 (by decide)).trans
      ((opsNorm2_of _ main_v15 (by decide)).trans
      ((opsResid_of _ main_v15 (by decide)).trans
      ((opsAttnOut_of _ main_v15 (by decide)).trans
      ((opsSoft_of _ main_v15 (by decide)).trans
      ((opsScore_of _ main_v15 (by decide)).trans
      ((opsRopeK_of _ main_v15 (by decide)).trans
      ((opsRopeQ_of _ main_v15 (by decide)).trans
      ((opsAngle_of _ main_v15 (by decide)).trans
      ((opsProj_of _ main_v15 (by decide)).trans
      (opsNorm1_of _ main_v15 (by decide)))))))))))) (v15_1 H b s)
/-- The middle of the block. -/
theorem v108_10 (b : Fin 2) (s d : Fin 2048) : U10 V (Proc.devRef .tc main_v108) (ix3 b s d) = A.mid b s d :=
  resid_at (U9 V) (fun b s d => ∑ c, A.heads b s c * A.Wo c d) (v105_9 H) A.X
    (fun b s d => at_of (U9_args V _ (by decide)) (H.X b s d)) (fun b s => routed (A.X b s) A.Wa A.ba) (v7_9 H) b s d
theorem v121_11 (b : Fin 2) (s d : Fin 2048) : U11 V (Proc.devRef .tc main_v121) (ix3 b s d) = A.y b s d :=
  norm2_at (U10 V) A.mid (v108_10 H) A.L2 (fun d => at_of (U10_args V _ (by decide)) (H.L2 d)) b s d
/-- The feed-forward half. -/
theorem v126_12 (b : Fin 2) (s d : Fin 2048) :
    U12 V (Proc.devRef .tc main_v126) (ix3 b s d) = ∑ f, A.hidden b s f * A.Wd f d :=
  mlp_at (U11 V) A.y (v121_11 H) A.Wg A.Wu A.Wd (fun k f => at_of (U11_args V _ (by decide)) (H.Wg k f))
    (fun k f => at_of (U11_args V _ (by decide)) (H.Wu k f)) (fun f d => at_of (U11_args V _ (by decide)) (H.Wd f d)) b s d
/-- The reference's result. -/
theorem result (b : Fin 2) (s d : Fin 2048) : U13 V (Proc.devRef .tc main_v129) (ix3 b s d) = A.out b s d :=
  out_at (U12 V) A.mid
    (fun b s d => at_of ((opsMlp_of _ main_v108 (by decide)).trans (opsNorm2_of _ main_v108 (by decide))) (v108_10 H b s d))
    (fun b s d => ∑ f, A.hidden b s f * A.Wd f d) (v126_12 H) (fun b s => routed (A.X b s) A.Wm A.bm) (v15_12 H) b s d

end Cert.ReferenceIdeal.Gen
end
-- ==== Proof.Value.KerPay.lean ====
module

public import proofs.«01_k».proof.Proof.Ideal.Run
public import proofs.«01_k».proof.Proof.Value.RefOut

/-!
What each body of the kernel computes, at an index, as a formula over the blocks it reads.
-/

@[expose] public section

set_option maxRecDepth 16384

noncomputable section

namespace Cert.KernelIdeal.Gen

open Cert.KernelIdeal Idealize.ShloMosaic Idealize.ShloMosaic.TcCoe Idealize.SL.Sem
open Cert.Value

/-- The float mask of a row that skips a layer. -/
def flag (p : Prop) [Decidable p] : EReal := FloatOps.sitofp (F := Ideal) .f32 (BitVec.setWidth 32 (BitVec.ofBool (decide p)))

theorem mul_one_sub_flag (x : EReal) (p : Prop) [Decidable p] : x * (1 - flag p) = if p then 0 else x := mul_one_sub_mask x p

/-- The normalization of a row. -/
theorem pay_norm (X : FVec Ideal S256x2048 .f32) (L : FVec Ideal S1x2048 .f32) (r : Fin 256)
    (x : Fin 2048 → EReal) (hx : ∀ k, X (ix2 r k) = x k) (l : Fin 2048 → EReal) (hl : ∀ k, L (ix2 0 k) = l k)
    (d : Fin 2048) : k0_pay5 (F := Ideal) X L (ix2 r d) = rms x l d := by
  pointwise [k0_pay5, k0_pay1]
  simp only [hx, hl]
  rfl

/-- The attention router's flag. -/
theorem pay_route_attn (X : FVec Ideal S256x2048 .f32) (W : FVec Ideal S2048x128 .f32) (B : FVec Ideal S1x128 .f32)
    (r : Fin 256) (x : Fin 2048 → EReal) (hx : ∀ k, X (ix2 r k) = x k)
    (w : Fin 2048 → Fin 2 → EReal) (hw0 : ∀ k, W (ix2 k 0) = w k 0) (hw1 : ∀ k, W (ix2 k 1) = w k 1)
    (b : Fin 2 → EReal) (hb0 : B (ix2 0 0) = b 0) (hb1 : B (ix2 0 1) = b 1) :
    k0_pay3 (F := Ideal) X W B (ix2 r 0) = flag (routed x w b) := by
  pointwise [k0_pay3, k0_pay2, k0_pay1]
  simp only [hx, hw0, hw1, hb0, hb1]
  rfl

/-- The feed-forward router's flag. -/
theorem pay_route_mlp (X : FVec Ideal S256x2048 .f32) (W : FVec Ideal S2048x128 .f32) (B : FVec Ideal S1x128 .f32)
    (r : Fin 256) (x : Fin 2048 → EReal) (hx : ∀ k, X (ix2 r k) = x k)
    (w : Fin 2048 → Fin 2 → EReal) (hw0 : ∀ k, W (ix2 k 2) = w k 0) (hw1 : ∀ k, W (ix2 k 3) = w k 1)
    (b : Fin 2 → EReal) (hb0 : B (ix2 0 2) = b 0) (hb1 : B (ix2 0 3) = b 1) :
    k0_pay4 (F := Ideal) X W B (ix2 r 0) = flag (routed x w b) := by
  pointwise [k0_pay4, k0_pay2, k0_pay1]
  simp only [hx, hw0, hw1, hb0, hb1]
  rfl

/-- A block of four heads, each turned by its halves and rotated. -/
theorem turned (P : Fin 512 → EReal) (s : ℕ) (c : Fin 512) :
    P c * Ideal.cos (angle s (c.val % 128)) +
      (if h : c.val < 128 then
          if h_1 : c.val < 64 then 0 - P ⟨64 + c.val, by omega⟩ else P ⟨c.val - 64, by omega⟩
        else
          if h : c.val - 128 < 128 then
            if h_1 : c.val - 128 < 64 then 0 - P ⟨128 + (64 + (c.val - 128)), by omega⟩
            else P ⟨128 + (c.val - 128 - 64), by omega⟩
          else
            if h : c.val - 128 - 128 < 128 then
              if h_1 : c.val - 128 - 128 < 64 then 0 - P ⟨256 + (64 + (c.val - 128 - 128)), by omega⟩
              else P ⟨256 + (c.val - 128 - 128 - 64), by omega⟩
            else
              if h_1 : c.val - 128 - 128 - 128 < 64 then
                0 - P ⟨384 + (64 + (c.val - 128 - 128 - 128)), by omega⟩
              else P ⟨384 + (c.val - 128 - 128 - 128 - 64), by omega⟩) * Ideal.sin (angle s (c.val % 128))
      = rope (fun e => P ⟨c.val / 128 * 128 + e.val, by omega⟩) s ⟨c.val % 128, by omega⟩ := by
  have e1 : (⟨c.val / 128 * 128 + c.val % 128, by omega⟩ : Fin 512) = c :=
    Fin.ext (by show c.val / 128 * 128 + c.val % 128 = c.val; omega)
  unfold rope turn
  dsimp only
  rw [e1]
  congr 2
  simp only [zero_sub]
  have hc := c.isLt
  split_ifs <;> first | omega | (congr 2; apply Fin.ext; dsimp only; omega) | (congr 1; apply Fin.ext; dsimp only; omega)

/-- The projected block, every head in it rotated. -/
theorem pay_rope (X : FVec Ideal S256x2048 .bf16) (W : FVec Ideal S2048x512 .bf16) (C S : FVec Ideal S256x512 .f32)
    (r : Fin 256) (x : Fin 2048 → EReal) (hx : ∀ k, X (ix2 r k) = x k)
    (w : Fin 2048 → Fin 512 → EReal) (hw : ∀ k c, W (ix2 k c) = w k c)
    (s : ℕ) (hc : ∀ c, C (ix2 r c) = Ideal.cos (angle s (c.val % 128)))
    (hs : ∀ c, S (ix2 r c) = Ideal.sin (angle s (c.val % 128))) (c : Fin 512) :
    k1_pay1 (F := Ideal) X W C S (ix2 r c)
      = rope (fun e => ∑ k, x k * w k ⟨c.val / 128 * 128 + e.val, by omega⟩) s ⟨c.val % 128, by omega⟩ := by
  pointwise [k1_pay1]
  simp only [hx, hw, hc, hs]
  exact turned (fun c => ∑ k, x k * w k c) s c

/-- The projected block. -/
theorem pay_v (X : FVec Ideal S256x2048 .bf16) (W : FVec Ideal S2048x512 .bf16) (r : Fin 256) (c : Fin 512)
    (x : Fin 2048 → EReal) (hx : ∀ k, X (ix2 r k) = x k) (w : Fin 2048 → EReal) (hw : ∀ k, W (ix2 k c) = w k) :
    k2_pay1 (F := Ideal) X W (ix2 r c) = ∑ k, x k * w k := by
  pointwise [k2_pay1]
  simp only [hx, hw]

/-- The output projection, masked and added to the input. -/
theorem pay_mid (O : FVec Ideal S256x2048 .bf16) (W : FVec Ideal S2048x2048 .bf16) (M : FVec Ideal S256x1 .f32)
    (X : FVec Ideal S256x2048 .f32) (r : Fin 256) (d : Fin 2048)
    (o : Fin 2048 → EReal) (ho : ∀ k, O (ix2 r k) = o k) (w : Fin 2048 → EReal) (hw : ∀ k, W (ix2 k d) = w k)
    (x : EReal) (hx : X (ix2 r d) = x) (p : Prop) [Decidable p] (hp : M (ix2 r 0) = flag p) :
    k4_pay1 (F := Ideal) O W M X (ix2 r d) = (if p then 0 else ∑ k, o k * w k) + x := by
  rw [← mul_one_sub_flag]
  pointwise [k4_pay1]
  simp only [ho, hw, hx, hp]

/-- That normalized. -/
theorem pay_y (O : FVec Ideal S256x2048 .bf16) (W : FVec Ideal S2048x2048 .bf16) (M : FVec Ideal S256x1 .f32)
    (X : FVec Ideal S256x2048 .f32) (L : FVec Ideal S1x2048 .f32) (r : Fin 256)
    (m : Fin 2048 → EReal) (hm : ∀ k, k4_pay1 (F := Ideal) O W M X (ix2 r k) = m k)
    (l : Fin 2048 → EReal) (hl : ∀ k, L (ix2 0 k) = l k) (d : Fin 2048) :
    k4_pay2 (F := Ideal) O W M X L (ix2 r d) = rms m l d := by
  pointwise [k4_pay2]
  simp only [hm, hl]
  rfl

/-- The accumulator starts at zero. -/
theorem pay_zero (r : Fin 256) (d : Fin 2048) : (k5_pay1 : FVec Ideal S256x2048 .f32) (ix2 r d) = (0 : EReal) := by
  pointwise [k5_pay1]

/-- One block of hidden units added to the accumulator. -/
theorem pay_hidden (Y : FVec Ideal S256x2048 .bf16) (G U : FVec Ideal S2048x512 .bf16) (Q : FVec Ideal S256x2048 .f32)
    (D : FVec Ideal S512x2048 .bf16) (r : Fin 256) (d : Fin 2048)
    (y : Fin 2048 → EReal) (hy : ∀ k, Y (ix2 r k) = y k)
    (g : Fin 2048 → Fin 512 → EReal) (hg : ∀ k c, G (ix2 k c) = g k c)
    (u : Fin 2048 → Fin 512 → EReal) (hu : ∀ k c, U (ix2 k c) = u k c)
    (q : EReal) (hq : Q (ix2 r d) = q) (w : Fin 512 → EReal) (hw : ∀ f, D (ix2 f d) = w f) :
    k5_pay2 (F := Ideal) Y G U Q D (ix2 r d)
      = q + ∑ f, ((∑ k, y k * g k f) * Ideal.logistic (∑ k, y k * g k f) * ∑ k, y k * u k f) * w f := by
  pointwise [k5_pay2]
  simp only [hy, hg, hu, hq, hw]

/-- The masked accumulator added to the middle of the block. -/
theorem pay_out (H Q : FVec Ideal S256x2048 .f32) (M : FVec Ideal S256x1 .f32) (r : Fin 256) (d : Fin 2048)
    (h : EReal) (hh : H (ix2 r d) = h) (q : EReal) (hq : Q (ix2 r d) = q)
    (p : Prop) [Decidable p] (hp : M (ix2 r 0) = flag p) :
    k5_pay3 (F := Ideal) H Q M (ix2 r d) = h + if p then 0 else q := by
  rw [← mul_one_sub_flag]
  pointwise [k5_pay3]
  simp only [hh, hq, hp]

end Cert.KernelIdeal.Gen
end
-- ==== Proof.Value.KerArr.lean ====
module

public import proofs.«01_k».proof.Proof.Value.KerPay

/-!
The blocks the kernel's windows hold at each grid point, as places in their arrays, and each output array as the blocks
written back to it.
-/

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat Cfg Window)
open Cert.Value

variable (V : (c : Dev nD) → (b : Ref sig .tc) → Buf (Elt Ideal) ((c : Thread nD τ).loc b)) (c : Dev nD)

/-! ## Region 0 -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
/-- Window 0's block at a point, by its place in the array. -/
theorem blk0_0 (t : Fin cfg0.N) (r : Fin 256) (d : Fin 2048) (T : Fin 4096) (C : Fin 2048)
    (hT : T.val = (t.val) * 256 + r.val) (hC : C.val = (0) * 2048 + d.val) :
    iblk0 V c 0 t (ix2 r d) = V c main_v0 (ix2 T C) := by
  obtain ⟨e0, e1⟩ := idx0_0 t
  unfold iblk0
  rw [View.read_apply]
  show V c main_v0 _ = _
  congr 1
  funext a
  apply Fin.ext
  match a with
  | ⟨0, _⟩ => show win0_0.index t (0 : Fin 2) * 256 + 1 * r.val = T.val; rw [e0, hT]; omega
  | ⟨1, _⟩ => show win0_0.index t (1 : Fin 2) * 2048 + 1 * d.val = C.val; rw [e1, hC]; omega
/-- Window 1's block at a point, by its place in the array. -/
theorem blk0_1 (t : Fin cfg0.N) (r : Fin 2048) (d : Fin 128) (T : Fin 2048) (C : Fin 128)
    (hT : T.val = (0) * 2048 + r.val) (hC : C.val = (0) * 128 + d.val) :
    iblk0 V c 1 t (ix2 r d) = V c main_v5 (ix2 T C) := by
  obtain ⟨e0, e1⟩ := idx0_1 t
  unfold iblk0
  rw [View.read_apply]
  show V c main_v5 _ = _
  congr 1
  funext a
  apply Fin.ext
  match a with
  | ⟨0, _⟩ => show win0_1.index t (0 : Fin 2) * 2048 + 1 * r.val = T.val; rw [e0, hT]; omega
  | ⟨1, _⟩ => show win0_1.index t (1 : Fin 2) * 128 + 1 * d.val = C.val; rw [e1, hC]; omega
/-- Window 2's block at a point, by its place in the array. -/
theorem blk0_2 (t : Fin cfg0.N) (r : Fin 1) (d : Fin 128) (T : Fin 1) (C : Fin 128)
    (hT : T.val = (0) * 1 + r.val) (hC : C.val = (0) * 128 + d.val) :
    iblk0 V c 2 t (ix2 r d) = V c main_v14 (ix2 T C) := by
  obtain ⟨e0, e1⟩ := idx0_2 t
  unfold iblk0
  rw [View.read_apply]
  show V c main_v14 _ = _
  congr 1
  funext a
  apply Fin.ext
  match a with
  | ⟨0, _⟩ => show win0_2.index t (0 : Fin 2) * 1 + 1 * r.val = T.val; rw [e0, hT]; omega
  | ⟨1, _⟩ => show win0_2.index t (1 : Fin 2) * 128 + 1 * d.val = C.val; rw [e1, hC]; omega
/-- Window 3's block at a point, by its place in the array. -/
theorem blk0_3 (t : Fin cfg0.N) (r : Fin 1) (d : Fin 2048) (T : Fin 1) (C : Fin 2048)
    (hT : T.val = (0) * 1 + r.val) (hC : C.val = (0) * 2048 + d.val) :
    iblk0 V c 3 t (ix2 r d) = V c main_v15 (ix2 T C) := by
  obtain ⟨e0, e1⟩ := idx0_3 t
  unfold iblk0
  rw [View.read_apply]
  show V c main_v15 _ = _
  congr 1
  funext a
  apply Fin.ext
  match a with
  | ⟨0, _⟩ => show win0_3.index t (0 : Fin 2) * 1 + 1 * r.val = T.val; rw [e0, hT]; omega
  | ⟨1, _⟩ => show win0_3.index t (1 : Fin 2) * 2048 + 1 * d.val = C.val; rw [e1, hC]; omega
theorem onto0_4 (q0 : Fin 16) (q1 : Fin 1) : ∃ t : Fin cfg0.N, (cfg0.win 4).flush t = true
    ∧ win0_4.index t (0 : Fin 2) = q0.val ∧ win0_4.index t (1 : Fin 2) = q1.val :=
  ⟨⟨q0.val, lt_of_lt_of_eq (by omega) N_0.symm⟩,
    (by decide +kernel : ∀ (q0 : Fin 16) (q1 : Fin 1), win0_4.flush (⟨q0.val, lt_of_lt_of_eq (by omega) N_0.symm⟩ : Fin grid0.N) = true
      ∧ win0_4.index (⟨q0.val, lt_of_lt_of_eq (by omega) N_0.symm⟩ : Fin grid0.N) (0 : Fin 2) = q0.val
      ∧ win0_4.index (⟨q0.val, lt_of_lt_of_eq (by omega) N_0.symm⟩ : Fin grid0.N) (1 : Fin 2) = q1.val) q0 q1⟩
/-- Output window 4's array after the region, given the block each point leaves. -/
theorem arr0_4 (f : Fin 4096 → Fin 2048 → EReal)
    (hf : ∀ (t : Fin cfg0.N) (r : Fin 256) (d : Fin 2048) (T : Fin 4096) (C : Fin 2048), T.val = (t.val) * 256 + r.val →
      C.val = (0) * 2048 + d.val → (dat0 V c).after 4 t (ix2 r d) = f T C) (T : Fin 4096) (C : Fin 2048) :
    (dat0 V c).arrAt 4 cfg0.N (ix2 T C) = f T C := by
  have key : (dat0 V c).arrAt 4 cfg0.N = (fun i => f (i 0) (i 1) : S4096x2048.Idx → EReal) := by
    refine (dat0 V c).arrAt_eq_of_cover 4 _ (fun t hf' => ?_) (fun i => ?_)
    · show (cfg0.win 4).cut (grid0.coords t) ((dat0 V c).after 4 t) = _
      obtain ⟨e0, e1⟩ := idx0_4 t
      funext y
      have hb0 : (((cfg0.win 4).blk t).view.emb y 0).val = win0_4.index t (0 : Fin 2) * 256 + 1 * (y 0).val := rfl
      have hb1 : (((cfg0.win 4).blk t).view.emb y 1).val = win0_4.index t (1 : Fin 2) * 2048 + 1 * (y 1).val := rfl
      rw [View.read_apply]
      show (dat0 V c).after 4 t ((cfg0.win 4).xinj (grid0.coords t) y) = f (((cfg0.win 4).blk t).view.emb y 0) (((cfg0.win 4).blk t).view.emb y 1)
      have hy : (cfg0.win 4).xinj (grid0.coords t) y = ix2 (⟨(y 0).val, (y 0).isLt⟩ : Fin 256) (⟨(y 1).val, (y 1).isLt⟩ : Fin 2048) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto0_4 ⟨(i 0).val / 256, by omega⟩ ⟨(i 1).val / 2048, by omega⟩
      refine ⟨t, hft, ?_⟩
      show i ∈ ((View.whole main_v52_0).slice (win0_4.rect t)).set
      rw [View.set_slice_whole, Rect.mem_set_unit]
      intro a
      match a with
      | ⟨0, _⟩ => show win0_4.index t (0 : Fin 2) * 256 ≤ (i 0).val ∧ (i 0).val < win0_4.index t (0 : Fin 2) * 256 + 256; rw [q0]; simp only; omega
      | ⟨1, _⟩ => show win0_4.index t (1 : Fin 2) * 2048 ≤ (i 1).val ∧ (i 1).val < win0_4.index t (1 : Fin 2) * 2048 + 2048; rw [q1]; simp only; omega
  exact congrFun key (ix2 T C)
theorem onto0_5 (q0 : Fin 16) (q1 : Fin 1) : ∃ t : Fin cfg0.N, (cfg0.win 5).flush t = true
    ∧ win0_5.index t (0 : Fin 2) = q0.val ∧ win0_5.index t (1 : Fin 2) = q1.val :=
  ⟨⟨q0.val, lt_of_lt_of_eq (by omega) N_0.symm⟩,
    (by decide +kernel : ∀ (q0 : Fin 16) (q1 : Fin 1), win0_5.flush (⟨q0.val, lt_of_lt_of_eq (by omega) N_0.symm⟩ : Fin grid0.N) = true
      ∧ win0_5.index (⟨q0.val, lt_of_lt_of_eq (by omega) N_0.symm⟩ : Fin grid0.N) (0 : Fin 2) = q0.val
      ∧ win0_5.index (⟨q0.val, lt_of_lt_of_eq (by omega) N_0.symm⟩ : Fin grid0.N) (1 : Fin 2) = q1.val) q0 q1⟩
/-- Output window 5's array after the region, given the block each point leaves. -/
theorem arr0_5 (f : Fin 4096 → Fin 1 → EReal)
    (hf : ∀ (t : Fin cfg0.N) (r : Fin 256) (d : Fin 1) (T : Fin 4096) (C : Fin 1), T.val = (t.val) * 256 + r.val →
      C.val = (0) * 1 + d.val → (dat0 V c).after 5 t (ix2 r d) = f T C) (T : Fin 4096) (C : Fin 1) :
    (dat0 V c).arrAt 5 cfg0.N (ix2 T C) = f T C := by
  have key : (dat0 V c).arrAt 5 cfg0.N = (fun i => f (i 0) (i 1) : S4096x1.Idx → EReal) := by
    refine (dat0 V c).arrAt_eq_of_cover 5 _ (fun t hf' => ?_) (fun i => ?_)
    · show (cfg0.win 5).cut (grid0.coords t) ((dat0 V c).after 5 t) = _
      obtain ⟨e0, e1⟩ := idx0_5 t
      funext y
      have hb0 : (((cfg0.win 5).blk t).view.emb y 0).val = win0_5.index t (0 : Fin 2) * 256 + 1 * (y 0).val := rfl
      have hb1 : (((cfg0.win 5).blk t).view.emb y 1).val = win0_5.index t (1 : Fin 2) * 1 + 1 * (y 1).val := rfl
      rw [View.read_apply]
      show (dat0 V c).after 5 t ((cfg0.win 5).xinj (grid0.coords t) y) = f (((cfg0.win 5).blk t).view.emb y 0) (((cfg0.win 5).blk t).view.emb y 1)
      have hy : (cfg0.win 5).xinj (grid0.coords t) y = ix2 (⟨(y 0).val, (y 0).isLt⟩ : Fin 256) (⟨(y 1).val, (y 1).isLt⟩ : Fin 1) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 1 := (i 1).isLt
      obtain ⟨t, hft, q0, q1⟩ := onto0_5 ⟨(i 0).val / 256, by omega⟩ ⟨(i 1).val / 1, by omega⟩
      refine ⟨t, hft, ?_⟩
      show i ∈ ((View.whole main_v52_1).slice (win0_5.rect t)).set
      rw [View.set_slice_whole, Rect.mem_set_unit]
      intro a
      match a with
      | ⟨0, _⟩ => show win0_5.index t (0 : Fin 2) * 256 ≤ (i 0).val ∧ (i 0).val < win0_5.index t (0 : Fin 2) * 256 + 256; rw [q0]; simp only; omega
      | ⟨1, _⟩ => show win0_5.index t (1 : Fin 2) * 1 ≤ (i 1).val ∧ (i 1).val < win0_5.index t (1 : Fin 2) * 1 + 1; rw [q1]; simp only; omega
  exact congrFun key (ix2 T C)
theorem onto0_6 (q0 : Fin 16) (q1 : Fin 1) : ∃ t : Fin cfg0.N, (cfg0.win 6).flush t = true
    ∧ win0_6.index t (0 : Fin 2) = q0.val ∧ win0_6.index t (1 : Fin 2) = q1.val :=
  ⟨⟨q0.val, lt_of_lt_of_eq (by omega) N_0.symm⟩,
    (by decide +kernel : ∀ (q0 : Fin 16) (q1 : Fin 1), win0_6.flush (⟨q0.val, lt_of_lt_of_eq (by omega) N_0.symm⟩ : Fin grid0.N) = true
      ∧ win0_6.index (⟨q0.val, lt_of_lt_of_eq (by omega) N_0.symm⟩ : Fin grid0.N) (0 : Fin 2) = q0.val
      ∧ win0_6.index (⟨q0.val, lt_of_lt_of_eq (by omega) N_0.symm⟩ : Fin grid0.N) (1 : Fin 2) = q1.val) q0 q1⟩
/-- Output window 6's array after the region, given the block each point leaves. -/
theorem arr0_6 (f : Fin 4096 → Fin 1 → EReal)
    (hf : ∀ (t : Fin cfg0.N) (r : Fin 256) (d : Fin 1) (T : Fin 4096) (C : Fin 1), T.val = (t.val) * 256 + r.val →
      C.val = (0) * 1 + d.val → (dat0 V c).after 6 t (ix2 r d) = f T C) (T : Fin 4096) (C : Fin 1) :
    (dat0 V c).arrAt 6 cfg0.N (ix2 T C) = f T C := by
  have key : (dat0 V c).arrAt 6 cfg0.N = (fun i => f (i 0) (i 1) : S4096x1.Idx → EReal) := by
    refine (dat0 V c).arrAt_eq_of_cover 6 _ (fun t hf' => ?_) (fun i => ?_)
    · show (cfg0.win 6).cut (grid0.coords t) ((dat0 V c).after 6 t) = _
      obtain ⟨e0, e1⟩ := idx0_6 t
      funext y
      have hb0 : (((cfg0.win 6).blk t).view.emb y 0).val = win0_6.index t (0 : Fin 2) * 256 + 1 * (y 0).val := rfl
      have hb1 : (((cfg0.win 6).blk t).view.emb y 1).val = win0_6.index t (1 : Fin 2) * 1 + 1 * (y 1).val := rfl
      rw [View.read_apply]
      show (dat0 V c).after 6 t ((cfg0.win 6).xinj (grid0.coords t) y) = f (((cfg0.win 6).blk t).view.emb y 0) (((cfg0.win 6).blk t).view.emb y 1)
      have hy : (cfg0.win 6).xinj (grid0.coords t) y = ix2 (⟨(y 0).val, (y 0).isLt⟩ : Fin 256) (⟨(y 1).val, (y 1).isLt⟩ : Fin 1) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 1 := (i 1).isLt
      obtain ⟨t, hft, q0, q1⟩ := onto0_6 ⟨(i 0).val / 256, by omega⟩ ⟨(i 1).val / 1, by omega⟩
      refine ⟨t, hft, ?_⟩
      show i ∈ ((View.whole main_v52_2).slice (win0_6.rect t)).set
      rw [View.set_slice_whole, Rect.mem_set_unit]
      intro a
      match a with
      | ⟨0, _⟩ => show win0_6.index t (0 : Fin 2) * 256 ≤ (i 0).val ∧ (i 0).val < win0_6.index t (0 : Fin 2) * 256 + 256; rw [q0]; simp only; omega
      | ⟨1, _⟩ => show win0_6.index t (1 : Fin 2) * 1 ≤ (i 1).val ∧ (i 1).val < win0_6.index t (1 : Fin 2) * 1 + 1; rw [q1]; simp only; omega
  exact congrFun key (ix2 T C)

/-! ## Region 1 -/

theorem idx1_0 : ∀ t : Fin cfg1.N, win1_0.index t (0 : Fin 2) = t.val / 8 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val % 8 :=
  (by decide +kernel : ∀ t : Fin grid1.N, _)
theorem idx1_2 : ∀ t : Fin cfg1.N, win1_2.index t (0 : Fin 2) = t.val / 8 % 8 ∧ win1_2.index t (1 : Fin 2) = 0 :=
  (by decide +kernel : ∀ t : Fin grid1.N, _)
theorem idx1_3 : ∀ t : Fin cfg1.N, win1_3.index t (0 : Fin 2) = t.val / 8 % 8 ∧ win1_3.index t (1 : Fin 2) = 0 :=
  (by decide +kernel : ∀ t : Fin grid1.N, _)
theorem idx1_4 : ∀ t : Fin cfg1.N, win1_4.index t (0 : Fin 2) = t.val / 8 ∧ win1_4.index t (1 : Fin 2) = t.val % 8 :=
  (by decide +kernel : ∀ t : Fin grid1.N, _)
/-- Window 0's block at a point, by its place in the array. -/
theorem blk1_0 (t : Fin cfg1.N) (r : Fin 256) (d : Fin 2048) (T : Fin 4096) (C : Fin 2048)
    (hT : T.val = (t.val / 8) * 256 + r.val) (hC : C.val = (0) * 2048 + d.val) :
    iblk1 V c 0 t (ix2 r d) = V c main_v52_0 (ix2 T C) := by
  obtain ⟨e0, e1⟩ := idx1_0 t
  unfold iblk1
  rw [View.read_apply]
  show V c main_v52_0 _ = _
  congr 1
  funext a
  apply Fin.ext
  match a with
  | ⟨0, _⟩ => show win1_0.index t (0 : Fin 2) * 256 + 1 * r.val = T.val; rw [e0, hT]; omega
  | ⟨1, _⟩ => show win1_0.index t (1 : Fin 2) * 2048 + 1 * d.val = C.val; rw [e1, hC]; omega
/-- Window 1's block at a point, by its place in the array. -/
theorem blk1_1 (t : Fin cfg1.N) (r : Fin 2048) (d : Fin 512) (T : Fin 2048) (C : Fin 4096)
    (hT : T.val = (0) * 2048 + r.val) (hC : C.val = (t.val % 8) * 512 + d.val) :
    iblk1 V c 1 t (ix2 r d) = V c main_v20 (ix2 T C) := by
  obtain ⟨e0, e1⟩ := idx1_1 t
  unfold iblk1
  rw [View.read_apply]
  show V c main_v20 _ = _
  congr 1
  funext a
  apply Fin.ext
  match a with
  | ⟨0, _⟩ => show win1_1.index t (0 : Fin 2) * 2048 + 1 * r.val = T.val; rw [e0, hT]; omega
  | ⟨1, _⟩ => show win1_1.index t (1 : Fin 2) * 512 + 1 * d.val = C.val; rw [e1, hC]; omega
/-- Window 2's block at a point, by its place in the array. -/
theorem blk1_2 (t : Fin cfg1.N) (r : Fin 256) (d : Fin 512) (T : Fin 2048) (C : Fin 512)
    (hT : T.val = (t.val / 8 % 8) * 256 + r.val) (hC : C.val = (0) * 512 + d.val) :
    iblk1 V c 2 t (ix2 r d) = V c main_v47 (ix2 T C) := by
  obtain ⟨e0, e1⟩ := idx1_2 t
  unfold iblk1
  rw [View.read_apply]
  show V c main_v47 _ = _
  congr 1
  funext a
  apply Fin.ext
  match a with
  | ⟨0, _⟩ => show win1_2.index t (0 : Fin 2) * 256 + 1 * r.val = T.val; rw [e0, hT]; omega
  | ⟨1, _⟩ => show win1_2.index t (1 : Fin 2) * 512 + 1 * d.val = C.val; rw [e1, hC]; omega
/-- Window 3's block at a point, by its place in the array. -/
theorem blk1_3 (t : Fin cfg1.N) (r : Fin 256) (d : Fin 512) (T : Fin 2048) (C : Fin 512)
    (hT : T.val = (t.val / 8 % 8) * 256 + r.val) (hC : C.val = (0) * 512 + d.val) :
    iblk1 V c 3 t (ix2 r d) = V c main_v51 (ix2 T C) := by
  obtain ⟨e0, e1⟩ := idx1_3 t
  unfold iblk1
  rw [View.read_apply]
  show V c main_v51 _ = _
  congr 1
  funext a
  apply Fin.ext
  match a with
  | ⟨0, _⟩ => show win1_3.index t (0 : Fin 2) * 256 + 1 * r.val = T.val; rw [e0, hT]; omega
  | ⟨1, _⟩ => show win1_3.index t (1 : Fin 2) * 512 + 1 * d.val = C.val; rw [e1, hC]; omega
theorem onto1_4 (q0 : Fin 16) (q1 : Fin 8) : ∃ t : Fin cfg1.N, (cfg1.win 4).flush t = true
    ∧ win1_4.index t (0 : Fin 2) = q0.val ∧ win1_4.index t (1 : Fin 2) = q1.val :=
  ⟨⟨8 * q0.val + q1.val, lt_of_lt_of_eq (by omega) N_1.symm⟩,
    (by decide +kernel : ∀ (q0 : Fin 16) (q1 : Fin 8), win1_4.flush (⟨8 * q0.val + q1.val, lt_of_lt_of_eq (by omega) N_1.symm⟩ : Fin grid1.N) = true
      ∧ win1_4.index (⟨8 * q0.val + q1.val, lt_of_lt_of_eq (by omega) N_1.symm⟩ : Fin grid1.N) (0 : Fin 2) = q0.val
      ∧ win1_4.index (⟨8 * q0.val + q1.val, lt_of_lt_of_eq (by omega) N_1.symm⟩ : Fin grid1.N) (1 : Fin 2) = q1.val) q0 q1⟩
/-- Output window 4's array after the region, given the block each point leaves. -/
theorem arr1_4 (f : Fin 4096 → Fin 4096 → EReal)
    (hf : ∀ (t : Fin cfg1.N) (r : Fin 256) (d : Fin 512) (T : Fin 4096) (C : Fin 4096), T.val = (t.val / 8) * 256 + r.val →
      C.val = (t.val % 8) * 512 + d.val → (dat1 V c).after 4 t (ix2 r d) = f T C) (T : Fin 4096) (C : Fin 4096) :
    (dat1 V c).arrAt 4 cfg1.N (ix2 T C) = f T C := by
  have key : (dat1 V c).arrAt 4 cfg1.N = (fun i => f (i 0) (i 1) : S4096x4096.Idx → EReal) := by
    refine (dat1 V c).arrAt_eq_of_cover 4 _ (fun t hf' => ?_) (fun i => ?_)
    · show (cfg1.win 4).cut (grid1.coords t) ((dat1 V c).after 4 t) = _
      obtain ⟨e0, e1⟩ := idx1_4 t
      funext y
      have hb0 : (((cfg1.win 4).blk t).view.emb y 0).val = win1_4.index t (0 : Fin 2) * 256 + 1 * (y 0).val := rfl
      have hb1 : (((cfg1.win 4).blk t).view.emb y 1).val = win1_4.index t (1 : Fin 2) * 512 + 1 * (y 1).val := rfl
      rw [View.read_apply]
      show (dat1 V c).after 4 t ((cfg1.win 4).xinj (grid1.coords t) y) = f (((cfg1.win 4).blk t).view.emb y 0) (((cfg1.win 4).blk t).view.emb y 1)
      have hy : (cfg1.win 4).xinj (grid1.coords t) y = ix2 (⟨(y 0).val, (y 0).isLt⟩ : Fin 256) (⟨(y 1).val, (y 1).isLt⟩ : Fin 512) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 4096 := (i 1).isLt
      obtain ⟨t, hft, q0, q1⟩ := onto1_4 ⟨(i 0).val / 256, by omega⟩ ⟨(i 1).val / 512, by omega⟩
      refine ⟨t, hft, ?_⟩
      show i ∈ ((View.whole main_v53).slice (win1_4.rect t)).set
      rw [View.set_slice_whole, Rect.mem_set_unit]
      intro a
      match a with
      | ⟨0, _⟩ => show win1_4.index t (0 : Fin 2) * 256 ≤ (i 0).val ∧ (i 0).val < win1_4.index t (0 : Fin 2) * 256 + 256; rw [q0]; simp only; omega
      | ⟨1, _⟩ => show win1_4.index t (1 : Fin 2) * 512 ≤ (i 1).val ∧ (i 1).val < win1_4.index t (1 : Fin 2) * 512 + 512; rw [q1]; simp only; omega
  exact congrFun key (ix2 T C)

/-! ## Region 2 -/

theorem idx2_0 : ∀ t : Fin cfg2.N, win2_0.index t (0 : Fin 2) = t.val / 4 ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = t.val % 4 :=
  (by decide +kernel : ∀ t : Fin grid2.N, _)
theorem idx2_2 : ∀ t : Fin cfg2.N, win2_2.index t (0 : Fin 2) = t.val / 4 ∧ win2_2.index t (1 : Fin 2) = t.val % 4 :=
  (by decide +kernel : ∀ t : Fin grid2.N, _)
/-- Window 0's block at a point, by its place in the array. -/
theorem blk2_0 (t : Fin cfg2.N) (r : Fin 256) (d : Fin 2048) (T : Fin 4096) (C : Fin 2048)
    (hT : T.val = (t.val / 4) * 256 + r.val) (hC : C.val = (0) * 2048 + d.val) :
    iblk2 V c 0 t (ix2 r d) = V c main_v52_0 (ix2 T C) := by
  obtain ⟨e0, e1⟩ := idx2_0 t
  unfold iblk2
  rw [View.read_apply]
  show V c main_v52_0 _ = _
  congr 1
  funext a
  apply Fin.ext
  match a with
  | ⟨0, _⟩ => show win2_0.index t (0 : Fin 2) * 256 + 1 * r.val = T.val; rw [e0, hT]; omega
  | ⟨1, _⟩ => show win2_0.index t (1 : Fin 2) * 2048 + 1 * d.val = C.val; rw [e1, hC]; omega
/-- Window 1's block at a point, by its place in the array. -/
theorem blk2_1 (t : Fin cfg2.N) (r : Fin 2048) (d : Fin 512) (T : Fin 2048) (C : Fin 2048)
    (hT : T.val = (0) * 2048 + r.val) (hC : C.val = (t.val % 4) * 512 + d.val) :
    iblk2 V c 1 t (ix2 r d) = V c main_v21 (ix2 T C) := by
  obtain ⟨e0, e1⟩ := idx2_1 t
  unfold iblk2
  rw [View.read_apply]
  show V c main_v21 _ = _
  congr 1
  funext a
  apply Fin.ext
  match a with
  | ⟨0, _⟩ => show win2_1.index t (0 : Fin 2) * 2048 + 1 * r.val = T.val; rw [e0, hT]; omega
  | ⟨1, _⟩ => show win2_1.index t (1 : Fin 2) * 512 + 1 * d.val = C.val; rw [e1, hC]; omega
theorem onto2_2 (q0 : Fin 16) (q1 : Fin 4) : ∃ t : Fin cfg2.N, (cfg2.win 2).flush t = true
    ∧ win2_2.index t (0 : Fin 2) = q0.val ∧ win2_2.index t (1 : Fin 2) = q1.val :=
  ⟨⟨4 * q0.val + q1.val, lt_of_lt_of_eq (by omega) N_2.symm⟩,
    (by decide +kernel : ∀ (q0 : Fin 16) (q1 : Fin 4), win2_2.flush (⟨4 * q0.val + q1.val, lt_of_lt_of_eq (by omega) N_2.symm⟩ : Fin grid2.N) = true
      ∧ win2_2.index (⟨4 * q0.val + q1.val, lt_of_lt_of_eq (by omega) N_2.symm⟩ : Fin grid2.N) (0 : Fin 2) = q0.val
      ∧ win2_2.index (⟨4 * q0.val + q1.val, lt_of_lt_of_eq (by omega) N_2.symm⟩ : Fin grid2.N) (1 : Fin 2) = q1.val) q0 q1⟩
/-- Output window 2's array after the region, given the block each point leaves. -/
theorem arr2_2 (f : Fin 4096 → Fin 2048 → EReal)
    (hf : ∀ (t : Fin cfg2.N) (r : Fin 256) (d : Fin 512) (T : Fin 4096) (C : Fin 2048), T.val = (t.val / 4) * 256 + r.val →
      C.val = (t.val % 4) * 512 + d.val → (dat2 V c).after 2 t (ix2 r d) = f T C) (T : Fin 4096) (C : Fin 2048) :
    (dat2 V c).arrAt 2 cfg2.N (ix2 T C) = f T C := by
  have key : (dat2 V c).arrAt 2 cfg2.N = (fun i => f (i 0) (i 1) : S4096x2048.Idx → EReal) := by
    refine (dat2 V c).arrAt_eq_of_cover 2 _ (fun t hf' => ?_) (fun i => ?_)
    · show (cfg2.win 2).cut (grid2.coords t) ((dat2 V c).after 2 t) = _
      obtain ⟨e0, e1⟩ := idx2_2 t
      funext y
      have hb0 : (((cfg2.win 2).blk t).view.emb y 0).val = win2_2.index t (0 : Fin 2) * 256 + 1 * (y 0).val := rfl
      have hb1 : (((cfg2.win 2).blk t).view.emb y 1).val = win2_2.index t (1 : Fin 2) * 512 + 1 * (y 1).val := rfl
      rw [View.read_apply]
      show (dat2 V c).after 2 t ((cfg2.win 2).xinj (grid2.coords t) y) = f (((cfg2.win 2).blk t).view.emb y 0) (((cfg2.win 2).blk t).view.emb y 1)
      have hy : (cfg2.win 2).xinj (grid2.coords t) y = ix2 (⟨(y 0).val, (y 0).isLt⟩ : Fin 256) (⟨(y 1).val, (y 1).isLt⟩ : Fin 512) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto2_2 ⟨(i 0).val / 256, by omega⟩ ⟨(i 1).val / 512, by omega⟩
      refine ⟨t, hft, ?_⟩
      show i ∈ ((View.whole main_v56).slice (win2_2.rect t)).set
      rw [View.set_slice_whole, Rect.mem_set_unit]
      intro a
      match a with
      | ⟨0, _⟩ => show win2_2.index t (0 : Fin 2) * 256 ≤ (i 0).val ∧ (i 0).val < win2_2.index t (0 : Fin 2) * 256 + 256; rw [q0]; simp only; omega
      | ⟨1, _⟩ => show win2_2.index t (1 : Fin 2) * 512 ≤ (i 1).val ∧ (i 1).val < win2_2.index t (1 : Fin 2) * 512 + 512; rw [q1]; simp only; omega
  exact congrFun key (ix2 T C)

/-! ## Region 3 -/

theorem idx3_0 : ∀ t : Fin cfg3.N, win3_0.index t (0 : Fin 2) = t.val / 128 * 8 + t.val % 8 ∧ win3_0.index t (1 : Fin 2) = t.val / 8 % 16 :=
  (by decide +kernel : ∀ t : Fin grid3.N, _)
theorem idx3_1 : ∀ t : Fin cfg3.N, win3_1.index t (0 : Fin 2) = t.val / 128 ∧ win3_1.index t (1 : Fin 2) = t.val / 8 % 16 :=
  (by decide +kernel : ∀ t : Fin grid3.N, _)
theorem idx3_2 : ∀ t : Fin cfg3.N, win3_2.index t (0 : Fin 2) = t.val / 128 ∧ win3_2.index t (1 : Fin 2) = t.val / 8 % 16 :=
  (by decide +kernel : ∀ t : Fin grid3.N, _)
theorem idx3_3 : ∀ t : Fin cfg3.N, win3_3.index t (0 : Fin 2) = t.val / 128 * 8 + t.val % 8 ∧ win3_3.index t (1 : Fin 2) = t.val / 8 % 16 :=
  (by decide +kernel : ∀ t : Fin grid3.N, _)
/-- Window 0's block at a point, by its place in the array. -/
theorem blk3_0 (t : Fin cfg3.N) (r : Fin 256) (d : Fin 128) (T : Fin 4096) (C : Fin 2048)
    (hT : T.val = (t.val / 128 * 8 + t.val % 8) * 256 + r.val) (hC : C.val = (t.val / 8 % 16) * 128 + d.val) :
    iblk3 V c 0 t (ix2 r d) = V c main_v54 (ix2 T C) := by
  obtain ⟨e0, e1⟩ := idx3_0 t
  unfold iblk3
  rw [View.read_apply]
  show V c main_v54 _ = _
  congr 1
  funext a
  apply Fin.ext
  match a with
  | ⟨0, _⟩ => show win3_0.index t (0 : Fin 2) * 256 + 1 * r.val = T.val; rw [e0, hT]; omega
  | ⟨1, _⟩ => show win3_0.index t (1 : Fin 2) * 128 + 1 * d.val = C.val; rw [e1, hC]; omega
/-- Window 1's block at a point, by its place in the array. -/
theorem blk3_1 (t : Fin cfg3.N) (r : Fin 2048) (d : Fin 128) (T : Fin 4096) (C : Fin 2048)
    (hT : T.val = (t.val / 128) * 2048 + r.val) (hC : C.val = (t.val / 8 % 16) * 128 + d.val) :
    iblk3 V c 1 t (ix2 r d) = V c main_v55 (ix2 T C) := by
  obtain ⟨e0, e1⟩ := idx3_1 t
  unfold iblk3
  rw [View.read_apply]
  show V c main_v55 _ = _
  congr 1
  funext a
  apply Fin.ext
  match a with
  | ⟨0, _⟩ => show win3_1.index t (0 : Fin 2) * 2048 + 1 * r.val = T.val; rw [e0, hT]; omega
  | ⟨1, _⟩ => show win3_1.index t (1 : Fin 2) * 128 + 1 * d.val = C.val; rw [e1, hC]; omega
/-- Window 2's block at a point, by its place in the array. -/
theorem blk3_2 (t : Fin cfg3.N) (r : Fin 2048) (d : Fin 128) (T : Fin 4096) (C : Fin 2048)
    (hT : T.val = (t.val / 128) * 2048 + r.val) (hC : C.val = (t.val / 8 % 16) * 128 + d.val) :
    iblk3 V c 2 t (ix2 r d) = V c main_v56 (ix2 T C) := by
  obtain ⟨e0, e1⟩ := idx3_2 t
  unfold iblk3
  rw [View.read_apply]
  show V c main_v56 _ = _
  congr 1
  funext a
  apply Fin.ext
  match a with
  | ⟨0, _⟩ => show win3_2.index t (0 : Fin 2) * 2048 + 1 * r.val = T.val; rw [e0, hT]; omega
  | ⟨1, _⟩ => show win3_2.index t (1 : Fin 2) * 128 + 1 * d.val = C.val; rw [e1, hC]; omega
theorem onto3_3 (q0 : Fin 16) (q1 : Fin 16) : ∃ t : Fin cfg3.N, (cfg3.win 3).flush t = true
    ∧ win3_3.index t (0 : Fin 2) = q0.val ∧ win3_3.index t (1 : Fin 2) = q1.val :=
  ⟨⟨q0.val / 8 * 128 + q1.val * 8 + q0.val % 8, lt_of_lt_of_eq (by omega) N_3.symm⟩,
    (by decide +kernel : ∀ (q0 : Fin 16) (q1 : Fin 16), win3_3.flush (⟨q0.val / 8 * 128 + q1.val * 8 + q0.val % 8, lt_of_lt_of_eq (by omega) N_3.symm⟩ : Fin grid3.N) = true
      ∧ win3_3.index (⟨q0.val / 8 * 128 + q1.val * 8 + q0.val % 8, lt_of_lt_of_eq (by omega) N_3.symm⟩ : Fin grid3.N) (0 : Fin 2) = q0.val
      ∧ win3_3.index (⟨q0.val / 8 * 128 + q1.val * 8 + q0.val % 8, lt_of_lt_of_eq (by omega) N_3.symm⟩ : Fin grid3.N) (1 : Fin 2) = q1.val) q0 q1⟩
/-- Output window 3's array after the region, given the block each point leaves. -/
theorem arr3_3 (f : Fin 4096 → Fin 2048 → EReal)
    (hf : ∀ (t : Fin cfg3.N) (r : Fin 256) (d : Fin 128) (T : Fin 4096) (C : Fin 2048), T.val = (t.val / 128 * 8 + t.val % 8) * 256 + r.val →
      C.val = (t.val / 8 % 16) * 128 + d.val → (dat3 V c).after 3 t (ix2 r d) = f T C) (T : Fin 4096) (C : Fin 2048) :
    (dat3 V c).arrAt 3 cfg3.N (ix2 T C) = f T C := by
  have key : (dat3 V c).arrAt 3 cfg3.N = (fun i => f (i 0) (i 1) : S4096x2048.Idx → EReal) := by
    refine (dat3 V c).arrAt_eq_of_cover 3 _ (fun t hf' => ?_) (fun i => ?_)
    · show (cfg3.win 3).cut (grid3.coords t) ((dat3 V c).after 3 t) = _
      obtain ⟨e0, e1⟩ := idx3_3 t
      funext y
      have hb0 : (((cfg3.win 3).blk t).view.emb y 0).val = win3_3.index t (0 : Fin 2) * 256 + 1 * (y 0).val := rfl
      have hb1 : (((cfg3.win 3).blk t).view.emb y 1).val = win3_3.index t (1 : Fin 2) * 128 + 1 * (y 1).val := rfl
      rw [View.read_apply]
      show (dat3 V c).after 3 t ((cfg3.win 3).xinj (grid3.coords t) y) = f (((cfg3.win 3).blk t).view.emb y 0) (((cfg3.win 3).blk t).view.emb y 1)
      have hy : (cfg3.win 3).xinj (grid3.coords t) y = ix2 (⟨(y 0).val, (y 0).isLt⟩ : Fin 256) (⟨(y 1).val, (y 1).isLt⟩ : Fin 128) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto3_3 ⟨(i 0).val / 256, by omega⟩ ⟨(i 1).val / 128, by omega⟩
      refine ⟨t, hft, ?_⟩
      show i ∈ ((View.whole main_v57).slice (win3_3.rect t)).set
      rw [View.set_slice_whole, Rect.mem_set_unit]
      intro a
      match a with
      | ⟨0, _⟩ => show win3_3.index t (0 : Fin 2) * 256 ≤ (i 0).val ∧ (i 0).val < win3_3.index t (0 : Fin 2) * 256 + 256; rw [q0]; simp only; omega
      | ⟨1, _⟩ => show win3_3.index t (1 : Fin 2) * 128 ≤ (i 1).val ∧ (i 1).val < win3_3.index t (1 : Fin 2) * 128 + 128; rw [q1]; simp only; omega
  exact congrFun key (ix2 T C)

/-! ## Region 4 -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = t.val ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = t.val ∧ win4_5.index t (1 : Fin 2) = 0 :=
  (by decide +kernel : ∀ t : Fin grid4.N, _)
theorem idx4_6 : ∀ t : Fin cfg4.N, win4_6.index t (0 : Fin 2) = t.val ∧ win4_6.index t (1 : Fin 2) = 0 :=
  (by decide +kernel : ∀ t : Fin grid4.N, _)
/-- Window 0's block at a point, by its place in the array. -/
theorem blk4_0 (t : Fin cfg4.N) (r : Fin 256) (d : Fin 2048) (T : Fin 4096) (C : Fin 2048)
    (hT : T.val = (t.val) * 256 + r.val) (hC : C.val = (0) * 2048 + d.val) :
    iblk4 V c 0 t (ix2 r d) = V c main_v57 (ix2 T C) := by
  obtain ⟨e0, e1⟩ := idx4_0 t
  unfold iblk4
  rw [View.read_apply]
  show V c main_v57 _ = _
  congr 1
  funext a
  apply Fin.ext
  match a with
  | ⟨0, _⟩ => show win4_0.index t (0 : Fin 2) * 256 + 1 * r.val = T.val; rw [e0, hT]; omega
  | ⟨1, _⟩ => show win4_0.index t (1 : Fin 2) * 2048 + 1 * d.val = C.val; rw [e1, hC]; omega
/-- Window 1's block at a point, by its place in the array. -/
theorem blk4_1 (t : Fin cfg4.N) (r : Fin 2048) (d : Fin 2048) (T : Fin 2048) (C : Fin 2048)
    (hT : T.val = (0) * 2048 + r.val) (hC : C.val = (0) * 2048 + d.val) :
    iblk4 V c 1 t (ix2 r d) = V c main_v22 (ix2 T C) := by
  obtain ⟨e0, e1⟩ := idx4_1 t
  unfold iblk4
  rw [View.read_apply]
  show V c main_v22 _ = _
  congr 1
  funext a
  apply Fin.ext
  match a with
  | ⟨0, _⟩ => show win4_1.index t (0 : Fin 2) * 2048 + 1 * r.val = T.val; rw [e0, hT]; omega
  | ⟨1, _⟩ => show win4_1.index t (1 : Fin 2) * 2048 + 1 * d.val = C.val; rw [e1, hC]; omega
/-- Window 2's block at a point, by its place in the array. -/
theorem blk4_2 (t : Fin cfg4.N) (r : Fin 256) (d : Fin 2048) (T : Fin 4096) (C : Fin 2048)
    (hT : T.val = (t.val) * 256 + r.val) (hC : C.val = (0) * 2048 + d.val) :
    iblk4 V c 2 t (ix2 r d) = V c main_v0 (ix2 T C) := by
  obtain ⟨e0, e1⟩ := idx4_2 t
  unfold iblk4
  rw [View.read_apply]
  show V c main_v0 _ = _
  congr 1
  funext a
  apply Fin.ext
  match a with
  | ⟨0, _⟩ => show win4_2.index t (0 : Fin 2) * 256 + 1 * r.val = T.val; rw [e0, hT]; omega
  | ⟨1, _⟩ => show win4_2.index t (1 : Fin 2) * 2048 + 1 * d.val = C.val; rw [e1, hC]; omega
/-- Window 3's block at a point, by its place in the array. -/
theorem blk4_3 (t : Fin cfg4.N) (r : Fin 256) (d : Fin 1) (T : Fin 4096) (C : Fin 1)
    (hT : T.val = (t.val) * 256 + r.val) (hC : C.val = (0) * 1 + d.val) :
    iblk4 V c 3 t (ix2 r d) = V c main_v52_1 (ix2 T C) := by
  obtain ⟨e0, e1⟩ := idx4_3 t
  unfold iblk4
  rw [View.read_apply]
  show V c main_v52_1 _ = _
  congr 1
  funext a
  apply Fin.ext
  match a with
  | ⟨0, _⟩ => show win4_3.index t (0 : Fin 2) * 256 + 1 * r.val = T.val; rw [e0, hT]; omega
  | ⟨1, _⟩ => show win4_3.index t (1 : Fin 2) * 1 + 1 * d.val = C.val; rw [e1, hC]; omega
/-- Window 4's block at a point, by its place in the array. -/
theorem blk4_4 (t : Fin cfg4.N) (r : Fin 1) (d : Fin 2048) (T : Fin 1) (C : Fin 2048)
    (hT : T.val = (0) * 1 + r.val) (hC : C.val = (0) * 2048 + d.val) :
    iblk4 V c 4 t (ix2 r d) = V c main_v16 (ix2 T C) := by
  obtain ⟨e0, e1⟩ := idx4_4 t
  unfold iblk4
  rw [View.read_apply]
  show V c main_v16 _ = _
  congr 1
  funext a
  apply Fin.ext
  match a with
  | ⟨0, _⟩ => show win4_4.index t (0 : Fin 2) * 1 + 1 * r.val = T.val; rw [e0, hT]; omega
  | ⟨1, _⟩ => show win4_4.index t (1 : Fin 2) * 2048 + 1 * d.val = C.val; rw [e1, hC]; omega
theorem onto4_5 (q0 : Fin 16) (q1 : Fin 1) : ∃ t : Fin cfg4.N, (cfg4.win 5).flush t = true
    ∧ win4_5.index t (0 : Fin 2) = q0.val ∧ win4_5.index t (1 : Fin 2) = q1.val :=
  ⟨⟨q0.val, lt_of_lt_of_eq (by omega) N_4.symm⟩,
    (by decide +kernel : ∀ (q0 : Fin 16) (q1 : Fin 1), win4_5.flush (⟨q0.val, lt_of_lt_of_eq (by omega) N_4.symm⟩ : Fin grid4.N) = true
      ∧ win4_5.index (⟨q0.val, lt_of_lt_of_eq (by omega) N_4.symm⟩ : Fin grid4.N) (0 : Fin 2) = q0.val
      ∧ win4_5.index (⟨q0.val, lt_of_lt_of_eq (by omega) N_4.symm⟩ : Fin grid4.N) (1 : Fin 2) = q1.val) q0 q1⟩
/-- Output window 5's array after the region, given the block each point leaves. -/
theorem arr4_5 (f : Fin 4096 → Fin 2048 → EReal)
    (hf : ∀ (t : Fin cfg4.N) (r : Fin 256) (d : Fin 2048) (T : Fin 4096) (C : Fin 2048), T.val = (t.val) * 256 + r.val →
      C.val = (0) * 2048 + d.val → (dat4 V c).after 5 t (ix2 r d) = f T C) (T : Fin 4096) (C : Fin 2048) :
    (dat4 V c).arrAt 5 cfg4.N (ix2 T C) = f T C := by
  have key : (dat4 V c).arrAt 5 cfg4.N = (fun i => f (i 0) (i 1) : S4096x2048.Idx → EReal) := by
    refine (dat4 V c).arrAt_eq_of_cover 5 _ (fun t hf' => ?_) (fun i => ?_)
    · show (cfg4.win 5).cut (grid4.coords t) ((dat4 V c).after 5 t) = _
      obtain ⟨e0, e1⟩ := idx4_5 t
      funext y
      have hb0 : (((cfg4.win 5).blk t).view.emb y 0).val = win4_5.index t (0 : Fin 2) * 256 + 1 * (y 0).val := rfl
      have hb1 : (((cfg4.win 5).blk t).view.emb y 1).val = win4_5.index t (1 : Fin 2) * 2048 + 1 * (y 1).val := rfl
      rw [View.read_apply]
      show (dat4 V c).after 5 t ((cfg4.win 5).xinj (grid4.coords t) y) = f (((cfg4.win 5).blk t).view.emb y 0) (((cfg4.win 5).blk t).view.emb y 1)
      have hy : (cfg4.win 5).xinj (grid4.coords t) y = ix2 (⟨(y 0).val, (y 0).isLt⟩ : Fin 256) (⟨(y 1).val, (y 1).isLt⟩ : Fin 2048) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto4_5 ⟨(i 0).val / 256, by omega⟩ ⟨(i 1).val / 2048, by omega⟩
      refine ⟨t, hft, ?_⟩
      show i ∈ ((View.whole main_v58_0).slice (win4_5.rect t)).set
      rw [View.set_slice_whole, Rect.mem_set_unit]
      intro a
      match a with
      | ⟨0, _⟩ => show win4_5.index t (0 : Fin 2) * 256 ≤ (i 0).val ∧ (i 0).val < win4_5.index t (0 : Fin 2) * 256 + 256; rw [q0]; simp only; omega
      | ⟨1, _⟩ => show win4_5.index t (1 : Fin 2) * 2048 ≤ (i 1).val ∧ (i 1).val < win4_5.index t (1 : Fin 2) * 2048 + 2048; rw [q1]; simp only; omega
  exact congrFun key (ix2 T C)
theorem onto4_6 (q0 : Fin 16) (q1 : Fin 1) : ∃ t : Fin cfg4.N, (cfg4.win 6).flush t = true
    ∧ win4_6.index t (0 : Fin 2) = q0.val ∧ win4_6.index t (1 : Fin 2) = q1.val :=
  ⟨⟨q0.val, lt_of_lt_of_eq (by omega) N_4.symm⟩,
    (by decide +kernel : ∀ (q0 : Fin 16) (q1 : Fin 1), win4_6.flush (⟨q0.val, lt_of_lt_of_eq (by omega) N_4.symm⟩ : Fin grid4.N) = true
      ∧ win4_6.index (⟨q0.val, lt_of_lt_of_eq (by omega) N_4.symm⟩ : Fin grid4.N) (0 : Fin 2) = q0.val
      ∧ win4_6.index (⟨q0.val, lt_of_lt_of_eq (by omega) N_4.symm⟩ : Fin grid4.N) (1 : Fin 2) = q1.val) q0 q1⟩
/-- Output window 6's array after the region, given the block each point leaves. -/
theorem arr4_6 (f : Fin 4096 → Fin 2048 → EReal)
    (hf : ∀ (t : Fin cfg4.N) (r : Fin 256) (d : Fin 2048) (T : Fin 4096) (C : Fin 2048), T.val = (t.val) * 256 + r.val →
      C.val = (0) * 2048 + d.val → (dat4 V c).after 6 t (ix2 r d) = f T C) (T : Fin 4096) (C : Fin 2048) :
    (dat4 V c).arrAt 6 cfg4.N (ix2 T C) = f T C := by
  have key : (dat4 V c).arrAt 6 cfg4.N = (fun i => f (i 0) (i 1) : S4096x2048.Idx → EReal) := by
    refine (dat4 V c).arrAt_eq_of_cover 6 _ (fun t hf' => ?_) (fun i => ?_)
    · show (cfg4.win 6).cut (grid4.coords t) ((dat4 V c).after 6 t) = _
      obtain ⟨e0, e1⟩ := idx4_6 t
      funext y
      have hb0 : (((cfg4.win 6).blk t).view.emb y 0).val = win4_6.index t (0 : Fin 2) * 256 + 1 * (y 0).val := rfl
      have hb1 : (((cfg4.win 6).blk t).view.emb y 1).val = win4_6.index t (1 : Fin 2) * 2048 + 1 * (y 1).val := rfl
      rw [View.read_apply]
      show (dat4 V c).after 6 t ((cfg4.win 6).xinj (grid4.coords t) y) = f (((cfg4.win 6).blk t).view.emb y 0) (((cfg4.win 6).blk t).view.emb y 1)
      have hy : (cfg4.win 6).xinj (grid4.coords t) y = ix2 (⟨(y 0).val, (y 0).isLt⟩ : Fin 256) (⟨(y 1).val, (y 1).isLt⟩ : Fin 2048) := by
        funext a
        match a with
        | ⟨0, _⟩ => rfl
        | ⟨1, _⟩ => rfl
      rw [hy]
      exact hf t _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto4_6 ⟨(i 0).val / 256, by omega⟩ ⟨(i 1).val / 2048, by omega⟩
      refine ⟨t, hft, ?_⟩
      show i ∈ ((View.whole main_v58_1).slice (win4_6.rect t)).set
      rw [View.set_slice_whole, Rect.mem_set_unit]
      intro a
      match a with
      | ⟨0, _⟩ => show win4_6.index t (0 : Fin 2) * 256 ≤ (i 0).val ∧ (i 0).val < win4_6.index t (0 : Fin 2) * 256 + 256; rw [q0]; simp only; omega
      | ⟨1, _⟩ => show win4_6.index t (1 : Fin 2) * 2048 ≤ (i 1).val ∧ (i 1).val < win4_6.index t (1 : Fin 2) * 2048 + 2048; rw [q1]; simp only; omega
  exact congrFun key (ix2 T C)

/-! ## Region 5 -/

theorem idx5_0 : ∀ t : Fin cfg5.N, win5_0.index t (0 : Fin 2) = t.val / 11 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = t.val % 11 :=
  (by decide +kernel : ∀ t : Fin grid5.N, _)
theorem idx5_2 : ∀ t : Fin cfg5.N, win5_2.index t (0 : Fin 2) = 0 ∧ win5_2.index t (1 : Fin 2) = t.val % 11 :=
  (by decide +kernel : ∀ t : Fin grid5.N, _)
theorem idx5_3 : ∀ t : Fin cfg5.N, win5_3.index t (0 : Fin 2) = t.val % 11 ∧ win5_3.index t (1 : Fin 2) = 0 :=
  (by decide +kernel : ∀ t : Fin grid5.N, _)
theorem idx5_4 : ∀ t : Fin cfg5.N, win5_4.index t (0 : Fin 2) = t.val / 11 ∧ win5_4.index t (1 : Fin 2) = 0 :=
  (by decide +kernel : ∀ t : Fin grid5.N, _)
theorem idx5_5 : ∀ t : Fin cfg5.N, win5_5.index t (0 : Fin 2) = t.val / 11 ∧ win5_5.index t (1 : Fin 2) = 0 :=
  (by decide +kernel : ∀ t : Fin grid5.N, _)
theorem idx5_6 : ∀ t : Fin cfg5.N, win5_6.index t (0 : Fin 2) = t.val / 11 ∧ win5_6.index t (1 : Fin 2) = 0 :=
  (by decide +kernel : ∀ t : Fin grid5.N, _)
/-- Window 0's block at a point, by its place in the array. -/
theorem blk5_0 (t : Fin cfg5.N) (r : Fin 256) (d : Fin 2048) (T : Fin 4096) (C : Fin 2048)
    (hT : T.val = (t.val / 11) * 256 + r.val) (hC : C.val = (0) * 2048 + d.val) :
    iblk5 V c 0 t (ix2 r d) = V c main_v58_1 (ix2 T C) := by
  obtain ⟨e0, e1⟩ := idx5_0 t
  unfold iblk5
  rw [View.read_apply]
  show V c main_v58_1 _ = _
  congr 1
  funext a
  apply Fin.ext
  match a with
  | ⟨0, _⟩ => show win5_0.index t (0 : Fin 2) * 256 + 1 * r.val = T.val; rw [e0, hT]; omega
  | ⟨1, _⟩ => show win5_0.index t (1 : Fin 2) * 2048 + 1 * d.val = C.val; rw [e1, hC]; omega
/-- Window 1's block at a point, by its place in the array. -/
theorem blk5_1 (t : Fin cfg5.N) (r : Fin 2048) (d : Fin 512) (T : Fin 2048) (C : Fin 5632)
    (hT : T.val = (0) * 2048 + r.val) (hC : C.val = (t.val % 11) * 512 + d.val) :
    iblk5 V c 1 t (ix2 r d) = V c main_v23 (ix2 T C) := by
  obtain ⟨e0, e1⟩ := idx5_1 t
  unfold iblk5
  rw [View.read_apply]
  show V c main_v23 _ = _
  congr 1
  funext a
  apply Fin.ext
  match a with
  | ⟨0, _⟩ => show win5_1.index t (0 : Fin 2) * 2048 + 1 * r.val = T.val; rw [e0, hT]; omega
  | ⟨1, _⟩ => show win5_1.index t (1 : Fin 2) * 512 + 1 * d.val = C.val; rw [e1, hC]; omega
/-- Window 2's block at a point, by its place in the array. -/
theorem blk5_2 (t : Fin cfg5.N) (r : Fin 2048) (d : Fin 512) (T : Fin 2048) (C : Fin 5632)
    (hT : T.val = (0) * 2048 + r.val) (hC : C.val = (t.val % 11) * 512 + d.val) :
    iblk5 V c 2 t (ix2 r d) = V c main_v24 (ix2 T C) := by
  obtain ⟨e0, e1⟩ := idx5_2 t
  unfold iblk5
  rw [View.read_apply]
  show V c main_v24 _ = _
  congr 1
  funext a
  apply Fin.ext
  match a with
  | ⟨0, _⟩ => show win5_2.index t (0 : Fin 2) * 2048 + 1 * r.val = T.val; rw [e0, hT]; omega
  | ⟨1, _⟩ => show win5_2.index t (1 : Fin 2) * 512 + 1 * d.val = C.val; rw [e1, hC]; omega
/-- Window 3's block at a point, by its place in the array. -/
theorem blk5_3 (t : Fin cfg5.N) (r : Fin 512) (d : Fin 2048) (T : Fin 5632) (C : Fin 2048)
    (hT : T.val = (t.val % 11) * 512 + r.val) (hC : C.val = (0) * 2048 + d.val) :
    iblk5 V c 3 t (ix2 r d) = V c main_v25 (ix2 T C) := by
  obtain ⟨e0, e1⟩ := idx5_3 t
  unfold iblk5
  rw [View.read_apply]
  show V c main_v25 _ = _
  congr 1
  funext a
  apply Fin.ext
  match a with
  | ⟨0, _⟩ => show win5_3.index t (0 : Fin 2) * 512 + 1 * r.val = T.val; rw [e0, hT]; omega
  | ⟨1, _⟩ => show win5_3.index t (1 : Fin 2) * 2048 + 1 * d.val = C.val; rw [e1, hC]; omega
/-- Window 4's block at a point, by its place in the array. -/
theorem blk5_4 (t : Fin cfg5.N) (r : Fin 256) (d : Fin 2048) (T : Fin 4096) (C : Fin 2048)
    (hT : T.val = (t.val / 11) * 256 + r.val) (hC : C.val = (0) * 2048 + d.val) :
    iblk5 V c 4 t (ix2 r d) = V c main_v58_0 (ix2 T C) := by
  obtain ⟨e0, e1⟩ := idx5_4 t
  unfold iblk5
  rw [View.read_apply]
  show V c main_v58_0 _ = _
  congr 1
  funext a
  apply Fin.ext
  match a with
  | ⟨0, _⟩ => show win5_4.index t (0 : Fin 2) * 256 + 1 * r.val = T.val; rw [e0, hT]; omega
  | ⟨1, _⟩ => show win5_4.index t (1 : Fin 2) * 2048 + 1 * d.val = C.val; rw [e1, hC]; omega
/-- Window 5's block at a point, by its place in the array. -/
theorem blk5_5 (t : Fin cfg5.N) (r : Fin 256) (d : Fin 1) (T : Fin 4096) (C : Fin 1)
    (hT : T.val = (t.val / 11) * 256 + r.val) (hC : C.val = (0) * 1 + d.val) :
    iblk5 V c 5 t (ix2 r d) = V c main_v52_2 (ix2 T C) := by
  obtain ⟨e0, e1⟩ := idx5_5 t
  unfold iblk5
  rw [View.read_apply]
  show V c main_v52_2 _ = _
  congr 1
  funext a
  apply Fin.ext
  match a with
  | ⟨0, _⟩ => show win5_5.index t (0 : Fin 2) * 256 + 1 * r.val = T.val; rw [e0, hT]; omega
  | ⟨1, _⟩ => show win5_5.index t (1 : Fin 2) * 1 + 1 * d.val = C.val; rw [e1, hC]; omega
theorem onto5_6 (q0 : Fin 16) (q1 : Fin 1) : ∃ t : Fin cfg5.N, (cfg5.win 6).flush t = true
    ∧ win5_6.index t (0 : Fin 2) = q0.val ∧ win5_6.index t (1 : Fin 2) = q1.val :=
  ⟨⟨11 * q0.val + 10, lt_of_lt_of_eq (by omega) N_5.symm⟩,
    (by decide +kernel : ∀ (q0 : Fin 16) (q1 : Fin 1), win5_6.flush (⟨11 * q0.val + 10, lt_of_lt_of_eq (by omega) N_5.symm⟩ : Fin grid5.N) = true
      ∧ win5_6.index (⟨11 * q0.val + 10, lt_of_lt_of_eq (by omega) N_5.symm⟩ : Fin grid5.N) (0 : Fin 2) = q0.val
      ∧ win5_6.index (⟨11 * q0.val + 10, lt_of_lt_of_eq (by omega) N_5.symm⟩ : Fin grid5.N) (1 : Fin 2) = q1.val) q0 q1⟩
/-- Output window 6's array after the region, given the block each point leaves. -/
theorem arr5_6 (f : Fin 4096 → Fin 2048 → EReal)
    (hf : ∀ (t : Fin cfg5.N), (cfg5.win 6).flush t = true → ∀ (r : Fin 256) (d : Fin 2048) (T : Fin 4096) (C : Fin 2048), T.val = (t.val / 11) * 256 + r.val →
      C.val = (0) * 2048 + d.val → (dat5 V c).after 6 t (ix2 r d) = f T C) (T : Fin 4096) (C : Fin 2048) :
    (dat5 V c).arrAt 6 cfg5.N (ix2 T C) = f T C := by
  have key : (dat5 V c).arrAt 6 cfg5.N = (fun i => f (i 0) (i 1) : S4096x2048.Idx → EReal) := by
    refine (dat5 V c).arrAt_eq_of_cover 6 _ (fun t hf' => ?_) (fun i => ?_)
    · show (cfg5.win 6).cut (grid5.coords t) ((dat5 V c).after 6 t) = _
      obtain ⟨e0, e1⟩ := idx5_6 t
      funext y
      have hb0 : (((cfg5.win 6).blk t).view.emb y 0).val = win5_6.index t (0 : Fin 2) * 256 + 1 * (y 0).val := rfl
      have hb1 : (((cfg5.win 6).blk t).view.emb y 1).val = win5_6.index t (1 : Fin 2) * 2048 + 1 * (y 1).val := rfl
      rw [View.read_apply]
      show (dat5 V c).after 6 t ((cfg5.win 6).xinj (grid5.coords t) y) = f (((cfg5.win 6).blk t).view.emb y 0) (((cfg5.win 6).blk t).view.emb y 1)
      have hy : (cfg5.win 6).xinj (grid5.coords t) y = ix2 (⟨(y 0).val, (y 0).isLt⟩ : Fin 256) (⟨(y 1).val, (y 1).isLt⟩ : Fin 2048) := by
        funext a
        match a with
        | ⟨0, _⟩ => rfl
        | ⟨1, _⟩ => rfl
      rw [hy]
      exact hf t hf' _ _ _ _ (by rw [hb0, e0]; simp only; omega) (by rw [hb1, e1]; simp only; omega)
    · have hi0 : (i 0).val < 4096 := (i 0).isLt
      have hi1 : (i 1).val < 2048 := (i 1).isLt
      obtain ⟨t, hft, q0, q1⟩ := onto5_6 ⟨(i 0).val / 256, by omega⟩ ⟨(i 1).val / 2048, by omega⟩
      refine ⟨t, hft, ?_⟩
      show i ∈ ((View.whole main_v59).slice (win5_6.rect t)).set
      rw [View.set_slice_whole, Rect.mem_set_unit]
      intro a
      match a with
      | ⟨0, _⟩ => show win5_6.index t (0 : Fin 2) * 256 ≤ (i 0).val ∧ (i 0).val < win5_6.index t (0 : Fin 2) * 256 + 256; rw [q0]; simp only; omega
      | ⟨1, _⟩ => show win5_6.index t (1 : Fin 2) * 2048 ≤ (i 1).val ∧ (i 1).val < win5_6.index t (1 : Fin 2) * 2048 + 2048; rw [q1]; simp only; omega
  exact congrFun key (ix2 T C)

end Cert.KernelIdeal.Gen
end
-- ==== Proof.Value.KerReg.lean ====
module

public import proofs.«01_k».proof.Proof.Value.KerArr

/-!
Each region's output arrays, index by index, from the arrays it reads (the attention region has its own file).
-/

@[expose] public section

set_option maxRecDepth 16384

noncomputable section

namespace Cert.KernelIdeal.Gen

open Cert.KernelIdeal Idealize.ShloMosaic Idealize.ShloMosaic.TcCoe Idealize.SL.Sem
open Cert.Value

variable (V : (c : Dev nD) → (b : Ref sig .tc) → Buf (Elt Ideal) ((c : Thread nD τ).loc b)) (c : Dev nD)

/-! ## Region 0: normalization and routers -/

section
variable (x : Fin 4096 → Fin 2048 → EReal) (hx : ∀ T k, V c main_v0 (ix2 T k) = x T k)
include hx

theorem region0_xn (l : Fin 2048 → EReal) (hl : ∀ k : Fin 2048, V c main_v15 (ix2 (0 : Fin 1) k) = l k) (T : Fin 4096) (d : Fin 2048) :
    (dat0 V c).arrAt 4 cfg0.N (ix2 T d) = rms (x T) l d := by
  refine arr0_4 V c (fun T d => rms (x T) l d) (fun t r d T C hT hC => ?_) T d
  rw [after0_4]; unfold out0_4
  rw [View.canon_unit_zero (S := S256x2048) hz2, View.ld_unit_zero (S := S256x2048) hz2, View.ld_unit_zero (S := S1x2048) hz2]
  obtain rfl : d = C := Fin.ext (by omega)
  exact pay_norm _ _ r (x T) (fun k => (blk0_0 V c t r k T k hT (by omega)).trans (hx T k)) l
    (fun k => (blk0_3 V c t 0 k 0 k (by simp) (by omega)).trans (hl k)) d

variable (w : Fin 2048 → Fin 2 → EReal) (b : Fin 2 → EReal)

theorem region0_attn (hw0 : ∀ k : Fin 2048, V c main_v5 (ix2 k (0 : Fin 128)) = w k 0)
    (hw1 : ∀ k : Fin 2048, V c main_v5 (ix2 k (1 : Fin 128)) = w k 1)
    (hb0 : V c main_v14 (ix2 (0 : Fin 1) (0 : Fin 128)) = b 0) (hb1 : V c main_v14 (ix2 (0 : Fin 1) (1 : Fin 128)) = b 1)
    (T : Fin 4096) : (dat0 V c).arrAt 5 cfg0.N (ix2 T (0 : Fin 1)) = flag (routed (x T) w b) := by
  refine arr0_5 V c (fun T _ => flag (routed (x T) w b)) (fun t r d T C hT hC => ?_) T 0
  rw [after0_5]; unfold out0_5
  rw [View.canon_unit_zero (S := S256x1) hz2, View.ld_unit_zero (S := S256x2048) hz2, View.ld_unit_zero (S := S2048x128) hz2,
    View.ld_unit_zero (S := S1x128) hz2]
  obtain rfl : d = 0 := Fin.ext (by omega)
  exact pay_route_attn _ _ _ r (x T) (fun k => (blk0_0 V c t r k T k hT (by omega)).trans (hx T k)) w
    (fun k => (blk0_1 V c t k 0 k 0 (by omega) (by simp)).trans (hw0 k))
    (fun k => (blk0_1 V c t k 1 k 1 (by omega) (by simp)).trans (hw1 k)) b
    ((blk0_2 V c t 0 0 0 0 (by simp) (by simp)).trans hb0) ((blk0_2 V c t 0 1 0 1 (by simp) (by simp)).trans hb1)

theorem region0_mlp (hw0 : ∀ k : Fin 2048, V c main_v5 (ix2 k (2 : Fin 128)) = w k 0)
    (hw1 : ∀ k : Fin 2048, V c main_v5 (ix2 k (3 : Fin 128)) = w k 1)
    (hb0 : V c main_v14 (ix2 (0 : Fin 1) (2 : Fin 128)) = b 0) (hb1 : V c main_v14 (ix2 (0 : Fin 1) (3 : Fin 128)) = b 1)
    (T : Fin 4096) : (dat0 V c).arrAt 6 cfg0.N (ix2 T (0 : Fin 1)) = flag (routed (x T) w b) := by
  refine arr0_6 V c (fun T _ => flag (routed (x T) w b)) (fun t r d T C hT hC => ?_) T 0
  rw [after0_6]; unfold out0_6
  rw [View.canon_unit_zero (S := S256x1) hz2, View.ld_unit_zero (S := S256x2048) hz2, View.ld_unit_zero (S := S2048x128) hz2,
    View.ld_unit_zero (S := S1x128) hz2]
  obtain rfl : d = 0 := Fin.ext (by omega)
  exact pay_route_mlp _ _ _ r (x T) (fun k => (blk0_0 V c t r k T k hT (by omega)).trans (hx T k)) w
    (fun k => (blk0_1 V c t k 2 k 2 (by omega) (by simp)).trans (hw0 k))
    (fun k => (blk0_1 V c t k 3 k 3 (by omega) (by simp)).trans (hw1 k)) b
    ((blk0_2 V c t 0 2 0 2 (by simp) (by simp)).trans hb0) ((blk0_2 V c t 0 3 0 3 (by simp) (by simp)).trans hb1)
end

/-! ## Region 1: rotated queries and keys -/

theorem region1_qk (x : Fin 4096 → Fin 2048 → EReal) (hx : ∀ T k, V c main_v52_0 (ix2 T k) = x T k)
    (w : Fin 2048 → Fin 4096 → EReal) (hw : ∀ k j, V c main_v20 (ix2 k j) = w k j)
    (hc : ∀ (s : Fin 2048) (j : Fin 512), V c main_v47 (ix2 s j) = Ideal.cos (angle s.val (j.val % 128)))
    (hs : ∀ (s : Fin 2048) (j : Fin 512), V c main_v51 (ix2 s j) = Ideal.sin (angle s.val (j.val % 128)))
    (T C : Fin 4096) :
    (dat1 V c).arrAt 4 cfg1.N (ix2 T C)
      = rope (fun e => ∑ k, x T k * w k ⟨C.val / 128 * 128 + e.val, by omega⟩) (T.val % 2048) ⟨C.val % 128, by omega⟩ := by
  refine arr1_4 V c (fun T C => rope (fun e => ∑ k, x T k * w k ⟨C.val / 128 * 128 + e.val, by omega⟩) (T.val % 2048)
    ⟨C.val % 128, by omega⟩) (fun t r d T C hT hC => ?_) T C
  have ht : t.val < 128 := lt_of_lt_of_eq t.isLt N_1
  rw [after1_4]; unfold out1_4
  rw [View.canon_unit_zero (S := S256x512) hz2, View.ld_unit_zero (S := S256x2048) hz2, View.ld_unit_zero (S := S2048x512) hz2,
    View.ld_unit_zero (S := S256x512) hz2, View.ld_unit_zero (S := S256x512) hz2]
  have hS : ((⟨T.val % 2048, by omega⟩ : Fin 2048) : ℕ) = (t.val / 8 % 8) * 256 + r.val := by
    show T.val % 2048 = _; omega
  refine (pay_rope _ _ _ _ r (x T) (fun k => (blk1_0 V c t r k T k hT (by omega)).trans (hx T k))
    (fun k j => w k ⟨t.val % 8 * 512 + j.val, by omega⟩)
    (fun k j => (blk1_1 V c t k j k ⟨t.val % 8 * 512 + j.val, by omega⟩ (by omega) rfl).trans (hw k _))
    (T.val % 2048) (fun j => (blk1_2 V c t r j ⟨T.val % 2048, by omega⟩ j hS (by omega)).trans (hc _ j))
    (fun j => (blk1_3 V c t r j ⟨T.val % 2048, by omega⟩ j hS (by omega)).trans (hs _ j)) d).trans ?_
  have e1 : (⟨d.val % 128, by omega⟩ : Fin 128) = ⟨C.val % 128, by omega⟩ := Fin.ext (by show d.val % 128 = C.val % 128; omega)
  have e2 : ∀ e : Fin 128, (⟨t.val % 8 * 512 + (d.val / 128 * 128 + e.val), by omega⟩ : Fin 4096) = ⟨C.val / 128 * 128 + e.val, by omega⟩ :=
    fun e => Fin.ext (by show t.val % 8 * 512 + (d.val / 128 * 128 + e.val) = C.val / 128 * 128 + e.val; omega)
  simp only [e1, e2]

/-! ## Region 2: values -/

theorem region2_v (x : Fin 4096 → Fin 2048 → EReal) (hx : ∀ T k, V c main_v52_0 (ix2 T k) = x T k)
    (w : Fin 2048 → Fin 2048 → EReal) (hw : ∀ k j, V c main_v21 (ix2 k j) = w k j) (T : Fin 4096) (C : Fin 2048) :
    (dat2 V c).arrAt 2 cfg2.N (ix2 T C) = ∑ k, x T k * w k C := by
  refine arr2_2 V c (fun T C => ∑ k, x T k * w k C) (fun t r d T C hT hC => ?_) T C
  rw [after2_2]; unfold out2_2
  rw [View.canon_unit_zero (S := S256x512) hz2, View.ld_unit_zero (S := S256x2048) hz2, View.ld_unit_zero (S := S2048x512) hz2]
  exact pay_v _ _ r d (x T) (fun k => (blk2_0 V c t r k T k hT (by omega)).trans (hx T k)) (fun k => w k C)
    (fun k => (blk2_1 V c t k d k C (by omega) hC).trans (hw k C))

/-! ## Region 4: the output projection -/

section
variable (o : Fin 4096 → Fin 2048 → EReal) (ho : ∀ T k, V c main_v57 (ix2 T k) = o T k)
  (w : Fin 2048 → Fin 2048 → EReal) (hw : ∀ k j, V c main_v22 (ix2 k j) = w k j)
  (x : Fin 4096 → Fin 2048 → EReal) (hx : ∀ T k, V c main_v0 (ix2 T k) = x T k)
  (p : Fin 4096 → Prop) [∀ T, Decidable (p T)] (hp : ∀ T, V c main_v52_1 (ix2 T (0 : Fin 1)) = flag (p T))
include ho hw hx hp

theorem pay4 (t : Fin cfg4.N) (r : Fin 256) (d : Fin 2048) (T : Fin 4096) (hT : T.val = t.val * 256 + r.val) :
    k4_pay1 (F := Ideal) (iblk4 V c 0 t) (iblk4 V c 1 t) (iblk4 V c 3 t) (iblk4 V c 2 t) (ix2 r d)
      = (if p T then 0 else ∑ k, o T k * w k d) + x T d :=
  pay_mid _ _ _ _ r d (o T) (fun k => (blk4_0 V c t r k T k hT (by omega)).trans (ho T k)) (fun k => w k d)
    (fun k => (blk4_1 V c t k d k d (by omega) (by omega)).trans (hw k d)) (x T d)
    ((blk4_2 V c t r d T d hT (by omega)).trans (hx T d)) (p T)
    ((blk4_3 V c t r 0 T 0 hT (by simp)).trans (hp T))

theorem region4_mid (T : Fin 4096) (d : Fin 2048) :
    (dat4 V c).arrAt 5 cfg4.N (ix2 T d) = (if p T then 0 else ∑ k, o T k * w k d) + x T d := by
  refine arr4_5 V c (fun T d => (if p T then 0 else ∑ k, o T k * w k d) + x T d) (fun t r d T C hT hC => ?_) T d
  rw [after4_5]; unfold out4_5
  rw [View.canon_unit_zero (S := S256x2048) hz2, View.ld_unit_zero (S := S256x2048) hz2, View.ld_unit_zero (S := S2048x2048) hz2,
    View.ld_unit_zero (S := S256x1) hz2, View.ld_unit_zero (S := S256x2048) hz2]
  obtain rfl : d = C := Fin.ext (by omega)
  exact pay4 V c o ho w hw x hx p hp t r d T hT

theorem region4_y (l : Fin 2048 → EReal) (hl : ∀ k : Fin 2048, V c main_v16 (ix2 (0 : Fin 1) k) = l k) (T : Fin 4096) (d : Fin 2048) :
    (dat4 V c).arrAt 6 cfg4.N (ix2 T d) = rms (fun d => (if p T then 0 else ∑ k, o T k * w k d) + x T d) l d := by
  refine arr4_6 V c (fun T d => rms (fun d => (if p T then 0 else ∑ k, o T k * w k d) + x T d) l d)
    (fun t r d T C hT hC => ?_) T d
  rw [after4_6]; unfold out4_6
  rw [View.canon_unit_zero (S := S256x2048) hz2, View.ld_unit_zero (S := S256x2048) hz2, View.ld_unit_zero (S := S2048x2048) hz2,
    View.ld_unit_zero (S := S256x1) hz2, View.ld_unit_zero (S := S256x2048) hz2, View.ld_unit_zero (S := S1x2048) hz2]
  obtain rfl : d = C := Fin.ext (by omega)
  exact pay_y _ _ _ _ _ r _ (fun k => pay4 V c o ho w hw x hx p hp t r k T hT) l
    (fun k => (blk4_4 V c t 0 k 0 k (by simp) (by omega)).trans (hl k)) d
end

/-! ## Region 5: the gated feed-forward -/

section
variable (y : Fin 4096 → Fin 2048 → EReal) (hy : ∀ T k, V c main_v58_1 (ix2 T k) = y T k)
  (g : Fin 2048 → Fin 5632 → EReal) (hg : ∀ k f, V c main_v23 (ix2 k f) = g k f)
  (u : Fin 2048 → Fin 5632 → EReal) (hu : ∀ k f, V c main_v24 (ix2 k f) = u k f)
  (w : Fin 5632 → Fin 2048 → EReal) (hw : ∀ f k, V c main_v25 (ix2 f k) = w f k)

/-- A hidden unit's contribution to a result entry, for the units counted by natural numbers. -/
def unitN (y : Fin 4096 → Fin 2048 → EReal) (g u : Fin 2048 → Fin 5632 → EReal) (w : Fin 5632 → Fin 2048 → EReal)
    (T : Fin 4096) (d : Fin 2048) (j : ℕ) : EReal :=
  if hj : j < 5632 then (∑ k, y T k * g k ⟨j, hj⟩) * Ideal.logistic (∑ k, y T k * g k ⟨j, hj⟩)
    * (∑ k, y T k * u k ⟨j, hj⟩) * w ⟨j, hj⟩ d else 0

/-- All the hidden units' contributions. -/
theorem sum_units (y : Fin 4096 → Fin 2048 → EReal) (g u : Fin 2048 → Fin 5632 → EReal) (w : Fin 5632 → Fin 2048 → EReal)
    (T : Fin 4096) (d : Fin 2048) : ∑ j ∈ Finset.range (512 * (10 + 1)), unitN y g u w T d j
      = ∑ f, ((∑ k, y T k * g k f) * Ideal.logistic (∑ k, y T k * g k f) * ∑ k, y T k * u k f) * w f d := by
  rw [show 512 * (10 + 1) = 5632 from rfl]
  refine (Fin.sum_univ_eq_sum_range (unitN y g u w T d) 5632).symm.trans ?_
  refine Finset.sum_congr rfl fun f _ => ?_
  exact dif_pos f.isLt

include hy hg hu hw

/-- One point's addition to the accumulator. -/
theorem acc_add (t : Fin cfg5.N) (Q : FVec Ideal S256x2048 .f32) (r : Fin 256) (d : Fin 2048) (T : Fin 4096)
    (hT : T.val = t.val / 11 * 256 + r.val) (q : EReal) (hq : Q (ix2 r d) = q) :
    k5_pay2 (F := Ideal) (iblk5 V c 0 t) (iblk5 V c 1 t) (iblk5 V c 2 t) Q (iblk5 V c 3 t) (ix2 r d)
      = q + ∑ f : Fin 512, unitN y g u w T d (512 * (t.val % 11) + f.val) := by
  have hB : ∀ f : Fin 512, t.val % 11 * 512 + f.val < 5632 := fun f => by omega
  refine (pay_hidden _ _ _ _ _ r d (y T) (fun k => (blk5_0 V c t r k T k hT (by omega)).trans (hy T k))
    (fun k f => g k ⟨_, hB f⟩) (fun k f => (blk5_1 V c t k f k ⟨_, hB f⟩ (by omega) rfl).trans (hg k _))
    (fun k f => u k ⟨_, hB f⟩) (fun k f => (blk5_2 V c t k f k ⟨_, hB f⟩ (by omega) rfl).trans (hu k _)) q hq
    (fun f => w ⟨_, hB f⟩ d) (fun f => (blk5_3 V c t f d ⟨_, hB f⟩ d rfl (by omega)).trans (hw _ d))).trans ?_
  congr 1
  refine Finset.sum_congr rfl fun f _ => ?_
  unfold unitN
  have e : 512 * (t.val % 11) + f.val = t.val % 11 * 512 + f.val := by omega
  simp only [e]
  rw [dif_pos (hB f)]

/-- The accumulator holds the contributions of the hidden units met so far. -/
theorem acc_eq (n : ℕ) (hn : n < cfg5.N) (r : Fin 256) (d : Fin 2048) (T : Fin 4096) (hT : T.val = n / 11 * 256 + r.val) :
    accAt5 V c n hn (ix2 r d) = ∑ j ∈ Finset.range (512 * (n % 11 + 1)), unitN y g u w T d j := by
  induction n with
  | zero =>
    have := accAt5_reset V c ⟨0, hn⟩ rfl
    rw [this, acc_add V c y hy g hg u hu w hw ⟨0, hn⟩ _ r d T hT 0 (pay_zero r d), Ins.sum_blocks]
    simp
  | succ n ih =>
    by_cases h : (n + 1) % 11 = 0
    · have := accAt5_reset V c ⟨n + 1, hn⟩ h
      rw [this, acc_add V c y hy g hg u hu w hw ⟨n + 1, hn⟩ _ r d T hT 0 (pay_zero r d), Ins.sum_blocks, h]
      simp
    · have : accAt5 V c (n + 1) hn = k5_pay2 (iblk5 V c 0 ⟨n + 1, hn⟩) (iblk5 V c 1 ⟨n + 1, hn⟩) (iblk5 V c 2 ⟨n + 1, hn⟩)
          (accAt5 V c n (Nat.lt_of_succ_lt hn)) (iblk5 V c 3 ⟨n + 1, hn⟩) := accAt5_step V c ⟨n + 1, hn⟩ h
      have e : (n + 1) % 11 = n % 11 + 1 := by omega
      rw [this, acc_add V c y hy g hg u hu w hw ⟨n + 1, hn⟩ _ r d T hT _ (ih (Nat.lt_of_succ_lt hn) (by omega))]
      dsimp only
      rw [e, Ins.sum_blocks _ (n % 11 + 1)]

theorem region5_out (m : Fin 4096 → Fin 2048 → EReal) (hm : ∀ T k, V c main_v58_0 (ix2 T k) = m T k)
    (p : Fin 4096 → Prop) [∀ T, Decidable (p T)] (hp : ∀ T, V c main_v52_2 (ix2 T (0 : Fin 1)) = flag (p T))
    (T : Fin 4096) (d : Fin 2048) :
    (dat5 V c).arrAt 6 cfg5.N (ix2 T d)
      = m T d + if p T then 0 else ∑ f, ((∑ k, y T k * g k f) * Ideal.logistic (∑ k, y T k * g k f) * ∑ k, y T k * u k f) * w f d := by
  refine arr5_6 V c (fun T d => m T d + if p T then 0 else
    ∑ f, ((∑ k, y T k * g k f) * Ideal.logistic (∑ k, y T k * g k f) * ∑ k, y T k * u k f) * w f d)
    (fun t hf r d T C hT hC => ?_) T d
  have h10 : t.val % 11 = 10 := (flush5_6 t).mp hf
  rw [after5_6]; unfold outsAt5
  obtain rfl : d = C := Fin.ext (by omega)
  refine (pay_out _ _ _ r d (m T d) ((blk5_4 V c t r d T d hT (by omega)).trans (hm T d)) _
    (acc_eq V c y hy g hg u hu w hw t.val t.isLt r d T hT) (p T) ((blk5_5 V c t r 0 T 0 hT (by simp)).trans (hp T))).trans ?_
  rw [h10, sum_units]
end

end Cert.KernelIdeal.Gen
end
-- ==== Proof.Value.KerFlash.lean ====
module

public import proofs.«01_k».proof.Proof.Value.KerReg

/-!
The attention region: its running softmax, row by row, and the array it leaves.
-/

@[expose] public section

set_option maxRecDepth 16384

noncomputable section

namespace Cert.KernelIdeal.Gen

open Cert.KernelIdeal Idealize.ShloMosaic Idealize.ShloMosaic.TcCoe Idealize.SL.Sem
open Cert.Value

/-! ## One key block, at a row -/

section
variable (i : grid3.Coords) (Q : FVec Ideal S256x128 .bf16) (k : Fin (k3_t1_loop i).trips) (K : FVec Ideal S512x128 .bf16) (r : Fin 256)

/-- A score, the causal mask applied. -/
theorem pay_score (q : Fin 128 → EReal) (hq : ∀ d, Q (ix2 r d) = q d) (kk : Fin 512 → Fin 128 → EReal)
    (hk : ∀ c d, K (ix2 c d) = kk c d) (c : Fin 512) :
    k3_pay13 (F := Ideal) i Q k K (ix2 r c)
      = if 512 * k.val + c.val ≤ (i 2).val * 256 + r.val then ∑ d, q d * kk c d else ⊥ := by
  have hk4 : k.val < 4 := Nat.lt_of_lt_of_le k.isLt (k3_t1_abs i).2.1
  have hi8 : (i 2).val < 8 := (i 2).isLt
  pointwise [k3_pay13, k3_pay8, k3_pay9]
  simp only [hq, hk]
  have h1 : Affine.IsInt (Scalar.addi (Scalar.muli (Scf.iv 0#32 1#32 k.val) 512#32) (BitVec.ofNat 32 c.val)) (512 * (k.val : ℤ) + c.val) :=
    Affine.addi (Affine.muli (Affine.iv (Affine.ofNat 0 (e := 0) (by omega)) (Affine.ofNat 1 (e := 1) (by omega)) k.val (e := (k.val : ℤ)) (by omega))
      (Affine.ofNat 512 (e := 512) (by omega)) (e := 512 * (k.val : ℤ)) (by omega)) (Affine.ofNat c.val (e := (c.val : ℤ)) (by omega)) (by omega)
  have h2 : Affine.IsInt (Scalar.addi (Scalar.muli (BitVec.ofNat 32 (i 2).val) 256#32) (BitVec.ofNat 32 r.val)) (256 * ((i 2).val : ℤ) + r.val) :=
    Affine.addi (Affine.muli (Affine.ofNat (i 2).val (e := ((i 2).val : ℤ)) (by omega)) (Affine.ofNat 256 (e := 256) (by omega))
      (e := 256 * ((i 2).val : ℤ)) (by omega)) (Affine.ofNat r.val (e := (r.val : ℤ)) (by omega)) (by omega)
  unfold Scalar.select
  by_cases h : 512 * k.val + c.val ≤ (i 2).val * 256 + r.val
  · rw [if_pos h]
    exact if_neg (Affine.sgt_fails h1 h2 (by omega))
  · rw [if_neg h]
    exact (if_pos (Affine.sgt_holds h1 h2 (by omega))).trans rfl

variable (M L : FVec Ideal S256x1 .f32) (A : FVec Ideal S256x128 .f32) (m l a m' : EReal) (hm : M (ix2 r 0) = m)
  (s : ℕ → EReal) (hs : ∀ c : Fin 512, k3_pay13 (F := Ideal) i Q k K (ix2 r c) = s (512 * k.val + c.val))
include hm hs

/-- The running maximum after the block. -/
theorem pay_max : k3_pay14 (F := Ideal) i Q k M K (ix2 r 0)
      = max m ((Finset.univ : Finset (Fin 512)).fold max cNeg fun c => s (512 * k.val + c.val)) := by
  pointwise [k3_pay14]
  simp only [hm, hs]

variable (hm' : k3_pay14 (F := Ideal) i Q k M K (ix2 r 0) = m')
include hm'

/-- The running weight after the block. -/
theorem pay_l (hl : L (ix2 r 0) = l) : k3_pay17 (F := Ideal) i Q k M L K (ix2 r 0)
      = l * Ideal.exp (m - m') + ∑ c : Fin 512, Ideal.exp (s (512 * k.val + c.val) - m') := by
  pointwise [k3_pay17, k3_pay16, k3_pay15]
  simp only [hm, hs, hl, hm']

/-- The running weighted sum of the values after the block. -/
theorem pay_acc (W : FVec Ideal S512x128 .bf16) (d : Fin 128) (ha : A (ix2 r d) = a) (v : ℕ → EReal)
    (hv : ∀ c : Fin 512, W (ix2 c d) = v (512 * k.val + c.val)) : k3_pay18 (F := Ideal) i Q k M A K W (ix2 r d)
      = a * Ideal.exp (m - m') + ∑ c : Fin 512, Ideal.exp (s (512 * k.val + c.val) - m') * v (512 * k.val + c.val) := by
  pointwise [k3_pay18, k3_pay16, k3_pay15]
  simp only [hm, hs, ha, hm', hv]

end

theorem pay_fin (L : FVec Ideal S256x1 .f32) (A : FVec Ideal S256x128 .f32) (r : Fin 256) (d : Fin 128) :
    k3_pay7 (F := Ideal) L A (ix2 r d) = Ideal.div (A (ix2 r d)) (L (ix2 r 0)) := by
  pointwise [k3_pay7]

theorem pay_init (r : Fin 256) : k3_pay10 (F := Ideal) (ix2 r 0) = ⊥ := by
  pointwise [k3_pay10]
  rfl

theorem pay_init_l (r : Fin 256) : k3_pay11 (F := Ideal) (ix2 r 0) = 0 := by
  pointwise [k3_pay11]

theorem pay_init_acc (r : Fin 256) (d : Fin 128) : k3_pay12 (F := Ideal) (ix2 r d) = 0 := by
  pointwise [k3_pay12]

/-! ## The loop over the key blocks -/

/-- How many key blocks a query block visits. -/
theorem trips_eq : ∀ t : Fin grid3.N, (k3_t1_loop (grid3.coords t)).trips = (t.val % 8 * 256 + 767) / 512 := by decide +kernel

/-- The block of 512 keys or values a trip reads. -/
abbrev keys (i : grid3.Coords) (k : Fin (k3_t1_loop i).trips) (x : Vec Ideal S2048x128 .bf16) : FVec Ideal S512x128 .bf16 :=
  View.ld x (Rect.unit (s := S2048x128) (k3_off1 i k) S512x128.size (k3_off1_inb i k))

theorem keys_at (i : grid3.Coords) (k : Fin (k3_t1_loop i).trips) (x : Vec Ideal S2048x128 .bf16) (c : Fin 512) (d : Fin 128)
    (h : 512 * k.val + c.val < 2048) : keys i k x (ix2 c d) = x (ix2 ⟨512 * k.val + c.val, h⟩ d) := by
  unfold keys
  refine congrArg x (funext fun a => Fin.ext ((congrArg (k3_off1 i k a + ·) (Nat.one_mul (ix2 c d a).val)).trans ?_))
  dsimp only
  rw [k3_off1_eq]
  fin_cases a
  · rfl
  · exact Nat.zero_add d.val

section
variable (c : Dev nD) (i : grid3.Coords) (arg3 : Memref sig .tc .vmem S256x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S256x128 .bf16) (harg6 : arg6.IsWhole)
  (x0 : Vec Ideal S256x128 .bf16) (x1 x2 : Vec Ideal S2048x128 .bf16)

/-- One trip's yield. -/
theorem trip_val (k : Fin (k3_t1_loop i).trips) (m l : FVec Ideal S256x1 .f32) (a : FVec Ideal S256x128 .f32) :
    tripR_k3_t1 (F := Ideal) Variants.none c none i arg3 harg3 arg4 harg4 arg5 harg5 arg6 harg6 x0 (harg4.unread x1) (harg5.unread x2) k (m, l, a)
      = (k3_pay14 (F := Ideal) i x0 k m (keys i k x1), k3_pay17 (F := Ideal) i x0 k m l (keys i k x1),
        k3_pay18 (F := Ideal) i x0 k m a (keys i k x1) (keys i k x2)) := by
  unfold tripR_k3_t1 trip_k3_t1
  dsimp only
  rw [View.readAt_eq_ld, View.readAt_eq_ld, harg4.read_unread, harg5.read_unread]

/-- The carried values after a number of trips. -/
abbrev carried (n : ℕ) : FVec Ideal S256x1 .f32 × FVec Ideal S256x1 .f32 × FVec Ideal S256x128 .f32 :=
  st_k3_t1 (F := Ideal) Variants.none c none i arg3 harg3 arg4 harg4 arg5 harg5 arg6 harg6 x0 (harg4.unread x1) (harg5.unread x2)
    (k3_pay10, k3_pay11, k3_pay12) n

/-- The output block: the carried sum over the carried weight. -/
theorem out3_eq : out3_A_3 (F := Ideal) c i arg3 harg3 arg4 harg4 arg5 harg5 arg6 harg6 x0 x1 x2
    = k3_pay7 (F := Ideal) (carried c i arg3 harg3 arg4 harg4 arg5 harg5 arg6 harg6 x0 x1 x2 (k3_t1_loop i).trips).2.1
       (carried c i arg3 harg3 arg4 harg4 arg5 harg5 arg6 harg6 x0 x1 x2 (k3_t1_loop i).trips).2.2 := by
  have h0 : Scf.trips (k3_t2_loop i).lb (k3_t2_loop i).ub (k3_t2_loop i).st = 0 := Nat.le_zero.1 (k3_t2_abs i).2.1
  dsimp only at h0
  unfold out3_A_3
  rw [View.read_writes_eq_canon _ _ _ (cover3_A_3 c i arg3 harg3 arg4 harg4 arg5 harg5 arg6 harg6 x0 x1 x2)]
  unfold kernelRun3_A
  dsimp only
  rw [View.canon_unit_zero (S := S256x128) hz2, h0, st_k3_t2_zero]
  dsimp only
  unfold kernelRun3_A.sl.r_2 kernelRun3_A.sl.r_3
  rw [View.readAt_eq_ld, harg3.read_unread]
  erw [View.ld_unit_zero (S := S256x128) hz2]

/-- The carried values at a row are the running softmax of its scores. -/
theorem carried_eq (r : Fin 256) (d : Fin 128) (s v : ℕ → EReal)
    (hs : ∀ j : Fin 2048, s j.val = if j.val ≤ (i 2).val * 256 + r.val then ∑ e, x0 (ix2 r e) * x1 (ix2 j e) else ⊥)
    (hv : ∀ j : Fin 2048, v j.val = x2 (ix2 j d)) :
    ∀ n, n ≤ (k3_t1_loop i).trips →
      (carried c i arg3 harg3 arg4 harg4 arg5 harg5 arg6 harg6 x0 x1 x2 n).1 (ix2 r 0) = (Run.after s v n).m
      ∧ (carried c i arg3 harg3 arg4 harg4 arg5 harg5 arg6 harg6 x0 x1 x2 n).2.1 (ix2 r 0) = (Run.after s v n).l
      ∧ (carried c i arg3 harg3 arg4 harg4 arg5 harg5 arg6 harg6 x0 x1 x2 n).2.2 (ix2 r d) = (Run.after s v n).acc := by
  intro n
  induction n with
  | zero => exact fun _ => ⟨pay_init r, pay_init_l r, pay_init_acc r d⟩
  | succ n ih =>
    intro hn
    obtain ⟨i1, i2, i3⟩ := ih (by omega)
    have hn4 : n < 4 := Nat.lt_of_lt_of_le hn (k3_t1_abs i).2.1
    have e := st_k3_t1_succ (F := Ideal) Variants.none c none i arg3 harg3 arg4 harg4 arg5 harg5 arg6 harg6 x0 (harg4.unread x1) (harg5.unread x2)
      (k3_pay10, k3_pay11, k3_pay12) ⟨n, hn⟩
    have e' := e.trans (trip_val c i arg3 harg3 arg4 harg4 arg5 harg5 arg6 harg6 x0 x1 x2 ⟨n, hn⟩ _ _ _)
    have hs' : ∀ b : Fin 512, k3_pay13 (F := Ideal) i x0 ⟨n, hn⟩ (keys i ⟨n, hn⟩ x1) (ix2 r b) = s (512 * n + b.val) := fun b => by
      rw [pay_score i x0 ⟨n, hn⟩ (keys i ⟨n, hn⟩ x1) r (fun e => x0 (ix2 r e)) (fun _ => rfl)
        (fun b e => x1 (ix2 ⟨512 * n + b.val, by omega⟩ e)) (fun b e => keys_at i ⟨n, hn⟩ x1 b e (by show 512 * n + b.val < 2048; omega)) b]
      exact (hs ⟨512 * n + b.val, by omega⟩).symm
    have hm := pay_max i x0 ⟨n, hn⟩ (keys i ⟨n, hn⟩ x1) r _ _ i1 s hs'
    unfold carried
    erw [e']
    refine ⟨hm, pay_l i x0 ⟨n, hn⟩ (keys i ⟨n, hn⟩ x1) r _ _ _ _ _ i1 s hs' hm i2, ?_⟩
    exact pay_acc i x0 ⟨n, hn⟩ (keys i ⟨n, hn⟩ x1) r _ _ _ _ _ i1 s hs' hm _ d i3 v
      (fun b => (keys_at i ⟨n, hn⟩ x2 b d (by show 512 * n + b.val < 2048; omega)).trans (hv ⟨512 * n + b.val, by omega⟩).symm)

end

/-! ## The region's array -/

variable (V : (c : Dev nD) → (b : Ref sig .tc) → Buf (Elt Ideal) ((c : Thread nD τ).loc b)) (c : Dev nD)

/-- A query row's scores over its sequence's keys, in one head. -/
def rowScore (q k : Fin 4096 → Fin 2048 → EReal) (T : Fin 4096) (C : Fin 2048) (j : ℕ) : EReal :=
  if hj : j < 2048 then
    if j ≤ T.val % 2048 then ∑ d : Fin 128, q T ⟨C.val / 128 * 128 + d.val, by omega⟩ * k ⟨T.val / 2048 * 2048 + j, by omega⟩ ⟨C.val / 128 * 128 + d.val, by omega⟩
    else ⊥
  else ⊥

/-- The values of a row's sequence, at a column. -/
def rowValue (v : Fin 4096 → Fin 2048 → EReal) (T : Fin 4096) (C : Fin 2048) (j : ℕ) : EReal :=
  if hj : j < 2048 then v ⟨T.val / 2048 * 2048 + j, by omega⟩ C else 0

theorem coord3_2 : ∀ t : Fin grid3.N, (grid3.coords t 2).val = t.val % 8 := by decide +kernel

theorem region3_heads (q : Fin 4096 → Fin 2048 → EReal) (hq : ∀ T C, V c main_v54 (ix2 T C) = q T C)
    (k : Fin 4096 → Fin 2048 → EReal) (hk : ∀ T C, V c main_v55 (ix2 T C) = k T C)
    (v : Fin 4096 → Fin 2048 → EReal) (hv : ∀ T C, V c main_v56 (ix2 T C) = v T C) (T : Fin 4096) (C : Fin 2048) :
    (dat3 V c).arrAt 3 cfg3.N (ix2 T C)
      = Ideal.div (Run.after (rowScore q k T C) (rowValue v T C) ((T.val % 2048 / 256 * 256 + 767) / 512)).acc
          (Run.after (rowScore q k T C) (rowValue v T C) ((T.val % 2048 / 256 * 256 + 767) / 512)).l := by
  refine arr3_3 V c (fun T C => Ideal.div (Run.after (rowScore q k T C) (rowValue v T C) ((T.val % 2048 / 256 * 256 + 767) / 512)).acc
          (Run.after (rowScore q k T C) (rowValue v T C) ((T.val % 2048 / 256 * 256 + 767) / 512)).l) (fun t r d T C hT hC => ?_) T C
  have ht : t.val < 256 := lt_of_lt_of_eq t.isLt N_3
  have e2 : (grid3.coords t 2).val = t.val % 8 := coord3_2 t
  have eT : T.val / 2048 = t.val / 128 := by omega
  have eM : T.val % 2048 = t.val % 8 * 256 + r.val := by omega
  have eC : C.val / 128 = t.val / 8 % 16 := by omega
  have en : (T.val % 2048 / 256 * 256 + 767) / 512 = (k3_t1_loop (grid3.coords t)).trips := by
    rw [trips_eq]; omega
  rw [after3_3]
  unfold outsAt3
  rw [out3_eq, pay_fin]
  obtain ⟨-, h2, h3⟩ := carried_eq c (grid3.coords t) (ms3_0 t) (hs3_0 t) (ms3_1 t) (hs3_1 t) (ms3_2 t) (hs3_2 t) (ms3_3 t) (hs3_3 t)
    (iblk3 V c 0 t) (iblk3 V c 1 t) (iblk3 V c 2 t) r d (rowScore q k T C) (rowValue v T C)
    (fun j => by
      unfold rowScore
      rw [dif_pos j.isLt, e2, eM]
      refine if_congr Iff.rfl (Finset.sum_congr rfl fun e _ => ?_) rfl
      rw [← hq, ← hk]
      exact congrArg₂ _ (blk3_0 V c t r e _ _ hT (by dsimp only; omega)).symm (blk3_1 V c t j e _ _ (by dsimp only; omega) (by dsimp only; omega)).symm)
    (fun j => by
      unfold rowValue
      rw [dif_pos j.isLt, ← hv]
      exact (blk3_2 V c t j d _ _ (by dsimp only; omega) hC).symm) _ le_rfl
  rw [h2, h3, en]

end Cert.KernelIdeal.Gen
-- ==== Proof.Value.KerHost.lean ====
module

public import proofs.«01_k».proof.Proof.Value.KerFlash
public import Idealize.ShloMosaic.Lib.Routing.OpsSet
public import Idealize.ShloMosaic.Lib.Routing.OpsOne

/-!
What the host operations before, between and after the regions leave, index by index.
-/

@[expose] public section

set_option maxRecDepth 16384

noncomputable section

namespace Cert.KernelIdeal.Gen

open Cert.KernelIdeal Idealize.ShloMosaic Idealize.ShloMosaic.TcCoe Idealize.SL.Sem
open Idealize.ShloMosaic.StableHlo (after)
open Idealize.ShloMosaic.Routing
open Cert.Value

/-! ## Columns written into a wider table -/

theorem cols_lands (idx : IVec S1 32) (k : S2048x2.Idx) (r : Fin 2048) (c : Fin 128) :
    scatter_S2048x128_S1_S2048x2_01_n_1_0.resultIdx? k idx = some (ix2 r c)
      ↔ (k 0).val = r.val ∧ (idx (ix1 0)).toInt + ((k 1).val : ℤ) = c.val := by
  have s0 : scatter_S2048x128_S1_S2048x2_01_n_1_0.start k idx 0 = 0 := rfl
  have s1 : scatter_S2048x128_S1_S2048x2_01_n_1_0.start k idx 1 = (idx (ix1 0)).toInt := by
    unfold ScatterDims.start
    rw [dif_pos (by decide)]
    refine congrArg (fun i => (idx i).toInt) (funext fun a => ?_)
    match a with
    | ⟨0, _⟩ => rfl
  have w0 : scatter_S2048x128_S1_S2048x2_01_n_1_0.window k 0 = (k 0).val := rfl
  have w1 : scatter_S2048x128_S1_S2048x2_01_n_1_0.window k 1 = (k 1).val := rfl
  refine (resultIdx?_ix2 (R := 2048) (C := 128) scatter_S2048x128_S1_S2048x2_01_n_1_0 k idx r c).trans ?_
  rw [s0, s1, w0, w1]
  omega

/-- Two columns set from column `o` on. -/
theorem cols_set (x : S2048x128.Idx → EReal) (idx : IVec S1 32) (u : S2048x2.Idx → EReal) (o : ℕ)
    (ho : (idx (ix1 0)).toInt = (o : ℤ)) (r : Fin 2048) (c : Fin 128) :
    Host.scatter scatter_S2048x128_S1_S2048x2_01_n_1_0 (fun _ b => b) x idx u (ix2 r c)
      = if h : o ≤ c.val ∧ c.val < o + 2 then u (ix2 r ⟨c.val - o, by omega⟩) else x (ix2 r c) := by
  by_cases h : o ≤ c.val ∧ c.val < o + 2
  · rw [dif_pos h]
    refine scatter_set_hit _ x idx u _ _ (fun k hk => congrArg u ?_) (ix2 r ⟨c.val - o, by omega⟩)
      ((cols_lands idx _ r c).2 ⟨rfl, by rw [ho]; show (o : ℤ) + ((c.val - o : ℕ) : ℤ) = _; omega⟩)
    obtain ⟨h0, h1⟩ := (cols_lands idx k r c).1 hk
    rw [ho] at h1
    funext a
    match a with
    | ⟨0, _⟩ => exact Fin.ext h0
    | ⟨1, _⟩ => exact Fin.ext (by show (k 1).val = c.val - o; omega)
  · rw [dif_neg h]
    refine scatter_set_miss _ x idx u _ fun k hk => h ?_
    obtain ⟨h0, h1⟩ := (cols_lands idx k r c).1 hk
    have : (k 1).val < 2 := (k 1).isLt
    rw [ho] at h1
    omega

theorem pair_lands (idx : IVec S2 32) (k : S2.Idx) (r : Fin 1) (c : Fin 128) :
    scatter_S1x128_S2_S2_0_0_01_0.resultIdx? k idx = some (ix2 r c)
      ↔ (idx (ix1 0)).toInt = r.val ∧ (idx (ix1 1)).toInt + ((k 0).val : ℤ) = c.val := by
  have w0 : scatter_S1x128_S2_S2_0_0_01_0.window k 0 = 0 := rfl
  have w1 : scatter_S1x128_S2_S2_0_0_01_0.window k 1 = (k 0).val := rfl
  refine (resultIdx?_ix2 (R := 1) (C := 128) scatter_S1x128_S2_S2_0_0_01_0 k idx r c).trans ?_
  rw [start_pair (R := 1) (C := 128) scatter_S1x128_S2_S2_0_0_01_0 rfl rfl, start_pair (R := 1) (C := 128) scatter_S1x128_S2_S2_0_0_01_0 rfl rfl, w0, w1]
  show (idx (ix1 0)).toInt + ((0 : ℕ) : ℤ) = (r.val : ℤ) ∧ (idx (ix1 1)).toInt + ((k 0).val : ℤ) = (c.val : ℤ) ↔ _
  rw [Nat.cast_zero, add_zero]

/-- Two entries set from column `o` on. -/
theorem pair_set (x : S1x128.Idx → EReal) (idx : IVec S2 32) (u : S2.Idx → EReal) (o : ℕ)
    (hz : (idx (ix1 0)).toInt = 0) (ho : (idx (ix1 1)).toInt = (o : ℤ)) (c : Fin 128) :
    Host.scatter scatter_S1x128_S2_S2_0_0_01_0 (fun _ b => b) x idx u (ix2 0 c)
      = if h : o ≤ c.val ∧ c.val < o + 2 then u (ix1 ⟨c.val - o, by omega⟩) else x (ix2 0 c) := by
  by_cases h : o ≤ c.val ∧ c.val < o + 2
  · rw [dif_pos h]
    refine scatter_set_hit _ x idx u _ _ (fun k hk => congrArg u ?_) (ix1 ⟨c.val - o, by omega⟩)
      ((pair_lands idx _ 0 c).2 ⟨hz, by rw [ho]; show (o : ℤ) + ((c.val - o : ℕ) : ℤ) = _; omega⟩)
    obtain ⟨h0, h1⟩ := (pair_lands idx k 0 c).1 hk
    rw [ho] at h1
    funext a
    match a with
    | ⟨0, _⟩ => exact Fin.ext (by show (k 0).val = c.val - o; omega)
  · rw [dif_neg h]
    refine scatter_set_miss _ x idx u _ fun k hk => h ?_
    obtain ⟨h0, h1⟩ := (pair_lands idx k 0 c).1 hk
    have : (k 0).val < 2 := (k 0).isLt
    rw [ho] at h1
    omega

/-! ## Before the first region -/

section
variable (V : Valuation τ sig (Elt Ideal))

theorem host_x (X : Fin 2 → Fin 2048 → Fin 2048 → EReal) (hX : ∀ b s d, V (Proc.devRef .tc main_arg0) (ix3 b s d) = X b s d)
    (T : Fin 4096) (d : Fin 2048) : after hostOps0 V (Proc.devRef .tc main_v0) (ix2 T d) = X ⟨T.val / 2048, by omega⟩ ⟨T.val % 2048, by omega⟩ d := by
  after_reads_at
  exact hX _ _ d

theorem host_l1 (l : Fin 2048 → EReal) (hl : ∀ d, V (Proc.devRef .tc main_arg2) (ix1 d) = l d) (d : Fin 2048) :
    after hostOps0 V (Proc.devRef .tc main_v15) (ix2 (0 : Fin 1) d) = l d := by
  after_reads_at
  exact hl d

theorem host_l2 (l : Fin 2048 → EReal) (hl : ∀ d, V (Proc.devRef .tc main_arg3) (ix1 d) = l d) (d : Fin 2048) :
    after hostOps0 V (Proc.devRef .tc main_v16) (ix2 (0 : Fin 1) d) = l d := by
  after_reads_at
  exact hl d

theorem host_wqk (Wq Wk : Fin 2048 → Fin 2048 → EReal) (hq : ∀ k c, V (Proc.devRef .tc main_arg4) (ix2 k c) = Wq k c)
    (hk : ∀ k c, V (Proc.devRef .tc main_arg5) (ix2 k c) = Wk k c) (k : Fin 2048) (C : Fin 4096) :
    after hostOps0 V (Proc.devRef .tc main_v20) (ix2 k C)
      = if h : C.val < 2048 then Ideal.div (Wq k ⟨C.val, h⟩) cScale else Wk k ⟨C.val - 2048, by omega⟩ := by
  after_reads_at
  simp only [StableHlo.upto, List.take]
  after_reads_at
  simp only [hq, hk]

theorem host_wv (W : Fin 2048 → Fin 2048 → EReal) (hW : ∀ k c, V (Proc.devRef .tc main_arg6) (ix2 k c) = W k c) (k c : Fin 2048) :
    after hostOps0 V (Proc.devRef .tc main_v21) (ix2 k c) = W k c := by
  after_reads_at
  exact hW k c

theorem host_wo (W : Fin 2048 → Fin 2048 → EReal) (hW : ∀ k c, V (Proc.devRef .tc main_arg7) (ix2 k c) = W k c) (k c : Fin 2048) :
    after hostOps0 V (Proc.devRef .tc main_v22) (ix2 k c) = W k c := by
  after_reads_at
  exact hW k c

theorem host_wg (W : Fin 2048 → Fin 5632 → EReal) (hW : ∀ k c, V (Proc.devRef .tc main_arg8) (ix2 k c) = W k c) (k : Fin 2048) (c : Fin 5632) :
    after hostOps0 V (Proc.devRef .tc main_v23) (ix2 k c) = W k c := by
  after_reads_at
  exact hW k c

theorem host_wu (W : Fin 2048 → Fin 5632 → EReal) (hW : ∀ k c, V (Proc.devRef .tc main_arg9) (ix2 k c) = W k c) (k : Fin 2048) (c : Fin 5632) :
    after hostOps0 V (Proc.devRef .tc main_v24) (ix2 k c) = W k c := by
  after_reads_at
  exact hW k c

theorem host_wd (W : Fin 5632 → Fin 2048 → EReal) (hW : ∀ k c, V (Proc.devRef .tc main_arg10) (ix2 k c) = W k c) (k : Fin 5632) (c : Fin 2048) :
    after hostOps0 V (Proc.devRef .tc main_v25) (ix2 k c) = W k c := by
  after_reads_at
  exact hW k c

theorem host_cos (s : Fin 2048) (j : Fin 512) :
    after hostOps0 V (Proc.devRef .tc main_v47) (ix2 s j) = Ideal.cos (angle s.val (j.val % 128)) := by
  after_reads_at
  simp only [StableHlo.upto, List.take]
  after_reads_at
  unfold angle freq
  congr 1

theorem host_sin (s : Fin 2048) (j : Fin 512) :
    after hostOps0 V (Proc.devRef .tc main_v51) (ix2 s j) = Ideal.sin (angle s.val (j.val % 128)) := by
  after_reads_at
  simp only [StableHlo.upto, List.take]
  after_reads_at
  unfold angle freq
  congr 1

theorem host_wr (Wa Wm : Fin 2048 → Fin 2 → EReal) (ha : ∀ k c, V (Proc.devRef .tc main_arg11) (ix2 k c) = Wa k c)
    (hm : ∀ k c, V (Proc.devRef .tc main_arg13) (ix2 k c) = Wm k c) (k : Fin 2048) (c : Fin 128) :
    after hostOps0 V (Proc.devRef .tc main_v5) (ix2 k c)
      = if h : 2 ≤ c.val ∧ c.val < 4 then Wm k ⟨c.val - 2, by omega⟩ else if h : c.val < 2 then Wa k ⟨c.val, h⟩ else 0 := by
  after_reads_simp
  refine (cols_set _ _ _ 2 rfl k c).trans (dite_congr (by rfl) (fun h => hm k _) fun h => ?_)
  refine (cols_set _ _ _ 0 rfl k c).trans (dite_congr (by simp) (fun h => ha k _) fun h => ?_)
  pointwise []

theorem host_br (ba bm : Fin 2 → EReal) (ha : ∀ e, V (Proc.devRef .tc main_arg12) (ix1 e) = ba e)
    (hm : ∀ e, V (Proc.devRef .tc main_arg14) (ix1 e) = bm e) (c : Fin 128) :
    after hostOps0 V (Proc.devRef .tc main_v14) (ix2 (0 : Fin 1) c)
      = if h : 2 ≤ c.val ∧ c.val < 4 then bm ⟨c.val - 2, by omega⟩ else if h : c.val < 2 then ba ⟨c.val, h⟩ else 0 := by
  after_reads_simp
  refine (pair_set _ _ _ 2 ?_ ?_ c).trans (dite_congr (by rfl) (fun h => hm _) fun h => ?_)
  · rfl
  · rfl
  refine (pair_set _ _ _ 0 ?_ ?_ c).trans (dite_congr (by simp) (fun h => ha _) fun h => ?_)
  · rfl
  · rfl
  pointwise []

/-! ## Between and after the regions -/

theorem host_q (T : Fin 4096) (C : Fin 2048) :
    after hostOps2 V (Proc.devRef .tc main_v54) (ix2 T C) = V (Proc.devRef .tc main_v53) (ix2 T (⟨C.val, by omega⟩ : Fin 4096)) := by
  after_reads_at

theorem host_k (T : Fin 4096) (C : Fin 2048) :
    after hostOps2 V (Proc.devRef .tc main_v55) (ix2 T C) = V (Proc.devRef .tc main_v53) (ix2 T (⟨2048 + C.val, by omega⟩ : Fin 4096)) := by
  after_reads_at

theorem host_out (b : Fin 2) (s d : Fin 2048) :
    after hostOps6 V (Proc.devRef .tc main_v60) (ix3 b s d) = V (Proc.devRef .tc main_v59) (ix2 (⟨b.val * 2048 + s.val, by omega⟩ : Fin 4096) d) := by
  after_reads_at

end

end Cert.KernelIdeal.Gen
-- ==== Proof.Value.KerOut.lean ====
module

public import proofs.«01_k».proof.Proof.Value.KerHost

/-!
The kernel's result, index by index: the regions composed, each reading what the earlier ones left.
-/

@[expose] public section

set_option maxRecDepth 16384

noncomputable section

namespace Cert.KernelIdeal.Gen

open Cert.KernelIdeal Idealize.ShloMosaic Idealize.ShloMosaic.TcCoe Idealize.SL.Sem
open Cert.Value

/-- The argument arrays hold `A`. -/
structure Holds (V : Valuation τ sig (Elt Ideal)) (A : Ins) : Prop where
  X : ∀ b s d, V (Proc.devRef .tc main_arg0) (ix3 b s d) = A.X b s d
  L1 : ∀ d, V (Proc.devRef .tc main_arg2) (ix1 d) = A.L1 d
  L2 : ∀ d, V (Proc.devRef .tc main_arg3) (ix1 d) = A.L2 d
  Wq : ∀ k c, V (Proc.devRef .tc main_arg4) (ix2 k c) = A.Wq k c
  Wk : ∀ k c, V (Proc.devRef .tc main_arg5) (ix2 k c) = A.Wk k c
  Wv : ∀ k c, V (Proc.devRef .tc main_arg6) (ix2 k c) = A.Wv k c
  Wo : ∀ k c, V (Proc.devRef .tc main_arg7) (ix2 k c) = A.Wo k c
  Wg : ∀ k c, V (Proc.devRef .tc main_arg8) (ix2 k c) = A.Wg k c
  Wu : ∀ k c, V (Proc.devRef .tc main_arg9) (ix2 k c) = A.Wu k c
  Wd : ∀ k c, V (Proc.devRef .tc main_arg10) (ix2 k c) = A.Wd k c
  Wa : ∀ k c, V (Proc.devRef .tc main_arg11) (ix2 k c) = A.Wa k c
  ba : ∀ e, V (Proc.devRef .tc main_arg12) (ix1 e) = A.ba e
  Wm : ∀ k c, V (Proc.devRef .tc main_arg13) (ix2 k c) = A.Wm k c
  bm : ∀ e, V (Proc.devRef .tc main_arg14) (ix1 e) = A.bm e

/-- A value an array is known to hold is found there in any valuation that agrees on the array. -/
theorem at_of {α β : Type} {f g : α → β} (h : f = g) {i : α} {x : β} (e : g i = x) : f i = x := by rw [h]; exact e

/-- A flat row's sequence. -/
abbrev seqOf (T : Fin 4096) : Fin 2 := ⟨T.val / 2048, by omega⟩
/-- A flat row's position. -/
abbrev posOf (T : Fin 4096) : Fin 2048 := ⟨T.val % 2048, by omega⟩
/-- A column's head. -/
abbrev headOf (C : Fin 2048) : Fin 16 := ⟨C.val / 128, by omega⟩
/-- A column's coordinate in its head. -/
abbrev coordOf (C : Fin 2048) : Fin 128 := ⟨C.val % 128, by omega⟩

theorem col_of (C : Fin 2048) : col (headOf C) (coordOf C) = C :=
  Fin.ext (by show C.val / 128 * 128 + C.val % 128 = C.val; omega)

/-- The query weights, scaled, and the key weights side by side. -/
def joined (A : Ins) (k : Fin 2048) (C : Fin 4096) : EReal :=
  if h : C.val < 2048 then A.Wqs k ⟨C.val, h⟩ else A.Wk k ⟨C.val - 2048, by omega⟩

/-- A row's scores in the kernel are the block's. -/
theorem rowScore_eq {A : Ins} (hA : A.Finite) (T : Fin 4096) (C : Fin 2048) :
    rowScore (fun T C => A.rot A.Wqs (seqOf T) (headOf C) (posOf T) (coordOf C))
      (fun T C => A.rot A.Wk (seqOf T) (headOf C) (posOf T) (coordOf C)) T C = A.scoreN (seqOf T) (headOf C) (posOf T) := by
  funext j
  unfold rowScore Ins.scoreN
  by_cases hj : j < 2048
  · rw [dif_pos hj, dif_pos hj]
    unfold Ins.score
    by_cases hm : j ≤ T.val % 2048
    · rw [if_pos hm, if_pos (show (⟨j, hj⟩ : Fin 2048).val ≤ (posOf T).val from hm)]
      obtain ⟨r, h1, h2⟩ := Ins.dot_scaled hA (seqOf T) (headOf C) (posOf T) ⟨j, hj⟩
      rw [h1, ← h2]
      refine Finset.sum_congr rfl fun d _ => ?_
      have eh : headOf ⟨C.val / 128 * 128 + d.val, by omega⟩ = headOf C :=
        Fin.ext (by show (C.val / 128 * 128 + d.val) / 128 = C.val / 128; omega)
      have ed : coordOf ⟨C.val / 128 * 128 + d.val, by omega⟩ = d :=
        Fin.ext (by show (C.val / 128 * 128 + d.val) % 128 = d.val; omega)
      have es : seqOf ⟨T.val / 2048 * 2048 + j, by omega⟩ = seqOf T :=
        Fin.ext (by show (T.val / 2048 * 2048 + j) / 2048 = T.val / 2048; omega)
      have ep : posOf ⟨T.val / 2048 * 2048 + j, by omega⟩ = ⟨j, hj⟩ :=
        Fin.ext (by show (T.val / 2048 * 2048 + j) % 2048 = j; omega)
      dsimp only
      rw [eh, ed, es, ep]
    · rw [if_neg hm, if_neg (show ¬(⟨j, hj⟩ : Fin 2048).val ≤ (posOf T).val from hm), cNeg_eq]
  · rw [dif_neg hj, dif_neg hj]

/-- A row's values in the kernel are the block's. -/
theorem rowValue_eq {A : Ins} (T : Fin 4096) (C : Fin 2048) :
    rowValue (fun T C => A.proj A.Wv (seqOf T) (headOf C) (posOf T) (coordOf C)) T C
      = A.valN (seqOf T) (headOf C) (coordOf C) := by
  funext j
  unfold rowValue Ins.valN
  by_cases hj : j < 2048
  · rw [dif_pos hj, dif_pos hj]
    have es : seqOf ⟨T.val / 2048 * 2048 + j, by omega⟩ = seqOf T :=
      Fin.ext (by show (T.val / 2048 * 2048 + j) / 2048 = T.val / 2048; omega)
    have ep : posOf ⟨T.val / 2048 * 2048 + j, by omega⟩ = ⟨j, hj⟩ :=
      Fin.ext (by show (T.val / 2048 * 2048 + j) % 2048 = j; omega)
    dsimp only
    rw [es, ep]
  · rw [dif_neg hj, dif_neg hj]

variable {m : (ℓ : Loc nD τ sig) → Buf (Elt Ideal) ℓ} {ρ : Dev nD → PrngReg} {c : Dev nD} {A : Ins}
section
variable (H : Holds (W0 m ρ c) A)

/-! ## What stays as the host or a region left it -/

/-- The query and key weights reach region 1. -/
theorem keep_wqk : W2 m ρ c (Proc.devRef .tc main_v20) = W1 m ρ c (Proc.devRef .tc main_v20) :=
  (W2_of m ρ c main_v20 (by decide))

/-- The cosines reach region 1. -/
theorem keep_cos : W2 m ρ c (Proc.devRef .tc main_v47) = W1 m ρ c (Proc.devRef .tc main_v47) :=
  (W2_of m ρ c main_v47 (by decide))

/-- The sines reach region 1. -/
theorem keep_sin : W2 m ρ c (Proc.devRef .tc main_v51) = W1 m ρ c (Proc.devRef .tc main_v51) :=
  (W2_of m ρ c main_v51 (by decide))

/-- The value weights reach region 2. -/
theorem keep_wv : W4 m ρ c (Proc.devRef .tc main_v21) = W1 m ρ c (Proc.devRef .tc main_v21) :=
  (W4_of m ρ c main_v21 (by decide))
    |>.trans (W3_of m ρ c main_v21 (by decide))
    |>.trans (W2_of m ρ c main_v21 (by decide))

/-- The normalized rows reach region 2. -/
theorem keep_xn : W4 m ρ c (Proc.devRef .tc main_v52_0) = W2 m ρ c (Proc.devRef .tc main_v52_0) :=
  (W4_of m ρ c main_v52_0 (by decide))
    |>.trans (W3_of m ρ c main_v52_0 (by decide))

/-- The output weights reach region 4. -/
theorem keep_wo : W6 m ρ c (Proc.devRef .tc main_v22) = W1 m ρ c (Proc.devRef .tc main_v22) :=
  (W6_of m ρ c main_v22 (by decide))
    |>.trans (W5_of m ρ c main_v22 (by decide))
    |>.trans (W4_of m ρ c main_v22 (by decide))
    |>.trans (W3_of m ρ c main_v22 (by decide))
    |>.trans (W2_of m ρ c main_v22 (by decide))

/-- The input rows reach region 4. -/
theorem keep_x : W6 m ρ c (Proc.devRef .tc main_v0) = W1 m ρ c (Proc.devRef .tc main_v0) :=
  (W6_of m ρ c main_v0 (by decide))
    |>.trans (W5_of m ρ c main_v0 (by decide))
    |>.trans (W4_of m ρ c main_v0 (by decide))
    |>.trans (W3_of m ρ c main_v0 (by decide))
    |>.trans (W2_of m ρ c main_v0 (by decide))

/-- The second norm weights reach region 4. -/
theorem keep_l2 : W6 m ρ c (Proc.devRef .tc main_v16) = W1 m ρ c (Proc.devRef .tc main_v16) :=
  (W6_of m ρ c main_v16 (by decide))
    |>.trans (W5_of m ρ c main_v16 (by decide))
    |>.trans (W4_of m ρ c main_v16 (by decide))
    |>.trans (W3_of m ρ c main_v16 (by decide))
    |>.trans (W2_of m ρ c main_v16 (by decide))

/-- The attention flags reach region 4. -/
theorem keep_skip : W6 m ρ c (Proc.devRef .tc main_v52_1) = W2 m ρ c (Proc.devRef .tc main_v52_1) :=
  (W6_of m ρ c main_v52_1 (by decide))
    |>.trans (W5_of m ρ c main_v52_1 (by decide))
    |>.trans (W4_of m ρ c main_v52_1 (by decide))
    |>.trans (W3_of m ρ c main_v52_1 (by decide))

/-- The gate weights reach region 5. -/
theorem keep_wg : W7 m ρ c (Proc.devRef .tc main_v23) = W1 m ρ c (Proc.devRef .tc main_v23) :=
  (W7_of m ρ c main_v23 (by decide))
    |>.trans (W6_of m ρ c main_v23 (by decide))
    |>.trans (W5_of m ρ c main_v23 (by decide))
    |>.trans (W4_of m ρ c main_v23 (by decide))
    |>.trans (W3_of m ρ c main_v23 (by decide))
    |>.trans (W2_of m ρ c main_v23 (by decide))

/-- The up weights reach region 5. -/
theorem keep_wu : W7 m ρ c (Proc.devRef .tc main_v24) = W1 m ρ c (Proc.devRef .tc main_v24) :=
  (W7_of m ρ c main_v24 (by decide))
    |>.trans (W6_of m ρ c main_v24 (by decide))
    |>.trans (W5_of m ρ c main_v24 (by decide))
    |>.trans (W4_of m ρ c main_v24 (by decide))
    |>.trans (W3_of m ρ c main_v24 (by decide))
    |>.trans (W2_of m ρ c main_v24 (by decide))

/-- The down weights reach region 5. -/
theorem keep_wd : W7 m ρ c (Proc.devRef .tc main_v25) = W1 m ρ c (Proc.devRef .tc main_v25) :=
  (W7_of m ρ c main_v25 (by decide))
    |>.trans (W6_of m ρ c main_v25 (by decide))
    |>.trans (W5_of m ρ c main_v25 (by decide))
    |>.trans (W4_of m ρ c main_v25 (by decide))
    |>.trans (W3_of m ρ c main_v25 (by decide))
    |>.trans (W2_of m ρ c main_v25 (by decide))

/-- The second flags reach region 5. -/
theorem keep_skip_mlp : W7 m ρ c (Proc.devRef .tc main_v52_2) = W2 m ρ c (Proc.devRef .tc main_v52_2) :=
  (W7_of m ρ c main_v52_2 (by decide))
    |>.trans (W6_of m ρ c main_v52_2 (by decide))
    |>.trans (W5_of m ρ c main_v52_2 (by decide))
    |>.trans (W4_of m ρ c main_v52_2 (by decide))
    |>.trans (W3_of m ρ c main_v52_2 (by decide))

/-- The queries reach region 3. -/
theorem keep_q : W5 m ρ c (Proc.devRef .tc main_v54) = W4 m ρ c (Proc.devRef .tc main_v54) :=
  (W5_of m ρ c main_v54 (by decide))

/-- The keys reach region 3. -/
theorem keep_k : W5 m ρ c (Proc.devRef .tc main_v55) = W4 m ρ c (Proc.devRef .tc main_v55) :=
  (W5_of m ρ c main_v55 (by decide))

/-! ## Region by region -/

include H

theorem rows (T : Fin 4096) (d : Fin 2048) : W1 m ρ c (Proc.devRef .tc main_v0) (ix2 T d) = A.X (seqOf T) (posOf T) d :=
  host_x _ A.X H.X T d

/-- Region 0 leaves the normalized rows. -/
theorem left_xn (T : Fin 4096) (d : Fin 2048) :
    W2 m ρ c (Proc.devRef .tc main_v52_0) (ix2 T d) = A.xn (seqOf T) (posOf T) d :=
  at_of (W2_arr m ρ c 4) (region0_xn (V1 m ρ) c (fun T => A.X (seqOf T) (posOf T)) (rows H) A.L1 (host_l1 _ A.L1 H.L1) T d)

/-- Region 0 leaves the flags of the rows that skip attention. -/
theorem left_skip (T : Fin 4096) :
    W2 m ρ c (Proc.devRef .tc main_v52_1) (ix2 T (0 : Fin 1)) = flag (routed (A.X (seqOf T) (posOf T)) A.Wa A.ba) :=
  at_of (W2_arr m ρ c 5) (region0_attn (V1 m ρ) c (fun T => A.X (seqOf T) (posOf T)) (rows H) A.Wa A.ba
    (fun k => (host_wr _ A.Wa A.Wm H.Wa H.Wm k 0).trans ((dif_neg (by decide)).trans (dif_pos (by decide))))
    (fun k => (host_wr _ A.Wa A.Wm H.Wa H.Wm k 1).trans ((dif_neg (by decide)).trans (dif_pos (by decide))))
    ((host_br _ A.ba A.bm H.ba H.bm 0).trans ((dif_neg (by decide)).trans (dif_pos (by decide))))
    ((host_br _ A.ba A.bm H.ba H.bm 1).trans ((dif_neg (by decide)).trans (dif_pos (by decide)))) T)

/-- Region 0 leaves the flags of the rows that skip the feed-forward part. -/
theorem left_skip_mlp (T : Fin 4096) :
    W2 m ρ c (Proc.devRef .tc main_v52_2) (ix2 T (0 : Fin 1)) = flag (routed (A.X (seqOf T) (posOf T)) A.Wm A.bm) :=
  at_of (W2_arr m ρ c 6) (region0_mlp (V1 m ρ) c (fun T => A.X (seqOf T) (posOf T)) (rows H) A.Wm A.bm
    (fun k => (host_wr _ A.Wa A.Wm H.Wa H.Wm k 2).trans (dif_pos (by decide)))
    (fun k => (host_wr _ A.Wa A.Wm H.Wa H.Wm k 3).trans (dif_pos (by decide)))
    ((host_br _ A.ba A.bm H.ba H.bm 2).trans (dif_pos (by decide)))
    ((host_br _ A.ba A.bm H.ba H.bm 3).trans (dif_pos (by decide))) T)

/-- Region 1 leaves the rotated projections by the joined weights. -/
theorem left_qk (T C : Fin 4096) :
    W3 m ρ c (Proc.devRef .tc main_v53) (ix2 T C)
      = rope (fun e => ∑ k, A.xn (seqOf T) (posOf T) k * joined A k ⟨C.val / 128 * 128 + e.val, by omega⟩) (T.val % 2048)
          ⟨C.val % 128, by omega⟩ :=
  at_of (W3_arr m ρ c 4) (region1_qk (V2 m ρ) c (fun T => A.xn (seqOf T) (posOf T)) (left_xn H) (joined A)
    (fun k j => at_of keep_wqk (host_wqk _ A.Wq A.Wk H.Wq H.Wk k j)) (fun s j => at_of keep_cos (host_cos _ s j))
    (fun s j => at_of keep_sin (host_sin _ s j)) T C)

/-- The queries at region 3. -/
theorem left_q (T : Fin 4096) (C : Fin 2048) :
    W5 m ρ c (Proc.devRef .tc main_v54) (ix2 T C) = A.rot A.Wqs (seqOf T) (headOf C) (posOf T) (coordOf C) := by
  refine at_of keep_q ((host_q _ T C).trans ((left_qk H T _).trans ?_))
  exact congrArg (fun f => rope f (T.val % 2048) (coordOf C)) (funext fun e => Finset.sum_congr rfl fun k _ =>
    congrArg (A.xn (seqOf T) (posOf T) k * ·) (dif_pos (show C.val / 128 * 128 + e.val < 2048 by omega)))

/-- The keys at region 3. -/
theorem left_k (T : Fin 4096) (C : Fin 2048) :
    W5 m ρ c (Proc.devRef .tc main_v55) (ix2 T C) = A.rot A.Wk (seqOf T) (headOf C) (posOf T) (coordOf C) := by
  refine at_of keep_k ((host_k _ T C).trans ((left_qk H T _).trans ?_))
  have hd : (⟨(2048 + C.val) % 128, by omega⟩ : Fin 128) = coordOf C := Fin.ext (by show (2048 + C.val) % 128 = C.val % 128; omega)
  refine (congrArg (rope _ (T.val % 2048)) hd).trans ?_
  exact congrArg (fun f => rope f (T.val % 2048) (coordOf C)) (funext fun e => Finset.sum_congr rfl fun k _ =>
    congrArg (A.xn (seqOf T) (posOf T) k * ·) ((dif_neg (show ¬(2048 + C.val) / 128 * 128 + e.val < 2048 by omega)).trans
      (congrArg (A.Wk k) (Fin.ext (by show (2048 + C.val) / 128 * 128 + e.val - 2048 = C.val / 128 * 128 + e.val; omega)))))

/-- The values at region 3. -/
theorem left_v (T : Fin 4096) (C : Fin 2048) :
    W5 m ρ c (Proc.devRef .tc main_v56) (ix2 T C) = A.proj A.Wv (seqOf T) (headOf C) (posOf T) (coordOf C) := by
  refine at_of (W5_arr m ρ c 2) ((region2_v (V4 m ρ) c (fun T => A.xn (seqOf T) (posOf T)) (fun T k => at_of keep_xn (left_xn H T k)) A.Wv
    (fun k j => at_of keep_wv (host_wv _ A.Wv H.Wv k j)) T C).trans ?_)
  unfold Ins.proj; rw [col_of]

/-- Region 3 leaves the heads' outputs. -/
theorem left_heads (hA : A.Finite) (T : Fin 4096) (C : Fin 2048) :
    W6 m ρ c (Proc.devRef .tc main_v57) (ix2 T C) = A.heads (seqOf T) (posOf T) C := by
  refine at_of (W6_arr m ρ c 3) ((region3_heads (V5 m ρ) c _ (left_q H) _ (left_k H) _ (left_v H) T C).trans ?_)
  rw [rowScore_eq hA, rowValue_eq]
  exact Ins.flash_head hA (seqOf T) (headOf C) (posOf T) (coordOf C) _
    (show T.val % 2048 < 512 * ((T.val % 2048 / 256 * 256 + 767) / 512) by omega) (by omega)

/-- Region 4 leaves the input plus attention. -/
theorem left_mid (hA : A.Finite) (T : Fin 4096) (d : Fin 2048) :
    W7 m ρ c (Proc.devRef .tc main_v58_0) (ix2 T d) = A.mid (seqOf T) (posOf T) d :=
  at_of (W7_arr m ρ c 5) (region4_mid (V6 m ρ) c (fun T => A.heads (seqOf T) (posOf T)) (left_heads H hA) A.Wo
    (fun k j => at_of keep_wo (host_wo _ A.Wo H.Wo k j)) (fun T => A.X (seqOf T) (posOf T)) (fun T k => at_of keep_x (rows H T k))
    (fun T => routed (A.X (seqOf T) (posOf T)) A.Wa A.ba) (fun T => at_of keep_skip (left_skip H T)) T d)

/-- Region 4 leaves that normalized. -/
theorem left_y (hA : A.Finite) (T : Fin 4096) (d : Fin 2048) :
    W7 m ρ c (Proc.devRef .tc main_v58_1) (ix2 T d) = A.y (seqOf T) (posOf T) d :=
  at_of (W7_arr m ρ c 6) (region4_y (V6 m ρ) c (fun T => A.heads (seqOf T) (posOf T)) (left_heads H hA) A.Wo
    (fun k j => at_of keep_wo (host_wo _ A.Wo H.Wo k j)) (fun T => A.X (seqOf T) (posOf T)) (fun T k => at_of keep_x (rows H T k))
    (fun T => routed (A.X (seqOf T) (posOf T)) A.Wa A.ba) (fun T => at_of keep_skip (left_skip H T)) A.L2
    (fun k => at_of keep_l2 (host_l2 _ A.L2 H.L2 k)) T d)

/-- Region 5 leaves the block's result. -/
theorem left_out (hA : A.Finite) (T : Fin 4096) (d : Fin 2048) :
    W8 m ρ c (Proc.devRef .tc main_v59) (ix2 T d) = A.out (seqOf T) (posOf T) d :=
  at_of (W8_arr m ρ c 6) (region5_out (V7 m ρ) c (fun T => A.y (seqOf T) (posOf T)) (left_y H hA)
    A.Wg (fun k j => at_of keep_wg (host_wg _ A.Wg H.Wg k j)) A.Wu (fun k j => at_of keep_wu (host_wu _ A.Wu H.Wu k j))
    A.Wd (fun k j => at_of keep_wd (host_wd _ A.Wd H.Wd k j)) (fun T => A.mid (seqOf T) (posOf T)) (left_mid H hA)
    (fun T => routed (A.X (seqOf T) (posOf T)) A.Wm A.bm) (fun T => at_of keep_skip_mlp (left_skip_mlp H T)) T d)

/-- The kernel's result, index by index. -/
theorem kernel_result (hA : A.Finite) (b : Fin 2) (s d : Fin 2048) :
    W9 m ρ c (Proc.devRef .tc main_v60) (ix3 b s d) = A.out b s d := by
  refine (host_out _ b s d).trans ((left_out H hA _ d).trans ?_)
  have hb : seqOf ⟨b.val * 2048 + s.val, by omega⟩ = b := Fin.ext (by show (b.val * 2048 + s.val) / 2048 = b.val; omega)
  have hs : posOf ⟨b.val * 2048 + s.val, by omega⟩ = s := Fin.ext (by show (b.val * 2048 + s.val) % 2048 = s.val; omega)
  rw [hb, hs]

end

end Cert.KernelIdeal.Gen
-- ==== Proof.Value.Final.lean ====
module

public import proofs.«01_k».proof.Proof.Value.KerOut
public import proofs.«01_k».proof.Defs
public import Idealize.ShloMosaic.Lib.ReduceAll

/-!
The value claim: on arguments the precondition admits, the kernel and the reference end with the same block.
-/

@[expose] public section

set_option maxRecDepth 16384

noncomputable section

/-! ## The precondition -/

namespace Cert.Pre_inputs_ok.Gen

open Cert.Pre_inputs_ok Idealize.ShloMosaic

/-- The precondition's shape relations. -/
theorem facts : Facts where
  reducesTo_S2x2048_S_d0_1 := by decide
  h_S_ := by decide
  bcast_S_S2048 := by decide
  reducesTo_S2048_S_d0 := by decide
  bcast_S_S2048x2048 := by decide
  reducesTo_S2048x2048_S_d0_1 := by decide

theorem both_one : ∀ {a b : BitVec 1}, a &&& b = 1#1 → a = 1#1 ∧ b = 1#1 := by decide

/-- An extended real of size below infinity is a real. -/
theorem real_of_lt {x : EReal} (h : Ideal.cmp .olt (max x (-x)) (Ideal.ofBits .f32 0x7F800000#32) = 1#1) : ∃ r : ℝ, x = r := by
  have hi : (Ideal.ofBits .f32 0x7F800000#32 : EReal) = ⊤ := by simp [Ideal.ofBits, Ideal.ieee]
  rw [hi] at h
  have hlt : max x (-x) < ⊤ := by
    by_contra hn
    simp [Ideal.cmp, hn] at h
  refine Cert.Value.real_of_ne (fun e => ?_) (fun e => ?_)
  · rw [e] at hlt; simp at hlt
  · rw [e] at hlt; simp at hlt

instance : Subsingleton S_.Idx := ⟨fun a b => funext fun i => i.elim0⟩

/-- What the precondition says of the arrays it reads. -/
theorem of_fn (a0 : FVec Ideal S2x2048x2048 .f32) (a1 : IVec S2x2048 1) (a2 a3 : FVec Ideal S2048 .f32)
    (a4 a5 a6 a7 : FVec Ideal S2048x2048 .f32) (a8 a9 : FVec Ideal S2048x5632 .f32) (a10 : FVec Ideal S5632x2048 .f32)
    (a11 : FVec Ideal S2048x2 .f32) (a12 : FVec Ideal S2 .f32) (a13 : FVec Ideal S2048x2 .f32) (a14 : FVec Ideal S2 .f32)
    (h : letI := facts; fn (F := Ideal) a0 a1 a2 a3 a4 a5 a6 a7 a8 a9 a10 a11 a12 a13 a14 = fun _ => 1#1) :
    (∀ i, a1 i = 1#1) ∧ (∀ i, ∃ r : ℝ, (a2 i : EReal) = r) ∧ (∀ i, ∃ r : ℝ, (a4 i : EReal) = r)
      ∧ ∀ i, ∃ r : ℝ, (a5 i : EReal) = r := by
  have h' := congrFun h ix0
  dsimp only [fn] at h'
  obtain ⟨h', h5⟩ := both_one h'
  obtain ⟨h', h4⟩ := both_one h'
  obtain ⟨h1, h2⟩ := both_one h'
  exact ⟨fun i => Host.reduce_andi_all _ _ _ _ _ h1 i, fun i => real_of_lt (Host.reduce_andi_all _ _ _ _ _ h2 i),
    fun i => real_of_lt (Host.reduce_andi_all _ _ _ _ _ h4 i), fun i => real_of_lt (Host.reduce_andi_all _ _ _ _ _ h5 i)⟩

end Cert.Pre_inputs_ok.Gen

/-! ## The arguments, and the two results -/

namespace Cert.KernelIdeal.Gen

open Cert.KernelIdeal Idealize.ShloMosaic Idealize.ShloMosaic.TcCoe Idealize.SL.Sem
open Cert.Value

/-- The arguments a memory holds on a device. -/
def insOf (m : (ℓ : Loc nD τ sig) → Buf (Elt Ideal) ℓ) (c : Dev nD) : Ins :=
  { X := fun b s d => m ((c : Thread nD τ).loc main_arg0) (ix3 b s d),
    L1 := fun d => m ((c : Thread nD τ).loc main_arg2) (ix1 d),
    L2 := fun d => m ((c : Thread nD τ).loc main_arg3) (ix1 d),
    Wq := fun k d => m ((c : Thread nD τ).loc main_arg4) (ix2 k d),
    Wk := fun k d => m ((c : Thread nD τ).loc main_arg5) (ix2 k d),
    Wv := fun k d => m ((c : Thread nD τ).loc main_arg6) (ix2 k d),
    Wo := fun k d => m ((c : Thread nD τ).loc main_arg7) (ix2 k d),
    Wg := fun k d => m ((c : Thread nD τ).loc main_arg8) (ix2 k d),
    Wu := fun k d => m ((c : Thread nD τ).loc main_arg9) (ix2 k d),
    Wd := fun k d => m ((c : Thread nD τ).loc main_arg10) (ix2 k d),
    Wa := fun k d => m ((c : Thread nD τ).loc main_arg11) (ix2 k d),
    ba := fun d => m ((c : Thread nD τ).loc main_arg12) (ix1 d),
    Wm := fun k d => m ((c : Thread nD τ).loc main_arg13) (ix2 k d),
    bm := fun d => m ((c : Thread nD τ).loc main_arg14) (ix1 d) }

theorem holds_insOf (m : (ℓ : Loc nD τ sig) → Buf (Elt Ideal) ℓ) (ρ : Dev nD → PrngReg) (c : Dev nD) :
    Holds (W0 m ρ c) (insOf m c) :=
  ⟨fun _ _ _ => rfl, fun _ => rfl, fun _ => rfl, fun _ _ => rfl, fun _ _ => rfl, fun _ _ => rfl, fun _ _ => rfl, fun _ _ => rfl, fun _ _ => rfl, fun _ _ => rfl, fun _ _ => rfl, fun _ => rfl, fun _ _ => rfl, fun _ => rfl⟩

end Cert.KernelIdeal.Gen

namespace Cert.Value

open Idealize.ShloMosaic Idealize.ShloMosaic.TcCoe Idealize.SL.Sem

/-- The kernel and the reference compute the same block. -/
theorem same_result : letI := Cert.Pre_inputs_ok.Gen.facts
    Cert.algebraic_KernelIdeal_ReferenceIdeal_pre_inputs_ok (hKernelIdeal := Cert.KernelIdeal.Gen.facts)
      (hReferenceIdeal := Cert.ReferenceIdeal.Gen.facts) := by
  intro m g m' g' hpre hargs
  refine ⟨fun c => Cert.KernelIdeal.Gen.W9 m g c (Proc.devRef .tc Cert.KernelIdeal.main_v60), ?_, ?_⟩
  · refine (θ_run _ _ _).mono (fun r h c => ⟨h.1 c _ (Cert.KernelIdeal.Gen.mem_uc Cert.KernelIdeal.main_v60 (by decide)),
      (h.1 c _ (Cert.KernelIdeal.Gen.mem_uc Cert.KernelIdeal.main_arg0 (by decide))).trans (Cert.KernelIdeal.Gen.W9_args m g c Cert.KernelIdeal.main_arg0 (by decide)),
      (h.1 c _ (Cert.KernelIdeal.Gen.mem_uc Cert.KernelIdeal.main_arg1 (by decide))).trans (Cert.KernelIdeal.Gen.W9_args m g c Cert.KernelIdeal.main_arg1 (by decide)),
      (h.1 c _ (Cert.KernelIdeal.Gen.mem_uc Cert.KernelIdeal.main_arg2 (by decide))).trans (Cert.KernelIdeal.Gen.W9_args m g c Cert.KernelIdeal.main_arg2 (by decide)),
      (h.1 c _ (Cert.KernelIdeal.Gen.mem_uc Cert.KernelIdeal.main_arg3 (by decide))).trans (Cert.KernelIdeal.Gen.W9_args m g c Cert.KernelIdeal.main_arg3 (by decide)),
      (h.1 c _ (Cert.KernelIdeal.Gen.mem_uc Cert.KernelIdeal.main_arg4 (by decide))).trans (Cert.KernelIdeal.Gen.W9_args m g c Cert.KernelIdeal.main_arg4 (by decide)),
      (h.1 c _ (Cert.KernelIdeal.Gen.mem_uc Cert.KernelIdeal.main_arg5 (by decide))).trans (Cert.KernelIdeal.Gen.W9_args m g c Cert.KernelIdeal.main_arg5 (by decide)),
      (h.1 c _ (Cert.KernelIdeal.Gen.mem_uc Cert.KernelIdeal.main_arg6 (by decide))).trans (Cert.KernelIdeal.Gen.W9_args m g c Cert.KernelIdeal.main_arg6 (by decide)),
      (h.1 c _ (Cert.KernelIdeal.Gen.mem_uc Cert.KernelIdeal.main_arg7 (by decide))).trans (Cert.KernelIdeal.Gen.W9_args m g c Cert.KernelIdeal.main_arg7 (by decide)),
      (h.1 c _ (Cert.KernelIdeal.Gen.mem_uc Cert.KernelIdeal.main_arg8 (by decide))).trans (Cert.KernelIdeal.Gen.W9_args m g c Cert.KernelIdeal.main_arg8 (by decide)),
      (h.1 c _ (Cert.KernelIdeal.Gen.mem_uc Cert.KernelIdeal.main_arg9 (by decide))).trans (Cert.KernelIdeal.Gen.W9_args m g c Cert.KernelIdeal.main_arg9 (by decide)),
      (h.1 c _ (Cert.KernelIdeal.Gen.mem_uc Cert.KernelIdeal.main_arg10 (by decide))).trans (Cert.KernelIdeal.Gen.W9_args m g c Cert.KernelIdeal.main_arg10 (by decide)),
      (h.1 c _ (Cert.KernelIdeal.Gen.mem_uc Cert.KernelIdeal.main_arg11 (by decide))).trans (Cert.KernelIdeal.Gen.W9_args m g c Cert.KernelIdeal.main_arg11 (by decide)),
      (h.1 c _ (Cert.KernelIdeal.Gen.mem_uc Cert.KernelIdeal.main_arg12 (by decide))).trans (Cert.KernelIdeal.Gen.W9_args m g c Cert.KernelIdeal.main_arg12 (by decide)),
      (h.1 c _ (Cert.KernelIdeal.Gen.mem_uc Cert.KernelIdeal.main_arg13 (by decide))).trans (Cert.KernelIdeal.Gen.W9_args m g c Cert.KernelIdeal.main_arg13 (by decide)),
      (h.1 c _ (Cert.KernelIdeal.Gen.mem_uc Cert.KernelIdeal.main_arg14 (by decide))).trans (Cert.KernelIdeal.Gen.W9_args m g c Cert.KernelIdeal.main_arg14 (by decide))⟩) (Cert.KernelIdeal.Gen.run_all m g)
  · refine (θ_run _ _ _).mono (fun r h c => ⟨(h c Cert.ReferenceIdeal.main_v129).trans ?_,
      (h c Cert.ReferenceIdeal.main_arg0).trans (Cert.ReferenceIdeal.Gen.U13_args _ _ (by decide)),
      (h c Cert.ReferenceIdeal.main_arg1).trans (Cert.ReferenceIdeal.Gen.U13_args _ _ (by decide)),
      (h c Cert.ReferenceIdeal.main_arg2).trans (Cert.ReferenceIdeal.Gen.U13_args _ _ (by decide)),
      (h c Cert.ReferenceIdeal.main_arg3).trans (Cert.ReferenceIdeal.Gen.U13_args _ _ (by decide)),
      (h c Cert.ReferenceIdeal.main_arg4).trans (Cert.ReferenceIdeal.Gen.U13_args _ _ (by decide)),
      (h c Cert.ReferenceIdeal.main_arg5).trans (Cert.ReferenceIdeal.Gen.U13_args _ _ (by decide)),
      (h c Cert.ReferenceIdeal.main_arg6).trans (Cert.ReferenceIdeal.Gen.U13_args _ _ (by decide)),
      (h c Cert.ReferenceIdeal.main_arg7).trans (Cert.ReferenceIdeal.Gen.U13_args _ _ (by decide)),
      (h c Cert.ReferenceIdeal.main_arg8).trans (Cert.ReferenceIdeal.Gen.U13_args _ _ (by decide)),
      (h c Cert.ReferenceIdeal.main_arg9).trans (Cert.ReferenceIdeal.Gen.U13_args _ _ (by decide)),
      (h c Cert.ReferenceIdeal.main_arg10).trans (Cert.ReferenceIdeal.Gen.U13_args _ _ (by decide)),
      (h c Cert.ReferenceIdeal.main_arg11).trans (Cert.ReferenceIdeal.Gen.U13_args _ _ (by decide)),
      (h c Cert.ReferenceIdeal.main_arg12).trans (Cert.ReferenceIdeal.Gen.U13_args _ _ (by decide)),
      (h c Cert.ReferenceIdeal.main_arg13).trans (Cert.ReferenceIdeal.Gen.U13_args _ _ (by decide)),
      (h c Cert.ReferenceIdeal.main_arg14).trans (Cert.ReferenceIdeal.Gen.U13_args _ _ (by decide))⟩) (Cert.ReferenceIdeal.Gen.run_ref m' g')
    obtain ⟨h0, h1, h2, h3, h4, h5, h6, h7, h8, h9, h10, h11, h12, h13, h14⟩ := hargs c
    obtain ⟨hm, h2', h4', h5'⟩ := Cert.Pre_inputs_ok.Gen.of_fn _ _ _ _ _ _ _ _ _ _ _ _ _ _ _ (hpre c)
    have hA : (Cert.KernelIdeal.Gen.insOf m c).Finite := ⟨fun d => h2' (ix1 d), fun k d => h4' (ix2 k d), fun k d => h5' (ix2 k d)⟩
    have HR : Cert.ReferenceIdeal.Gen.Holds (StableHlo.launchContents m' c) (Cert.KernelIdeal.Gen.insOf m c) := ⟨fun b s d => congrFun h0 (ix3 b s d),
    fun b s => (congrFun h1 (ix2 b s)).trans (hm (ix2 b s)),
    fun d => congrFun h2 (ix1 d),
    fun d => congrFun h3 (ix1 d),
    fun k d => congrFun h4 (ix2 k d),
    fun k d => congrFun h5 (ix2 k d),
    fun k d => congrFun h6 (ix2 k d),
    fun k d => congrFun h7 (ix2 k d),
    fun k d => congrFun h8 (ix2 k d),
    fun k d => congrFun h9 (ix2 k d),
    fun k d => congrFun h10 (ix2 k d),
    fun k d => congrFun h11 (ix2 k d),
    fun d => congrFun h12 (ix1 d),
    fun k d => congrFun h13 (ix2 k d),
    fun d => congrFun h14 (ix1 d)⟩
    funext j
    rw [eq_ix3 j]
    exact (Cert.ReferenceIdeal.Gen.result HR _ _ _).trans
      (Cert.KernelIdeal.Gen.kernel_result (Cert.KernelIdeal.Gen.holds_insOf m g c) hA _ _ _).symm

end Cert.Value
-- ==== Proof.lean ====
/- The proof of this certificate's claim: each program's run theorem, weakened to the claims, and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits.Run
public import proofs.«01_k».proof.Proof.Ideal.Run
public import proofs.«01_k».proof.Proof.Value.RefRun
public import proofs.«01_k».proof.Proof.Value.Final

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_inputs_ok.Gen.facts, by
  exact ⟨fun m g _ => Cert.Kernel.Gen.run_args m g, fun m g _ => Cert.KernelIdeal.Gen.run_args m g,
    fun m g _ => Cert.KernelIdeal.Gen.run_args m g, fun m g _ => Cert.ReferenceIdeal.Gen.run_ref_args m g,
    fun m g _ => Cert.ReferenceIdeal.Gen.run_ref_args m g,
    IdealRules.named_const.statement Cert.KernelIdeal.κ "mask" .f32 0xF149F2CA#32 ⊥ rfl, Cert.Value.same_result⟩⟩

end Cert.Proof
